-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v49)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v49)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v48)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v25_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v166) = v0 c
          ∧ r.2.mem ((c.tc : Thread Cert.Reference5Ideal.nD Cert.Reference5Ideal.τ).loc Cert.Reference5Ideal.main_v177) = v1 c
          ∧ r.2.mem ((c.tc : Thread Cert.Reference5Ideal.nD Cert.Reference5Ideal.τ).loc Cert.Reference5Ideal.main_v185) = v2 c
          ∧ r.2.mem ((c.tc : Thread Cert.Reference5Ideal.nD Cert.Reference5Ideal.τ).loc Cert.Reference5Ideal.main_v193) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16x2048x1024 : Shape := ⟨3, ![16, 2048, 1024]⟩
abbrev S16x4096x1024 : Shape := ⟨3, ![16, 4096, 1024]⟩
abbrev S1024 : Shape := ⟨1, ![1024]⟩
abbrev S1024x5120 : Shape := ⟨2, ![1024, 5120]⟩
abbrev S4x128x128 : Shape := ⟨3, ![4, 128, 128]⟩
abbrev S4x128 : Shape := ⟨2, ![4, 128]⟩
abbrev S16x16x128x1024 : Shape := ⟨4, ![16, 16, 128, 1024]⟩
abbrev S1024x16x16x128 : Shape := ⟨4, ![1024, 16, 16, 128]⟩
abbrev S1024x32768 : Shape := ⟨2, ![1024, 32768]⟩
abbrev S16x32x128x1024 : Shape := ⟨4, ![16, 32, 128, 1024]⟩
abbrev S1024x32x16x128 : Shape := ⟨4, ![1024, 32, 16, 128]⟩
abbrev S1024x65536 : Shape := ⟨2, ![1024, 65536]⟩
abbrev S1024x98304 : Shape := ⟨2, ![1024, 98304]⟩
abbrev S1024x1 : Shape := ⟨2, ![1024, 1]⟩
abbrev S5120x1024 : Shape := ⟨2, ![5120, 1024]⟩
abbrev S1x128x128 : Shape := ⟨3, ![1, 128, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S2x1x256 : Shape := ⟨3, ![2, 1, 256]⟩
abbrev S128x6144x128 : Shape := ⟨3, ![128, 6144, 128]⟩
abbrev S1024x512 : Shape := ⟨2, ![1024, 512]⟩
abbrev S128x32x128 : Shape := ⟨3, ![128, 32, 128]⟩
abbrev S512 : Shape := ⟨1, ![512]⟩
abbrev S1x512 : Shape := ⟨2, ![1, 512]⟩
abbrev S1024x1024 : Shape := ⟨2, ![1024, 1024]⟩
abbrev S8x128 : Shape := ⟨2, ![8, 128]⟩
abbrev S1x8x128 : Shape := ⟨3, ![1, 8, 128]⟩
abbrev S256x512 : Shape := ⟨2, ![256, 512]⟩
abbrev S256x128 : Shape := ⟨2, ![256, 128]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 47
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S1024, .f32⟩
  | .hbm, ⟨3, _⟩ => ⟨S1024x5120, .f32⟩
  | .hbm, ⟨4, _⟩ => ⟨S1024, .f32⟩
  | .hbm, ⟨5, _⟩ => ⟨S1024, .f32⟩
  | .hbm, ⟨6, _⟩ => ⟨S4x128x128, .f32⟩
  | .hbm, ⟨7, _⟩ => ⟨S4x128, .f32⟩
  | .hbm, ⟨8, _⟩ => ⟨S16x16x128x1024, .f32⟩
  | .hbm, ⟨9, _⟩ => ⟨S1024x16x16x128, .f32⟩
  | .hbm, ⟨10, _⟩ => ⟨S1024x32768, .f32⟩
  | .hbm, ⟨11, _⟩ => ⟨S16x32x128x1024, .f32⟩
  | .hbm, ⟨12, _⟩ => ⟨S1024x32x16x128, .f32⟩
  | .hbm, ⟨13, _⟩ => ⟨S1024x65536, .f32⟩
  | .hbm, ⟨14, _⟩ => ⟨S1024x98304, .f32⟩
  | .hbm, ⟨15, _⟩ => ⟨S1024x1, .f32⟩
  | .hbm, ⟨16, _⟩ => ⟨S5120x1024, .f32⟩
  | .hbm, ⟨17, _⟩ => ⟨S5120x1024, .bf16⟩
  | .hbm, ⟨18, _⟩ => ⟨S1024x1, .f32⟩
  | .hbm, ⟨19, _⟩ => ⟨S1024x1, .f32⟩
  | .hbm, ⟨20, _⟩ => ⟨S4x128x128, .f32⟩
  | .hbm, ⟨21, _⟩ => ⟨S1x128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S256x256, .f32⟩
  | .hbm, ⟨32, _⟩ => ⟨S1x128x128, .f32⟩
  | .hbm, ⟨33, _⟩ => ⟨S128x128, .f32⟩
  | .hbm, ⟨34, _⟩ => ⟨S1x128x128, .f32⟩
  | .hbm, ⟨35, _⟩ => ⟨S128x128, .f32⟩
  | .hbm, ⟨36, _⟩ => ⟨S128x256, .f32⟩
  | .hbm, ⟨37, _⟩ => ⟨S128x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S2x256x256, .f32⟩
  | .hbm, ⟨42, _⟩ => ⟨S2x256x256, .bf16⟩
  | .hbm, ⟨43, _⟩ => ⟨S2x1x256, .f32⟩
  | .hbm, ⟨44, _⟩ => ⟨S1024x98304, .bf16⟩
  | .hbm, ⟨45, _⟩ => ⟨S128x6144x128, .f32⟩
  | .hbm, ⟨46, _⟩ => ⟨S1024x98304, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S5120x1024, .bf16⟩
  | .local _ .vmem, ⟨4, _⟩ => ⟨S1024x1, .f32⟩
  | .local _ .vmem, ⟨5, _⟩ => ⟨S1024x1, .f32⟩
  | .local _ .vmem, ⟨6, _⟩ => ⟨S2x256x256, .bf16⟩
  | .local _ .vmem, ⟨7, _⟩ => ⟨S2x1x256, .f32⟩
  | .local _ .vmem, ⟨8, _⟩ => ⟨S1024x512, .bf16⟩
  | .local _ .vmem, ⟨9, _⟩ => ⟨S1024x512, .bf16⟩
  | .local _ .vmem, ⟨10, _⟩ => ⟨S128x32x128, .f32⟩
  | .local _ .vmem, ⟨11, _⟩ => ⟨S128x32x128, .f32⟩
  | .local _ .vmem, ⟨12, _⟩ => ⟨S1024x512, .f32⟩
  | .local _ .vmem, ⟨13, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_call1_v1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x2048x1024 : Shape := ⟨3, ![16, 2048, 1024]⟩
abbrev S16x4096x1024 : Shape := ⟨3, ![16, 4096, 1024]⟩
abbrev S1024 : Shape := ⟨1, ![1024]⟩
abbrev S1024x5120 : Shape := ⟨2, ![1024, 5120]⟩
abbrev S4x128x128 : Shape := ⟨3, ![4, 128, 128]⟩
abbrev S4x128 : Shape := ⟨2, ![4, 128]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5120 : Shape := ⟨3, ![16, 2048, 5120]⟩
abbrev S16x16x128x4x256 : Shape := ⟨5, ![16, 16, 128, 4, 256]⟩
abbrev S4x16x16x256x128 : Shape := ⟨5, ![4, 16, 16, 256, 128]⟩
abbrev S128x4 : Shape := ⟨2, ![128, 4]⟩
abbrev S1x1x128x4x1 : Shape := ⟨5, ![1, 1, 128, 4, 1]⟩
abbrev S16x4096 : Shape := ⟨2, ![16, 4096]⟩
abbrev S16x4096x1 : Shape := ⟨3, ![16, 4096, 1]⟩
abbrev S16x4096x5120 : Shape := ⟨3, ![16, 4096, 5120]⟩
abbrev S16x32x128x4x256 : Shape := ⟨5, ![16, 32, 128, 4, 256]⟩
abbrev S4x16x32x256x128 : Shape := ⟨5, ![4, 16, 32, 256, 128]⟩
abbrev S16x16x128x1024 : Shape := ⟨4, ![16, 16, 128, 1024]⟩
abbrev S32768x1024 : Shape := ⟨2, ![32768, 1024]⟩
abbrev S16x32x128x1024 : Shape := ⟨4, ![16, 32, 128, 1024]⟩
abbrev S32x16x128x1024 : Shape := ⟨4, ![32, 16, 128, 1024]⟩
abbrev S65536x1024 : Shape := ⟨2, ![65536, 1024]⟩
abbrev S98304x1024 : Shape := ⟨2, ![98304, 1024]⟩
abbrev S1024x98304 : Shape := ⟨2, ![1024, 98304]⟩
abbrev S128x8x768x128 : Shape := ⟨4, ![128, 8, 768, 128]⟩
abbrev S128x768x8x128 : Shape := ⟨4, ![128, 768, 8, 128]⟩
abbrev S128x6144x128 : Shape := ⟨3, ![128, 6144, 128]⟩

abbrev nBuf : Space → Nat
  | .hbm => 258
  | .vmem => 0
  | .smem => 0
  | _ => 0

abbrev hbmTy0_0 (i : Nat) : BufTy := match i % 128 with
  | 0 => ⟨S16x2048x1024, .f32⟩
  | 1 => ⟨S16x4096x1024, .f32⟩
  | 2 => ⟨S1024, .f32⟩
  | 3 => ⟨S1024x5120, .f32⟩
  | 4 => ⟨S1024, .f32⟩
  | 5 => ⟨S1024, .f32⟩
  | 6 => ⟨S4x128x128, .f32⟩
  | 7 => ⟨S4x128, .f32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x5120, .f32⟩
  | 25 => ⟨S16x2048x1024, .f32⟩
  | 26 => ⟨S16x2048x1024, .f32⟩
  | 27 => ⟨S16x2048x1024, .f32⟩
  | 28 => ⟨S16x2048x1024, .f32⟩
  | 29 => ⟨S16x2048x1024, .f32⟩
  | 30 => ⟨S16x2048x1024, .f32⟩
  | 31 => ⟨S16x2048x1024, .f32⟩
  | 32 => ⟨S_, .f32⟩
  | 33 => ⟨S16x2048x1024, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S16x2048x1024, .f32⟩
  | 40 => ⟨S_, .f32⟩
  | 41 => ⟨S16x2048x1024, .f32⟩
  | 42 => ⟨S16x2048x1024, .f32⟩
  | 43 => ⟨S_, .f32⟩
  | 44 => ⟨S16x2048x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S_, .f32⟩
  | 50 => ⟨S16x2048x1024, .f32⟩
  | 51 => ⟨S16x2048x1024, .f32⟩
  | 52 => ⟨S16x2048x1024, .f32⟩
  | 53 => ⟨S_, .f32⟩
  | 54 => ⟨S16x2048x1024, .f32⟩
  | 55 => ⟨S16x2048x1024, .f32⟩
  | 56 => ⟨S16x2048x1024, .f32⟩
  | 57 => ⟨S_, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S16x2048x1024, .f32⟩
  | 64 => ⟨S_, .f32⟩
  | 65 => ⟨S16x2048, .f32⟩
  | 66 => ⟨S16x2048x1, .f32⟩
  | 67 => ⟨S_, .f32⟩
  | 68 => ⟨S16x2048x1, .f32⟩
  | 69 => ⟨S16x2048x1, .f32⟩
  | 70 => ⟨S16x2048x1024, .f32⟩
  | 71 => ⟨S16x2048x1024, .f32⟩
  | 72 => ⟨S16x2048x1024, .f32⟩
  | 73 => ⟨S_, .f32⟩
  | 74 => ⟨S16x2048, .f32⟩
  | 75 => ⟨S16x2048x1, .f32⟩
  | 76 => ⟨S_, .f32⟩
  | 77 => ⟨S16x2048x1, .f32⟩
  | 78 => ⟨S16x2048x1, .f32⟩
  | 79 => ⟨S_, .f32⟩
  | 80 => ⟨S16x2048x1, .f32⟩
  | 81 => ⟨S16x2048x1, .f32⟩
  | 82 => ⟨S16x2048x1, .f32⟩
  | 83 => ⟨S16x2048x1024, .f32⟩
  | 84 => ⟨S16x2048x1024, .f32⟩
  | 85 => ⟨S1x1x1024, .f32⟩
  | 86 => ⟨S16x2048x1024, .f32⟩
  | 87 => ⟨S16x2048x1024, .f32⟩
  | 88 => ⟨S1x1x1024, .f32⟩
  | 89 => ⟨S16x2048x1024, .f32⟩
  | 90 => ⟨S16x2048x1024, .f32⟩
  | 91 => ⟨S16x16x128x4x256, .f32⟩
  | 92 => ⟨S4x16x16x256x128, .f32⟩
  | 93 => ⟨S16x16x128x4x256, .f32⟩
  | 94 => ⟨S128x4, .f32⟩
  | 95 => ⟨S1x1x128x4x1, .f32⟩
  | 96 => ⟨S16x16x128x4x256, .f32⟩
  | 97 => ⟨S16x16x128x4x256, .f32⟩
  | 98 => ⟨S16x2048x1024, .f32⟩
  | 99 => ⟨S16x2048x1024, .f32⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S_, .f32⟩
  | 113 => ⟨S16x2048x1024, .f32⟩
  | 114 => ⟨S16x2048x1024, .f32⟩
  | 115 => ⟨S_, .f32⟩
  | 116 => ⟨S16x2048x1024, .f32⟩
  | 117 => ⟨S16x2048x1024, .f32⟩
  | 118 => ⟨S16x2048x1024, .f32⟩
  | 119 => ⟨S16x4096x1024, .f32⟩
  | 120 => ⟨S_, .f32⟩
  | 121 => ⟨S16x4096, .f32⟩
  | 122 => ⟨S16x4096x1, .f32⟩
  | 123 => ⟨S_, .f32⟩
  | 124 => ⟨S16x4096x1, .f32⟩
  | 125 => ⟨S16x4096x1, .f32⟩
  | 126 => ⟨S_, .f32⟩
  | 127 => ⟨S16x4096x1, .f32⟩
  | _ => ⟨S16x2048x1024, .f32⟩

abbrev hbmTy0_1 (i : Nat) : BufTy := match i % 128 with
  | 0 => ⟨S16x4096x1, .f32⟩
  | 1 => ⟨S16x4096x1, .f32⟩
  | 2 => ⟨S16x4096x1024, .f32⟩
  | 3 => ⟨S16x4096x1024, .f32⟩
  | 4 => ⟨S1x1x1024, .f32⟩
  | 5 => ⟨S16x4096x1024, .f32⟩
  | 6 => ⟨S16x4096x1024, .f32⟩
  | 7 => ⟨S16x4096x5120, .f32⟩
  | 8 => ⟨S16x4096x1024, .f32⟩
  | 9 => ⟨S16x4096x1024, .f32⟩
  | 10 => ⟨S16x4096x1024, .f32⟩
  | 11 => ⟨S16x4096x1024, .f32⟩
  | 12 => ⟨S16x4096x1024, .f32⟩
  | 13 => ⟨S16x4096x1024, .f32⟩
  | 14 => ⟨S16x4096x1024, .f32⟩
  | 15 => ⟨S_, .f32⟩
  | 16 => ⟨S16x4096x1024, .f32⟩
  | 17 => ⟨S16x4096x1024, .f32⟩
  | 18 => ⟨S16x4096x1024, .f32⟩
  | 19 => ⟨S_, .f32⟩
  | 20 => ⟨S16x4096x1024, .f32⟩
  | 21 => ⟨S16x4096x1024, .f32⟩
  | 22 => ⟨S16x4096x1024, .f32⟩
  | 23 => ⟨S_, .f32⟩
  | 24 => ⟨S16x4096x1024, .f32⟩
  | 25 => ⟨S16x4096x1024, .f32⟩
  | 26 => ⟨S_, .f32⟩
  | 27 => ⟨S16x4096x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S_, .f32⟩
  | 33 => ⟨S16x4096x1024, .f32⟩
  | 34 => ⟨S16x4096x1024, .f32⟩
  | 35 => ⟨S16x4096x1024, .f32⟩
  | 36 => ⟨S_, .f32⟩
  | 37 => ⟨S16x4096x1024, .f32⟩
  | 38 => ⟨S16x4096x1024, .f32⟩
  | 39 => ⟨S16x4096x1024, .f32⟩
  | 40 => ⟨S_, .f32⟩
  | 41 => ⟨S16x4096x1024, .f32⟩
  | 42 => ⟨S16x4096x1024, .f32⟩
  | 43 => ⟨S_, .f32⟩
  | 44 => ⟨S16x4096x1024, .f32⟩
  | 45 => ⟨S16x4096x1024, .f32⟩
  | 46 => ⟨S16x4096x1024, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S16x4096x1024, .f32⟩
  | 54 => ⟨S16x4096x1024, .f32⟩
  | 55 => ⟨S16x4096x1024, .f32⟩
  | 56 => ⟨S_, .f32⟩
  | 57 => ⟨S16x4096, .f32⟩
  | 58 => ⟨S16x4096x1, .f32⟩
  | 59 => ⟨S_, .f32⟩
  | 60 => ⟨S16x4096x1, .f32⟩
  | 61 => ⟨S16x4096x1, .f32⟩
  | 62 => ⟨S_, .f32⟩
  | 63 => ⟨S16x4096x1, .f32⟩
  | 64 => ⟨S16x4096x1, .f32⟩
  | 65 => ⟨S16x4096x1, .f32⟩
  | 66 => ⟨S16x4096x1024, .f32⟩
  | 67 => ⟨S16x4096x1024, .f32⟩
  | 68 => ⟨S1x1x1024, .f32⟩
  | 69 => ⟨S16x4096x1024, .f32⟩
  | 70 => ⟨S16x4096x1024, .f32⟩
  | 71 => ⟨S1x1x1024, .f32⟩
  | 72 => ⟨S16x4096x1024, .f32⟩
  | 73 => ⟨S16x4096x1024, .f32⟩
  | 74 => ⟨S16x32x128x4x256, .f32⟩
  | 75 => ⟨S4x16x32x256x128, .f32⟩
  | 76 => ⟨S16x32x128x4x256, .f32⟩
  | 77 => ⟨S128x4, .f32⟩
  | 78 => ⟨S1x1x128x4x1, .f32⟩
  | 79 => ⟨S16x32x128x4x256, .f32⟩
  | 80 => ⟨S16x32x128x4x256, .f32⟩
  | 81 => ⟨S16x4096x1024, .f32⟩
  | 82 => ⟨S16x4096x1024, .f32⟩
  | 83 => ⟨S16x4096x1024, .f32⟩
  | 84 => ⟨S16x4096x1024, .f32⟩
  | 85 => ⟨S_, .f32⟩
  | 86 => ⟨S16x4096x1024, .f32⟩
  | 87 => ⟨S16x4096x1024, .f32⟩
  | 88 => ⟨S_, .f32⟩
  | 89 => ⟨S16x4096x1024, .f32⟩
  | 90 => ⟨S16x4096x1024, .f32⟩
  | 91 => ⟨S16x4096x1024, .f32⟩
  | 92 => ⟨S16x4096x1024, .f32⟩
  | 93 => ⟨S16x4096x1024, .f32⟩
  | 94 => ⟨S16x4096x1024, .f32⟩
  | 95 => ⟨S_, .f32⟩
  | 96 => ⟨S16x4096x1024, .f32⟩
  | 97 => ⟨S16x4096x1024, .f32⟩
  | 98 => ⟨S_, .f32⟩
  | 99 => ⟨S16x4096x1024, .f32⟩
  | 100 => ⟨S16x4096x1024, .f32⟩
  | 101 => ⟨S16x4096x1024, .f32⟩
  | 102 => ⟨S16x16x128x1024, .f32⟩
  | 103 => ⟨S16x16x128x1024, .f32⟩
  | 104 => ⟨S32768x1024, .f32⟩
  | 105 => ⟨S16x32x128x1024, .f32⟩
  | 106 => ⟨S32x16x128x1024, .f32⟩
  | 107 => ⟨S65536x1024, .f32⟩
  | 108 => ⟨S98304x1024, .f32⟩
  | 109 => ⟨S1024x98304, .f32⟩
  | 110 => ⟨S1024x98304, .bf16⟩
  | 111 => ⟨S16x16x128x1024, .f32⟩
  | 112 => ⟨S16x16x128x1024, .f32⟩
  | 113 => ⟨S32768x1024, .f32⟩
  | 114 => ⟨S16x32x128x1024, .f32⟩
  | 115 => ⟨S32x16x128x1024, .f32⟩
  | 116 => ⟨S65536x1024, .f32⟩
  | 117 => ⟨S98304x1024, .f32⟩
  | 118 => ⟨S1024x98304, .f32⟩
  | 119 => ⟨S128x8x768x128, .f32⟩
  | 120 => ⟨S128x768x8x128, .f32⟩
  | 121 => ⟨S128x6144x128, .f32⟩
  | 122 => ⟨S16x16x128x1024, .f32⟩
  | 123 => ⟨S16x16x128x1024, .f32⟩
  | 124 => ⟨S32768x1024, .f32⟩
  | 125 => ⟨S16x32x128x1024, .f32⟩
  | 126 => ⟨S32x16x128x1024, .f32⟩
  | 127 => ⟨S65536x1024, .f32⟩
  | _ => ⟨S16x2048x1024, .f32⟩

abbrev hbmTy0_2 (i : Nat) : BufTy := match i % 128 with
  | 0 => ⟨S98304x1024, .f32⟩
  | 1 => ⟨S1024x98304, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v76 : Ref sig .tc := ⟨.hbm, 108, rfl⟩
abbrev main_v77 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_v81 : Ref sig .tc := ⟨.hbm, 122, rfl⟩
abbrev main_cst_16 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_22 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_23 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_24 : Ref sig .tc := ⟨.hbm, 168, rfl⟩
abbrev main_v119 : Ref sig .tc := ⟨.hbm, 169, rfl⟩
abbrev main_v120 : Ref sig .tc := ⟨.hbm, 170, rfl⟩
abbrev main_cst_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_26 : Ref sig .tc := ⟨.hbm, 175, rfl⟩
abbrev main_v124 : Ref sig .tc := ⟨.hbm, 176, rfl⟩
abbrev main_v125 : Ref sig .tc := ⟨.hbm, 177, rfl⟩
abbrev main_cst_27 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_28 : Ref sig .tc := ⟨.hbm, 184, rfl⟩
abbrev main_v131 : Ref sig .tc := ⟨.hbm, 185, rfl⟩
abbrev main_v132 : Ref sig .tc := ⟨.hbm, 186, rfl⟩
abbrev main_cst_29 : Ref sig .tc := ⟨.hbm, 187, rfl⟩
abbrev main_v133 : Ref sig .tc := ⟨.hbm, 188, rfl⟩
abbrev main_v134 : Ref sig .tc := ⟨.hbm, 189, rfl⟩
abbrev main_cst_30 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_call2_v0 : Ref sig .tc := ⟨.hbm, 211, rfl⟩
abbrev main_call2_v1 : Ref sig .tc := ⟨.hbm, 212, rfl⟩
abbrev main_call2_cst : Ref sig .tc := ⟨.hbm, 213, rfl⟩
abbrev main_call2_v2 : Ref sig .tc := ⟨.hbm, 214, rfl⟩
abbrev main_call2_v3 : Ref sig .tc := ⟨.hbm, 215, rfl⟩
abbrev main_call2_cst_0 : Ref sig .tc := ⟨.hbm, 216, rfl⟩
abbrev main_call2_v4 : Ref sig .tc := ⟨.hbm, 217, rfl⟩
abbrev main_call2_v5 : Ref sig .tc := ⟨.hbm, 218, rfl⟩
abbrev main_v155 : Ref sig .tc := ⟨.hbm, 219, rfl⟩
abbrev main_v156 : Ref sig .tc := ⟨.hbm, 220, rfl⟩
abbrev main_call3_v0 : Ref sig .tc := ⟨.hbm, 221, rfl⟩
abbrev main_call3_v1 : Ref sig .tc := ⟨.hbm, 222, rfl⟩
abbrev main_call3_cst : Ref sig .tc := ⟨.hbm, 223, rfl⟩
abbrev main_call3_v2 : Ref sig .tc := ⟨.hbm, 224, rfl⟩
abbrev main_call3_v3 : Ref sig .tc := ⟨.hbm, 225, rfl⟩
abbrev main_call3_cst_0 : Ref sig .tc := ⟨.hbm, 226, rfl⟩
abbrev main_call3_v4 : Ref sig .tc := ⟨.hbm, 227, rfl⟩
abbrev main_call3_v5 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1024x1 : Shape := ⟨2, ![1024, 1]⟩
abbrev S1024x2048 : Shape := ⟨2, ![1024, 2048]⟩
abbrev S16x16x128x1024 : Shape := ⟨4, ![16, 16, 128, 1024]⟩
abbrev S1024x16x16x128 : Shape := ⟨4, ![1024, 16, 16, 128]⟩
abbrev S1024x32768 : Shape := ⟨2, ![1024, 32768]⟩
abbrev S16x32x128x1024 : Shape := ⟨4, ![16, 32, 128, 1024]⟩
abbrev S1024x32x16x128 : Shape := ⟨4, ![1024, 32, 16, 128]⟩
abbrev S1024x65536 : Shape := ⟨2, ![1024, 65536]⟩
abbrev S1024x98304 : Shape := ⟨2, ![1024, 98304]⟩
abbrev S128x8x768x128 : Shape := ⟨4, ![128, 8, 768, 128]⟩
abbrev S128x768x8x128 : Shape := ⟨4, ![128, 768, 8, 128]⟩
abbrev S128x6144x128 : Shape := ⟨3, ![128, 6144, 128]⟩
abbrev S1024x512 : Shape := ⟨2, ![1024, 512]⟩
abbrev S128x32x128 : Shape := ⟨3, ![128, 32, 128]⟩
abbrev S4x128x1024 : Shape := ⟨3, ![4, 128, 1024]⟩
abbrev S1x8x128 : Shape := ⟨3, ![1, 8, 128]⟩
abbrev S8x128 : Shape := ⟨2, ![8, 128]⟩
abbrev S8x512 : Shape := ⟨2, ![8, 512]⟩
abbrev S512 : Shape := ⟨1, ![512]⟩
abbrev S1x512 : Shape := ⟨2, ![1, 512]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 65
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S1024x1, .f32⟩
  | .hbm, ⟨16, _⟩ => ⟨S1024x1024, .f32⟩
  | .hbm, ⟨17, _⟩ => ⟨S1024x1024, .bf16⟩
  | .hbm, ⟨18, _⟩ => ⟨S1024x1, .f32⟩
  | .hbm, ⟨19, _⟩ => ⟨S1024x2048, .f32⟩
  | .hbm, ⟨20, _⟩ => ⟨S1024x2048, .bf16⟩
  | .hbm, ⟨21, _⟩ => ⟨S1024x1, .f32⟩
  | .hbm, ⟨22, _⟩ => ⟨S16x16x128x1024, .f32⟩
  | .hbm, ⟨23, _⟩ => ⟨S1024x16x16x128, .f32⟩
  | .hbm, ⟨24, _⟩ => ⟨S1024x32768, .f32⟩
  | .hbm, ⟨25, _⟩ => ⟨S16x32x128x1024, .f32⟩
  | .hbm, ⟨26, _⟩ => ⟨S1024x32x16x128, .f32⟩
  | .hbm, ⟨27, _⟩ => ⟨S1024x65536, .f32⟩
  | .hbm, ⟨28, _⟩ => ⟨S1024x98304, .f32⟩
  | .hbm, ⟨29, _⟩ => ⟨S16x16x128x1024, .f32⟩
  | .hbm, ⟨30, _⟩ => ⟨S1024x16x16x128, .f32⟩
  | .hbm, ⟨31, _⟩ => ⟨S1024x32768, .f32⟩
  | .hbm, ⟨32, _⟩ => ⟨S16x32x128x1024, .f32⟩
  | .hbm, ⟨33, _⟩ => ⟨S1024x32x16x128, .f32⟩
  | .hbm, ⟨34, _⟩ => ⟨S1024x65536, .f32⟩
  | .hbm, ⟨35, _⟩ => ⟨S1024x98304, .f32⟩
  | .hbm, ⟨36, _⟩ => ⟨S1024x98304, .bf16⟩
  | .hbm, ⟨37, _⟩ => ⟨S16x16x128x1024, .f32⟩
  | .hbm, ⟨38, _⟩ => ⟨S1024x16x16x128, .f32⟩
  | .hbm, ⟨39, _⟩ => ⟨S1024x32768, .f32⟩
  | .hbm, ⟨40, _⟩ => ⟨S16x32x128x1024, .f32⟩
  | .hbm, ⟨41, _⟩ => ⟨S1024x32x16x128, .f32⟩
  | .hbm, ⟨42, _⟩ => ⟨S1024x65536, .f32⟩
  | .hbm, ⟨43, _⟩ => ⟨S1024x98304, .f32⟩
  | .hbm, ⟨44, _⟩ => ⟨S128x8x768x128, .f32⟩
  | .hbm, ⟨45, _⟩ => ⟨S128x768x8x128, .f32⟩
  | .hbm, ⟨46, _⟩ => ⟨S128x6144x128, .f32⟩
  | .hbm, ⟨47, _⟩ => ⟨S16x16x128x1024, .f32⟩
  | .hbm, ⟨48, _⟩ => ⟨S1024x16x16x128, .f32⟩
  | .hbm, ⟨49, _⟩ => ⟨S1024x32768, .f32⟩
  | .hbm, ⟨50, _⟩ => ⟨S16x32x128x1024, .f32⟩
  | .hbm, ⟨51, _⟩ => ⟨S1024x32x16x128, .f32⟩
  | .hbm, ⟨52, _⟩ => ⟨S1024x65536, .f32⟩
  | .hbm, ⟨53, _⟩ => ⟨S1024x98304, .f32⟩
  | .hbm, ⟨54, _⟩ => ⟨S128x8x768x128, .f32⟩
  | .hbm, ⟨55, _⟩ => ⟨S128x768x8x128, .f32⟩
  | .hbm, ⟨56, _⟩ => ⟨S128x6144x128, .f32⟩
  | .hbm, ⟨57, _⟩ => ⟨S16x16x128x1024, .f32⟩
  | .hbm, ⟨58, _⟩ => ⟨S1024x16x16x128, .f32⟩
  | .hbm, ⟨59, _⟩ => ⟨S1024x32768, .f32⟩
  | .hbm, ⟨60, _⟩ => ⟨S16x32x128x1024, .f32⟩
  | .hbm, ⟨61, _⟩ => ⟨S1024x32x16x128, .f32⟩
  | .hbm, ⟨62, _⟩ => ⟨S1024x65536, .f32⟩
  | .hbm, ⟨63, _⟩ => ⟨S1024x98304, .f32⟩
  | .hbm, ⟨64, _⟩ => ⟨S16x4096x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S128x32x128, .f32⟩
  | .local _ .vmem, ⟨5, _⟩ => ⟨S128x32x128, .f32⟩
  | .local _ .vmem, ⟨6, _⟩ => ⟨S128x32x128, .f32⟩
  | .local _ .vmem, ⟨7, _⟩ => ⟨S128x32x128, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1024, .bf16⟩
  | .local _ .vmem, ⟨12, _⟩ => ⟨S1024x1, .f32⟩
  | .local _ .vmem, ⟨13, _⟩ => ⟨S1024x2048, .bf16⟩
  | .local _ .vmem, ⟨14, _⟩ => ⟨S1024x1, .f32⟩
  | .local _ .vmem, ⟨15, _⟩ => ⟨S4x128x1024, .f32⟩
  | .local _ .vmem, ⟨16, _⟩ => ⟨S4x128x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1x1x1024 : Shape := ⟨3, ![1, 1, 1024]⟩
abbrev S_ : Shape := ⟨0, ![]⟩
abbrev S16x4096x2048 : Shape := ⟨3, ![16, 4096, 2048]⟩
abbrev S16x4096 : Shape := ⟨2, ![16, 4096]⟩
abbrev S16x4096x1 : Shape := ⟨3, ![16, 4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S1x1x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S1x1x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x2048, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S1x1x1024, .f32⟩
  | .hbm, ⟨67, _⟩ => ⟨S16x4096x1024, .f32⟩
  | .hbm, ⟨68, _⟩ => ⟨S16x4096x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1024x1 : Shape := ⟨2, ![1024, 1]⟩
abbrev S1024x2048 : Shape := ⟨2, ![1024, 2048]⟩
abbrev S16x16x128x1024 : Shape := ⟨4, ![16, 16, 128, 1024]⟩
abbrev S1024x16x16x128 : Shape := ⟨4, ![1024, 16, 16, 128]⟩
abbrev S1024x32768 : Shape := ⟨2, ![1024, 32768]⟩
abbrev S16x32x128x1024 : Shape := ⟨4, ![16, 32, 128, 1024]⟩
abbrev S1024x32x16x128 : Shape := ⟨4, ![1024, 32, 16, 128]⟩
abbrev S1024x65536 : Shape := ⟨2, ![1024, 65536]⟩
abbrev S1024x98304 : Shape := ⟨2, ![1024, 98304]⟩
abbrev S128x8x768x128 : Shape := ⟨4, ![128, 8, 768, 128]⟩
abbrev S128x768x8x128 : Shape := ⟨4, ![128, 768, 8, 128]⟩
abbrev S128x6144x128 : Shape := ⟨3, ![128, 6144, 128]⟩
abbrev S1024x512 : Shape := ⟨2, ![1024, 512]⟩
abbrev S128x32x128 : Shape := ⟨3, ![128, 32, 128]⟩
abbrev S4x128x1024 : Shape := ⟨3, ![4, 128, 1024]⟩
abbrev S1x8x128 : Shape := ⟨3, ![1, 8, 128]⟩
abbrev S8x128 : Shape := ⟨2, ![8, 128]⟩
abbrev S8x512 : Shape := ⟨2, ![8, 512]⟩
abbrev S512 : Shape := ⟨1, ![512]⟩
abbrev S1x512 : Shape := ⟨2, ![1, 512]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 65
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S1024x1, .f32⟩
  | .hbm, ⟨16, _⟩ => ⟨S1024x1024, .f32⟩
  | .hbm, ⟨17, _⟩ => ⟨S1024x1024, .bf16⟩
  | .hbm, ⟨18, _⟩ => ⟨S1024x1, .f32⟩
  | .hbm, ⟨19, _⟩ => ⟨S1024x2048, .f32⟩
  | .hbm, ⟨20, _⟩ => ⟨S1024x2048, .bf16⟩
  | .hbm, ⟨21, _⟩ => ⟨S1024x1, .f32⟩
  | .hbm, ⟨22, _⟩ => ⟨S16x16x128x1024, .f32⟩
  | .hbm, ⟨23, _⟩ => ⟨S1024x16x16x128, .f32⟩
  | .hbm, ⟨24, _⟩ => ⟨S1024x32768, .f32⟩
  | .hbm, ⟨25, _⟩ => ⟨S16x32x128x1024, .f32⟩
  | .hbm, ⟨26, _⟩ => ⟨S1024x32x16x128, .f32⟩
  | .hbm, ⟨27, _⟩ => ⟨S1024x65536, .f32⟩
  | .hbm, ⟨28, _⟩ => ⟨S1024x98304, .f32⟩
  | .hbm, ⟨29, _⟩ => ⟨S16x16x128x1024, .f32⟩
  | .hbm, ⟨30, _⟩ => ⟨S1024x16x16x128, .f32⟩
  | .hbm, ⟨31, _⟩ => ⟨S1024x32768, .f32⟩
  | .hbm, ⟨32, _⟩ => ⟨S16x32x128x1024, .f32⟩
  | .hbm, ⟨33, _⟩ => ⟨S1024x32x16x128, .f32⟩
  | .hbm, ⟨34, _⟩ => ⟨S1024x65536, .f32⟩
  | .hbm, ⟨35, _⟩ => ⟨S1024x98304, .f32⟩
  | .hbm, ⟨36, _⟩ => ⟨S1024x98304, .bf16⟩
  | .hbm, ⟨37, _⟩ => ⟨S16x16x128x1024, .f32⟩
  | .hbm, ⟨38, _⟩ => ⟨S1024x16x16x128, .f32⟩
  | .hbm, ⟨39, _⟩ => ⟨S1024x32768, .f32⟩
  | .hbm, ⟨40, _⟩ => ⟨S16x32x128x1024, .f32⟩
  | .hbm, ⟨41, _⟩ => ⟨S1024x32x16x128, .f32⟩
  | .hbm, ⟨42, _⟩ => ⟨S1024x65536, .f32⟩
  | .hbm, ⟨43, _⟩ => ⟨S1024x98304, .f32⟩
  | .hbm, ⟨44, _⟩ => ⟨S128x8x768x128, .f32⟩
  | .hbm, ⟨45, _⟩ => ⟨S128x768x8x128, .f32⟩
  | .hbm, ⟨46, _⟩ => ⟨S128x6144x128, .f32⟩
  | .hbm, ⟨47, _⟩ => ⟨S16x16x128x1024, .f32⟩
  | .hbm, ⟨48, _⟩ => ⟨S1024x16x16x128, .f32⟩
  | .hbm, ⟨49, _⟩ => ⟨S1024x32768, .f32⟩
  | .hbm, ⟨50, _⟩ => ⟨S16x32x128x1024, .f32⟩
  | .hbm, ⟨51, _⟩ => ⟨S1024x32x16x128, .f32⟩
  | .hbm, ⟨52, _⟩ => ⟨S1024x65536, .f32⟩
  | .hbm, ⟨53, _⟩ => ⟨S1024x98304, .f32⟩
  | .hbm, ⟨54, _⟩ => ⟨S128x8x768x128, .f32⟩
  | .hbm, ⟨55, _⟩ => ⟨S128x768x8x128, .f32⟩
  | .hbm, ⟨56, _⟩ => ⟨S128x6144x128, .f32⟩
  | .hbm, ⟨57, _⟩ => ⟨S16x16x128x1024, .f32⟩
  | .hbm, ⟨58, _⟩ => ⟨S1024x16x16x128, .f32⟩
  | .hbm, ⟨59, _⟩ => ⟨S1024x32768, .f32⟩
  | .hbm, ⟨60, _⟩ => ⟨S16x32x128x1024, .f32⟩
  | .hbm, ⟨61, _⟩ => ⟨S1024x32x16x128, .f32⟩
  | .hbm, ⟨62, _⟩ => ⟨S1024x65536, .f32⟩
  | .hbm, ⟨63, _⟩ => ⟨S1024x98304, .f32⟩
  | .hbm, ⟨64, _⟩ => ⟨S16x2048x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S128x32x128, .f32⟩
  | .local _ .vmem, ⟨5, _⟩ => ⟨S128x32x128, .f32⟩
  | .local _ .vmem, ⟨6, _⟩ => ⟨S128x32x128, .f32⟩
  | .local _ .vmem, ⟨7, _⟩ => ⟨S128x32x128, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1024, .bf16⟩
  | .local _ .vmem, ⟨12, _⟩ => ⟨S1024x1, .f32⟩
  | .local _ .vmem, ⟨13, _⟩ => ⟨S1024x2048, .bf16⟩
  | .local _ .vmem, ⟨14, _⟩ => ⟨S1024x1, .f32⟩
  | .local _ .vmem, ⟨15, _⟩ => ⟨S4x128x1024, .f32⟩
  | .local _ .vmem, ⟨16, _⟩ => ⟨S4x128x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1x1x1024 : Shape := ⟨3, ![1, 1, 1024]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S1x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x2048, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1024x1 : Shape := ⟨2, ![1024, 1]⟩
abbrev S1024x2048 : Shape := ⟨2, ![1024, 2048]⟩
abbrev S16x16x128x1024 : Shape := ⟨4, ![16, 16, 128, 1024]⟩
abbrev S1024x16x16x128 : Shape := ⟨4, ![1024, 16, 16, 128]⟩
abbrev S1024x32768 : Shape := ⟨2, ![1024, 32768]⟩
abbrev S16x32x128x1024 : Shape := ⟨4, ![16, 32, 128, 1024]⟩
abbrev S1024x32x16x128 : Shape := ⟨4, ![1024, 32, 16, 128]⟩
abbrev S1024x65536 : Shape := ⟨2, ![1024, 65536]⟩
abbrev S1024x98304 : Shape := ⟨2, ![1024, 98304]⟩
abbrev S128x8x768x128 : Shape := ⟨4, ![128, 8, 768, 128]⟩
abbrev S128x768x8x128 : Shape := ⟨4, ![128, 768, 8, 128]⟩
abbrev S128x6144x128 : Shape := ⟨3, ![128, 6144, 128]⟩
abbrev S1024x512 : Shape := ⟨2, ![1024, 512]⟩
abbrev S128x32x128 : Shape := ⟨3, ![128, 32, 128]⟩
abbrev S1x8x128 : Shape := ⟨3, ![1, 8, 128]⟩
abbrev S8x128 : Shape := ⟨2, ![8, 128]⟩
abbrev S8x512 : Shape := ⟨2, ![8, 512]⟩

abbrev nBuf : Space → Nat
  | .hbm => 63
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1024x1, .f32⟩
  | .hbm, ⟨15, _⟩ => ⟨S1024x1024, .f32⟩
  | .hbm, ⟨16, _⟩ => ⟨S1024x1024, .bf16⟩
  | .hbm, ⟨17, _⟩ => ⟨S1024x1, .f32⟩
  | .hbm, ⟨18, _⟩ => ⟨S1024x2048, .f32⟩
  | .hbm, ⟨19, _⟩ => ⟨S1024x2048, .bf16⟩
  | .hbm, ⟨20, _⟩ => ⟨S16x16x128x1024, .f32⟩
  | .hbm, ⟨21, _⟩ => ⟨S1024x16x16x128, .f32⟩
  | .hbm, ⟨22, _⟩ => ⟨S1024x32768, .f32⟩
  | .hbm, ⟨23, _⟩ => ⟨S16x32x128x1024, .f32⟩
  | .hbm, ⟨24, _⟩ => ⟨S1024x32x16x128, .f32⟩
  | .hbm, ⟨25, _⟩ => ⟨S1024x65536, .f32⟩
  | .hbm, ⟨26, _⟩ => ⟨S1024x98304, .f32⟩
  | .hbm, ⟨27, _⟩ => ⟨S16x16x128x1024, .f32⟩
  | .hbm, ⟨28, _⟩ => ⟨S1024x16x16x128, .f32⟩
  | .hbm, ⟨29, _⟩ => ⟨S1024x32768, .f32⟩
  | .hbm, ⟨30, _⟩ => ⟨S16x32x128x1024, .f32⟩
  | .hbm, ⟨31, _⟩ => ⟨S1024x32x16x128, .f32⟩
  | .hbm, ⟨32, _⟩ => ⟨S1024x65536, .f32⟩
  | .hbm, ⟨33, _⟩ => ⟨S1024x98304, .f32⟩
  | .hbm, ⟨34, _⟩ => ⟨S1024x98304, .bf16⟩
  | .hbm, ⟨35, _⟩ => ⟨S16x16x128x1024, .f32⟩
  | .hbm, ⟨36, _⟩ => ⟨S1024x16x16x128, .f32⟩
  | .hbm, ⟨37, _⟩ => ⟨S1024x32768, .f32⟩
  | .hbm, ⟨38, _⟩ => ⟨S16x32x128x1024, .f32⟩
  | .hbm, ⟨39, _⟩ => ⟨S1024x32x16x128, .f32⟩
  | .hbm, ⟨40, _⟩ => ⟨S1024x65536, .f32⟩
  | .hbm, ⟨41, _⟩ => ⟨S1024x98304, .f32⟩
  | .hbm, ⟨42, _⟩ => ⟨S128x8x768x128, .f32⟩
  | .hbm, ⟨43, _⟩ => ⟨S128x768x8x128, .f32⟩
  | .hbm, ⟨44, _⟩ => ⟨S128x6144x128, .f32⟩
  | .hbm, ⟨45, _⟩ => ⟨S16x16x128x1024, .f32⟩
  | .hbm, ⟨46, _⟩ => ⟨S1024x16x16x128, .f32⟩
  | .hbm, ⟨47, _⟩ => ⟨S1024x32768, .f32⟩
  | .hbm, ⟨48, _⟩ => ⟨S16x32x128x1024, .f32⟩
  | .hbm, ⟨49, _⟩ => ⟨S1024x32x16x128, .f32⟩
  | .hbm, ⟨50, _⟩ => ⟨S1024x65536, .f32⟩
  | .hbm, ⟨51, _⟩ => ⟨S1024x98304, .f32⟩
  | .hbm, ⟨52, _⟩ => ⟨S128x8x768x128, .f32⟩
  | .hbm, ⟨53, _⟩ => ⟨S128x768x8x128, .f32⟩
  | .hbm, ⟨54, _⟩ => ⟨S128x6144x128, .f32⟩
  | .hbm, ⟨55, _⟩ => ⟨S16x16x128x1024, .f32⟩
  | .hbm, ⟨56, _⟩ => ⟨S1024x16x16x128, .f32⟩
  | .hbm, ⟨57, _⟩ => ⟨S1024x32768, .f32⟩
  | .hbm, ⟨58, _⟩ => ⟨S16x32x128x1024, .f32⟩
  | .hbm, ⟨59, _⟩ => ⟨S1024x32x16x128, .f32⟩
  | .hbm, ⟨60, _⟩ => ⟨S1024x65536, .f32⟩
  | .hbm, ⟨61, _⟩ => ⟨S1024x98304, .f32⟩
  | .hbm, ⟨62, _⟩ => ⟨S1024x98304, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S128x32x128, .f32⟩
  | .local _ .vmem, ⟨5, _⟩ => ⟨S128x32x128, .f32⟩
  | .local _ .vmem, ⟨6, _⟩ => ⟨S128x32x128, .f32⟩
  | .local _ .vmem, ⟨7, _⟩ => ⟨S128x32x128, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1024, .bf16⟩
  | .local _ .vmem, ⟨12, _⟩ => ⟨S1024x1, .f32⟩
  | .local _ .vmem, ⟨13, _⟩ => ⟨S1024x2048, .bf16⟩
  | .local _ .vmem, ⟨14, _⟩ => ⟨S1024x512, .f32⟩
  | .local _ .vmem, ⟨15, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x2048x1024 : Shape := ⟨3, ![16, 2048, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1x1x1024 : Shape := ⟨3, ![1, 1, 1024]⟩
abbrev S_ : Shape := ⟨0, ![]⟩
abbrev S16x2048x2048 : Shape := ⟨3, ![16, 2048, 2048]⟩
abbrev S16x4096x2048 : Shape := ⟨3, ![16, 4096, 2048]⟩
abbrev S16x16x128x1024 : Shape := ⟨4, ![16, 16, 128, 1024]⟩
abbrev S32768x1024 : Shape := ⟨2, ![32768, 1024]⟩
abbrev S16x32x128x1024 : Shape := ⟨4, ![16, 32, 128, 1024]⟩
abbrev S32x16x128x1024 : Shape := ⟨4, ![32, 16, 128, 1024]⟩
abbrev S65536x1024 : Shape := ⟨2, ![65536, 1024]⟩
abbrev S98304x1024 : Shape := ⟨2, ![98304, 1024]⟩
abbrev S1024x98304 : Shape := ⟨2, ![1024, 98304]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x2048x1024, .f32⟩
  | .hbm, ⟨3, _⟩ => ⟨S16x4096x1024, .f32⟩
  | .hbm, ⟨4, _⟩ => ⟨S16x2048x1024, .f32⟩
  | .hbm, ⟨5, _⟩ => ⟨S16x4096x1024, .f32⟩
  | .hbm, ⟨6, _⟩ => ⟨S16x2048x1024, .f32⟩
  | .hbm, ⟨7, _⟩ => ⟨S16x4096x1024, .f32⟩
  | .hbm, ⟨8, _⟩ => ⟨S16x2048x1024, .f32⟩
  | .hbm, ⟨9, _⟩ => ⟨S16x4096x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S1x1x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x2048, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S_, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S1x1x1024, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S16x4096x1024, .f32⟩
  | .hbm, ⟨79, _⟩ => ⟨S_, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x4096x1024, .f32⟩
  | .hbm, ⟨84, _⟩ => ⟨S16x4096x1024, .f32⟩
  | .hbm, ⟨85, _⟩ => ⟨S16x4096x1024, .f32⟩
  | .hbm, ⟨86, _⟩ => ⟨S16x4096x1024, .f32⟩
  | .hbm, ⟨87, _⟩ => ⟨S16x4096x2048, .f32⟩
  | .hbm, ⟨88, _⟩ => ⟨S16x4096x1024, .f32⟩
  | .hbm, ⟨89, _⟩ => ⟨S16x4096x1024, .f32⟩
  | .hbm, ⟨90, _⟩ => ⟨S16x16x128x1024, .f32⟩
  | .hbm, ⟨91, _⟩ => ⟨S16x16x128x1024, .f32⟩
  | .hbm, ⟨92, _⟩ => ⟨S32768x1024, .f32⟩
  | .hbm, ⟨93, _⟩ => ⟨S16x32x128x1024, .f32⟩
  | .hbm, ⟨94, _⟩ => ⟨S32x16x128x1024, .f32⟩
  | .hbm, ⟨95, _⟩ => ⟨S65536x1024, .f32⟩
  | .hbm, ⟨96, _⟩ => ⟨S98304x1024, .f32⟩
  | .hbm, ⟨97, _⟩ => ⟨S1024x98304, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x4096x1024 : Shape := ⟨3, ![16, 4096, 1024]⟩
abbrev S1024 : Shape := ⟨1, ![1024]⟩
abbrev S1024x5120 : Shape := ⟨2, ![1024, 5120]⟩
abbrev S4x128x128 : Shape := ⟨3, ![4, 128, 128]⟩
abbrev S4x128 : Shape := ⟨2, ![4, 128]⟩
abbrev S1024x1 : Shape := ⟨2, ![1024, 1]⟩
abbrev S5120x1024 : Shape := ⟨2, ![5120, 1024]⟩
abbrev S1x128x128 : Shape := ⟨3, ![1, 128, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S2x1x256 : Shape := ⟨3, ![2, 1, 256]⟩
abbrev S1024x98304 : Shape := ⟨2, ![1024, 98304]⟩
abbrev S128x6144x128 : Shape := ⟨3, ![128, 6144, 128]⟩
abbrev S4x128x1024 : Shape := ⟨3, ![4, 128, 1024]⟩
abbrev S1024x512 : Shape := ⟨2, ![1024, 512]⟩
abbrev S128x32x128 : Shape := ⟨3, ![128, 32, 128]⟩
abbrev S1x128x1024 : Shape := ⟨3, ![1, 128, 1024]⟩
abbrev S128x1024 : Shape := ⟨2, ![128, 1024]⟩
abbrev S1024x128 : Shape := ⟨2, ![1024, 128]⟩
abbrev S512 : Shape := ⟨1, ![512]⟩
abbrev S1x512 : Shape := ⟨2, ![1, 512]⟩
abbrev S1024x1024 : Shape := ⟨2, ![1024, 1024]⟩
abbrev S8x128 : Shape := ⟨2, ![8, 128]⟩
abbrev S1x8x128 : Shape := ⟨3, ![1, 8, 128]⟩
abbrev S256x512 : Shape := ⟨2, ![256, 512]⟩
abbrev S256x128 : Shape := ⟨2, ![256, 128]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 45
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S1024, .f32⟩
  | .hbm, ⟨3, _⟩ => ⟨S1024x5120, .f32⟩
  | .hbm, ⟨4, _⟩ => ⟨S1024, .f32⟩
  | .hbm, ⟨5, _⟩ => ⟨S1024, .f32⟩
  | .hbm, ⟨6, _⟩ => ⟨S4x128x128, .f32⟩
  | .hbm, ⟨7, _⟩ => ⟨S4x128, .f32⟩
  | .hbm, ⟨8, _⟩ => ⟨S1024x1, .f32⟩
  | .hbm, ⟨9, _⟩ => ⟨S5120x1024, .f32⟩
  | .hbm, ⟨10, _⟩ => ⟨S5120x1024, .bf16⟩
  | .hbm, ⟨11, _⟩ => ⟨S1024x1, .f32⟩
  | .hbm, ⟨12, _⟩ => ⟨S1024x1, .f32⟩
  | .hbm, ⟨13, _⟩ => ⟨S4x128x128, .f32⟩
  | .hbm, ⟨14, _⟩ => ⟨S1x128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S1x128x128, .f32⟩
  | .hbm, ⟨19, _⟩ => ⟨S128x128, .f32⟩
  | .hbm, ⟨20, _⟩ => ⟨S1x128x128, .f32⟩
  | .hbm, ⟨21, _⟩ => ⟨S128x128, .f32⟩
  | .hbm, ⟨22, _⟩ => ⟨S128x256, .f32⟩
  | .hbm, ⟨23, _⟩ => ⟨S128x256, .f32⟩
  | .hbm, ⟨24, _⟩ => ⟨S256x256, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S256x256, .f32⟩
  | .hbm, ⟨32, _⟩ => ⟨S1x256x256, .f32⟩
  | .hbm, ⟨33, _⟩ => ⟨S1x256x256, .f32⟩
  | .hbm, ⟨34, _⟩ => ⟨S2x256x256, .f32⟩
  | .hbm, ⟨35, _⟩ => ⟨S2x256x256, .bf16⟩
  | .hbm, ⟨36, _⟩ => ⟨S2x1x256, .f32⟩
  | .hbm, ⟨37, _⟩ => ⟨S1024x98304, .bf16⟩
  | .hbm, ⟨38, _⟩ => ⟨S128x6144x128, .f32⟩
  | .hbm, ⟨39, _⟩ => ⟨S1024x98304, .f32⟩
  | .hbm, ⟨40, _⟩ => ⟨S1024x98304, .f32⟩
  | .hbm, ⟨41, _⟩ => ⟨S1024x98304, .bf16⟩
  | .hbm, ⟨42, _⟩ => ⟨S128x6144x128, .f32⟩
  | .hbm, ⟨43, _⟩ => ⟨S1024x98304, .f32⟩
  | .hbm, ⟨44, _⟩ => ⟨S1024x98304, .f32⟩
  | .local _ .vmem, ⟨0, _⟩ => ⟨S4x128x1024, .f32⟩
  | .local _ .vmem, ⟨1, _⟩ => ⟨S4x128x1024, .f32⟩
  | .local _ .vmem, ⟨2, _⟩ => ⟨S1024x1, .f32⟩
  | .local _ .vmem, ⟨3, _⟩ => ⟨S5120x1024, .bf16⟩
  | .local _ .vmem, ⟨4, _⟩ => ⟨S1024x1, .f32⟩
  | .local _ .vmem, ⟨5, _⟩ => ⟨S1024x1, .f32⟩
  | .local _ .vmem, ⟨6, _⟩ => ⟨S2x256x256, .bf16⟩
  | .local _ .vmem, ⟨7, _⟩ => ⟨S2x1x256, .f32⟩
  | .local _ .vmem, ⟨8, _⟩ => ⟨S1024x512, .bf16⟩
  | .local _ .vmem, ⟨9, _⟩ => ⟨S1024x512, .bf16⟩
  | .local _ .vmem, ⟨10, _⟩ => ⟨S128x32x128, .f32⟩
  | .local _ .vmem, ⟨11, _⟩ => ⟨S128x32x128, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S4x128x1024, .f32⟩
  | .local _ .vmem, ⟨17, _⟩ => ⟨S4x128x1024, .f32⟩
  | .local _ .vmem, ⟨18, _⟩ => ⟨S1024x1, .f32⟩
  | .local _ .vmem, ⟨19, _⟩ => ⟨S5120x1024, .bf16⟩
  | .local _ .vmem, ⟨20, _⟩ => ⟨S1024x1, .f32⟩
  | .local _ .vmem, ⟨21, _⟩ => ⟨S1024x1, .f32⟩
  | .local _ .vmem, ⟨22, _⟩ => ⟨S2x256x256, .bf16⟩
  | .local _ .vmem, ⟨23, _⟩ => ⟨S2x1x256, .f32⟩
  | .local _ .vmem, ⟨24, _⟩ => ⟨S1024x512, .bf16⟩
  | .local _ .vmem, ⟨25, _⟩ => ⟨S1024x512, .bf16⟩
  | .local _ .vmem, ⟨26, _⟩ => ⟨S128x32x128, .f32⟩
  | .local _ .vmem, ⟨27, _⟩ => ⟨S128x32x128, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc1_transform_12 (i : grid1.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc1_transform_14 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

abbrev stage1_0 : Fin 2 → Memref sig .tc .vmem S4x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5120x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x32x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference5Ideal.lean ====
abbrev S16x2048x1024 : Shape := ⟨3, ![16, 2048, 1024]⟩
abbrev S16x4096x1024 : Shape := ⟨3, ![16, 4096, 1024]⟩
abbrev S1024 : Shape := ⟨1, ![1024]⟩
abbrev S1024x5120 : Shape := ⟨2, ![1024, 5120]⟩
abbrev S4x128x128 : Shape := ⟨3, ![4, 128, 128]⟩
abbrev S4x128 : Shape := ⟨2, ![4, 128]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5120 : Shape := ⟨3, ![16, 2048, 5120]⟩
abbrev S16x16x128x4x256 : Shape := ⟨5, ![16, 16, 128, 4, 256]⟩
abbrev S4x16x16x256x128 : Shape := ⟨5, ![4, 16, 16, 256, 128]⟩
abbrev S128x4 : Shape := ⟨2, ![128, 4]⟩
abbrev S1x1x128x4x1 : Shape := ⟨5, ![1, 1, 128, 4, 1]⟩
abbrev S16x4096 : Shape := ⟨2, ![16, 4096]⟩
abbrev S16x4096x1 : Shape := ⟨3, ![16, 4096, 1]⟩
abbrev S16x4096x5120 : Shape := ⟨3, ![16, 4096, 5120]⟩
abbrev S16x32x128x4x256 : Shape := ⟨5, ![16, 32, 128, 4, 256]⟩
abbrev S4x16x32x256x128 : Shape := ⟨5, ![4, 16, 32, 256, 128]⟩
abbrev S16x16x128x1024 : Shape := ⟨4, ![16, 16, 128, 1024]⟩
abbrev S32768x1024 : Shape := ⟨2, ![32768, 1024]⟩
abbrev S16x32x128x1024 : Shape := ⟨4, ![16, 32, 128, 1024]⟩
abbrev S32x16x128x1024 : Shape := ⟨4, ![32, 16, 128, 1024]⟩
abbrev S65536x1024 : Shape := ⟨2, ![65536, 1024]⟩
abbrev S98304x1024 : Shape := ⟨2, ![98304, 1024]⟩
abbrev S1024x98304 : Shape := ⟨2, ![1024, 98304]⟩
abbrev S128x8x768x128 : Shape := ⟨4, ![128, 8, 768, 128]⟩
abbrev S128x768x8x128 : Shape := ⟨4, ![128, 768, 8, 128]⟩
abbrev S128x6144x128 : Shape := ⟨3, ![128, 6144, 128]⟩

abbrev nBuf : Space → Nat
  | .hbm => 266
  | .vmem => 0
  | .smem => 0
  | _ => 0

abbrev hbmTy0_0 (i : Nat) : BufTy := match i % 128 with
  | 0 => ⟨S16x2048x1024, .f32⟩
  | 1 => ⟨S16x4096x1024, .f32⟩
  | 2 => ⟨S1024, .f32⟩
  | 3 => ⟨S1024x5120, .f32⟩
  | 4 => ⟨S1024, .f32⟩
  | 5 => ⟨S1024, .f32⟩
  | 6 => ⟨S4x128x128, .f32⟩
  | 7 => ⟨S4x128, .f32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x5120, .f32⟩
  | 25 => ⟨S16x2048x1024, .f32⟩
  | 26 => ⟨S16x2048x1024, .f32⟩
  | 27 => ⟨S16x2048x1024, .f32⟩
  | 28 => ⟨S16x2048x1024, .f32⟩
  | 29 => ⟨S16x2048x1024, .f32⟩
  | 30 => ⟨S16x2048x1024, .f32⟩
  | 31 => ⟨S16x2048x1024, .f32⟩
  | 32 => ⟨S_, .f32⟩
  | 33 => ⟨S16x2048x1024, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S16x2048x1024, .f32⟩
  | 40 => ⟨S_, .f32⟩
  | 41 => ⟨S16x2048x1024, .f32⟩
  | 42 => ⟨S16x2048x1024, .f32⟩
  | 43 => ⟨S_, .f32⟩
  | 44 => ⟨S16x2048x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S_, .f32⟩
  | 50 => ⟨S16x2048x1024, .f32⟩
  | 51 => ⟨S16x2048x1024, .f32⟩
  | 52 => ⟨S16x2048x1024, .f32⟩
  | 53 => ⟨S_, .f32⟩
  | 54 => ⟨S16x2048x1024, .f32⟩
  | 55 => ⟨S16x2048x1024, .f32⟩
  | 56 => ⟨S16x2048x1024, .f32⟩
  | 57 => ⟨S_, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S16x2048x1024, .f32⟩
  | 64 => ⟨S_, .f32⟩
  | 65 => ⟨S16x2048, .f32⟩
  | 66 => ⟨S16x2048x1, .f32⟩
  | 67 => ⟨S_, .f32⟩
  | 68 => ⟨S16x2048x1, .f32⟩
  | 69 => ⟨S16x2048x1, .f32⟩
  | 70 => ⟨S16x2048x1024, .f32⟩
  | 71 => ⟨S16x2048x1024, .f32⟩
  | 72 => ⟨S16x2048x1024, .f32⟩
  | 73 => ⟨S_, .f32⟩
  | 74 => ⟨S16x2048, .f32⟩
  | 75 => ⟨S16x2048x1, .f32⟩
  | 76 => ⟨S_, .f32⟩
  | 77 => ⟨S16x2048x1, .f32⟩
  | 78 => ⟨S16x2048x1, .f32⟩
  | 79 => ⟨S_, .f32⟩
  | 80 => ⟨S16x2048x1, .f32⟩
  | 81 => ⟨S16x2048x1, .f32⟩
  | 82 => ⟨S16x2048x1, .f32⟩
  | 83 => ⟨S16x2048x1024, .f32⟩
  | 84 => ⟨S16x2048x1024, .f32⟩
  | 85 => ⟨S1x1x1024, .f32⟩
  | 86 => ⟨S16x2048x1024, .f32⟩
  | 87 => ⟨S16x2048x1024, .f32⟩
  | 88 => ⟨S1x1x1024, .f32⟩
  | 89 => ⟨S16x2048x1024, .f32⟩
  | 90 => ⟨S16x2048x1024, .f32⟩
  | 91 => ⟨S16x16x128x4x256, .f32⟩
  | 92 => ⟨S4x16x16x256x128, .f32⟩
  | 93 => ⟨S16x16x128x4x256, .f32⟩
  | 94 => ⟨S128x4, .f32⟩
  | 95 => ⟨S1x1x128x4x1, .f32⟩
  | 96 => ⟨S16x16x128x4x256, .f32⟩
  | 97 => ⟨S16x16x128x4x256, .f32⟩
  | 98 => ⟨S16x2048x1024, .f32⟩
  | 99 => ⟨S16x2048x1024, .f32⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S_, .f32⟩
  | 113 => ⟨S16x2048x1024, .f32⟩
  | 114 => ⟨S16x2048x1024, .f32⟩
  | 115 => ⟨S_, .f32⟩
  | 116 => ⟨S16x2048x1024, .f32⟩
  | 117 => ⟨S16x2048x1024, .f32⟩
  | 118 => ⟨S16x2048x1024, .f32⟩
  | 119 => ⟨S16x4096x1024, .f32⟩
  | 120 => ⟨S_, .f32⟩
  | 121 => ⟨S16x4096, .f32⟩
  | 122 => ⟨S16x4096x1, .f32⟩
  | 123 => ⟨S_, .f32⟩
  | 124 => ⟨S16x4096x1, .f32⟩
  | 125 => ⟨S16x4096x1, .f32⟩
  | 126 => ⟨S_, .f32⟩
  | 127 => ⟨S16x4096x1, .f32⟩
  | _ => ⟨S16x2048x1024, .f32⟩

abbrev hbmTy0_1 (i : Nat) : BufTy := match i % 128 with
  | 0 => ⟨S16x4096x1, .f32⟩
  | 1 => ⟨S16x4096x1, .f32⟩
  | 2 => ⟨S16x4096x1024, .f32⟩
  | 3 => ⟨S16x4096x1024, .f32⟩
  | 4 => ⟨S1x1x1024, .f32⟩
  | 5 => ⟨S16x4096x1024, .f32⟩
  | 6 => ⟨S16x4096x1024, .f32⟩
  | 7 => ⟨S16x4096x5120, .f32⟩
  | 8 => ⟨S16x4096x1024, .f32⟩
  | 9 => ⟨S16x4096x1024, .f32⟩
  | 10 => ⟨S16x4096x1024, .f32⟩
  | 11 => ⟨S16x4096x1024, .f32⟩
  | 12 => ⟨S16x4096x1024, .f32⟩
  | 13 => ⟨S16x4096x1024, .f32⟩
  | 14 => ⟨S16x4096x1024, .f32⟩
  | 15 => ⟨S_, .f32⟩
  | 16 => ⟨S16x4096x1024, .f32⟩
  | 17 => ⟨S16x4096x1024, .f32⟩
  | 18 => ⟨S16x4096x1024, .f32⟩
  | 19 => ⟨S_, .f32⟩
  | 20 => ⟨S16x4096x1024, .f32⟩
  | 21 => ⟨S16x4096x1024, .f32⟩
  | 22 => ⟨S16x4096x1024, .f32⟩
  | 23 => ⟨S_, .f32⟩
  | 24 => ⟨S16x4096x1024, .f32⟩
  | 25 => ⟨S16x4096x1024, .f32⟩
  | 26 => ⟨S_, .f32⟩
  | 27 => ⟨S16x4096x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S_, .f32⟩
  | 33 => ⟨S16x4096x1024, .f32⟩
  | 34 => ⟨S16x4096x1024, .f32⟩
  | 35 => ⟨S16x4096x1024, .f32⟩
  | 36 => ⟨S_, .f32⟩
  | 37 => ⟨S16x4096x1024, .f32⟩
  | 38 => ⟨S16x4096x1024, .f32⟩
  | 39 => ⟨S16x4096x1024, .f32⟩
  | 40 => ⟨S_, .f32⟩
  | 41 => ⟨S16x4096x1024, .f32⟩
  | 42 => ⟨S16x4096x1024, .f32⟩
  | 43 => ⟨S_, .f32⟩
  | 44 => ⟨S16x4096x1024, .f32⟩
  | 45 => ⟨S16x4096x1024, .f32⟩
  | 46 => ⟨S16x4096x1024, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S16x4096x1024, .f32⟩
  | 54 => ⟨S16x4096x1024, .f32⟩
  | 55 => ⟨S16x4096x1024, .f32⟩
  | 56 => ⟨S_, .f32⟩
  | 57 => ⟨S16x4096, .f32⟩
  | 58 => ⟨S16x4096x1, .f32⟩
  | 59 => ⟨S_, .f32⟩
  | 60 => ⟨S16x4096x1, .f32⟩
  | 61 => ⟨S16x4096x1, .f32⟩
  | 62 => ⟨S_, .f32⟩
  | 63 => ⟨S16x4096x1, .f32⟩
  | 64 => ⟨S16x4096x1, .f32⟩
  | 65 => ⟨S16x4096x1, .f32⟩
  | 66 => ⟨S16x4096x1024, .f32⟩
  | 67 => ⟨S16x4096x1024, .f32⟩
  | 68 => ⟨S1x1x1024, .f32⟩
  | 69 => ⟨S16x4096x1024, .f32⟩
  | 70 => ⟨S16x4096x1024, .f32⟩
  | 71 => ⟨S1x1x1024, .f32⟩
  | 72 => ⟨S16x4096x1024, .f32⟩
  | 73 => ⟨S16x4096x1024, .f32⟩
  | 74 => ⟨S16x32x128x4x256, .f32⟩
  | 75 => ⟨S4x16x32x256x128, .f32⟩
  | 76 => ⟨S16x32x128x4x256, .f32⟩
  | 77 => ⟨S128x4, .f32⟩
  | 78 => ⟨S1x1x128x4x1, .f32⟩
  | 79 => ⟨S16x32x128x4x256, .f32⟩
  | 80 => ⟨S16x32x128x4x256, .f32⟩
  | 81 => ⟨S16x4096x1024, .f32⟩
  | 82 => ⟨S16x4096x1024, .f32⟩
  | 83 => ⟨S16x4096x1024, .f32⟩
  | 84 => ⟨S16x4096x1024, .f32⟩
  | 85 => ⟨S_, .f32⟩
  | 86 => ⟨S16x4096x1024, .f32⟩
  | 87 => ⟨S16x4096x1024, .f32⟩
  | 88 => ⟨S_, .f32⟩
  | 89 => ⟨S16x4096x1024, .f32⟩
  | 90 => ⟨S16x4096x1024, .f32⟩
  | 91 => ⟨S16x4096x1024, .f32⟩
  | 92 => ⟨S16x4096x1024, .f32⟩
  | 93 => ⟨S16x4096x1024, .f32⟩
  | 94 => ⟨S16x4096x1024, .f32⟩
  | 95 => ⟨S_, .f32⟩
  | 96 => ⟨S16x4096x1024, .f32⟩
  | 97 => ⟨S16x4096x1024, .f32⟩
  | 98 => ⟨S_, .f32⟩
  | 99 => ⟨S16x4096x1024, .f32⟩
  | 100 => ⟨S16x4096x1024, .f32⟩
  | 101 => ⟨S16x4096x1024, .f32⟩
  | 102 => ⟨S16x16x128x1024, .f32⟩
  | 103 => ⟨S16x16x128x1024, .f32⟩
  | 104 => ⟨S32768x1024, .f32⟩
  | 105 => ⟨S16x32x128x1024, .f32⟩
  | 106 => ⟨S32x16x128x1024, .f32⟩
  | 107 => ⟨S65536x1024, .f32⟩
  | 108 => ⟨S98304x1024, .f32⟩
  | 109 => ⟨S1024x98304, .f32⟩
  | 110 => ⟨S1024x98304, .bf16⟩
  | 111 => ⟨S16x16x128x1024, .f32⟩
  | 112 => ⟨S16x16x128x1024, .f32⟩
  | 113 => ⟨S32768x1024, .f32⟩
  | 114 => ⟨S16x32x128x1024, .f32⟩
  | 115 => ⟨S32x16x128x1024, .f32⟩
  | 116 => ⟨S65536x1024, .f32⟩
  | 117 => ⟨S98304x1024, .f32⟩
  | 118 => ⟨S1024x98304, .f32⟩
  | 119 => ⟨S128x8x768x128, .f32⟩
  | 120 => ⟨S128x768x8x128, .f32⟩
  | 121 => ⟨S128x6144x128, .f32⟩
  | 122 => ⟨S16x16x128x1024, .f32⟩
  | 123 => ⟨S16x16x128x1024, .f32⟩
  | 124 => ⟨S32768x1024, .f32⟩
  | 125 => ⟨S16x32x128x1024, .f32⟩
  | 126 => ⟨S32x16x128x1024, .f32⟩
  | 127 => ⟨S65536x1024, .f32⟩
  | _ => ⟨S16x2048x1024, .f32⟩

abbrev hbmTy0_2 (i : Nat) : BufTy := match i % 128 with
  | 0 => ⟨S98304x1024, .f32⟩
  | 1 => ⟨S1024x98304, .f32⟩
  | 2 => ⟨S16x16x128x1024, .f32⟩
  | 3 => ⟨S16x16x128x1024, .f32⟩
  | 4 => ⟨S32768x1024, .f32⟩
  | 5 => ⟨S16x32x128x1024, .f32⟩
  | 6 => ⟨S32x16x128x1024, .f32⟩
  | 7 => ⟨S65536x1024, .f32⟩
  | 8 => ⟨S98304x1024, .f32⟩
  | 9 => ⟨S1024x98304, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v76 : Ref sig .tc := ⟨.hbm, 108, rfl⟩
abbrev main_v77 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_v81 : Ref sig .tc := ⟨.hbm, 122, rfl⟩
abbrev main_cst_16 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_22 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_23 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_24 : Ref sig .tc := ⟨.hbm, 168, rfl⟩
abbrev main_v119 : Ref sig .tc := ⟨.hbm, 169, rfl⟩
abbrev main_v120 : Ref sig .tc := ⟨.hbm, 170, rfl⟩
abbrev main_cst_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_26 : Ref sig .tc := ⟨.hbm, 175, rfl⟩
abbrev main_v124 : Ref sig .tc := ⟨.hbm, 176, rfl⟩
abbrev main_v125 : Ref sig .tc := ⟨.hbm, 177, rfl⟩
abbrev main_cst_27 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_28 : Ref sig .tc := ⟨.hbm, 184, rfl⟩
abbrev main_v131 : Ref sig .tc := ⟨.hbm, 185, rfl⟩
abbrev main_v132 : Ref sig .tc := ⟨.hbm, 186, rfl⟩
abbrev main_cst_29 : Ref sig .tc := ⟨.hbm, 187, rfl⟩
abbrev main_v133 : Ref sig .tc := ⟨.hbm, 188, rfl⟩
abbrev main_v134 : Ref sig .tc := ⟨.hbm, 189, rfl⟩
abbrev main_cst_30 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_call2_v0 : Ref sig .tc := ⟨.hbm, 211, rfl⟩
abbrev main_call2_v1 : Ref sig .tc := ⟨.hbm, 212, rfl⟩
abbrev main_call2_cst : Ref sig .tc := ⟨.hbm, 213, rfl⟩
abbrev main_call2_v2 : Ref sig .tc := ⟨.hbm, 214, rfl⟩
abbrev main_call2_v3 : Ref sig .tc := ⟨.hbm, 215, rfl⟩
abbrev main_call2_cst_0 : Ref sig .tc := ⟨.hbm, 216, rfl⟩
abbrev main_call2_v4 : Ref sig .tc := ⟨.hbm, 217, rfl⟩
abbrev main_call2_v5 : Ref sig .tc := ⟨.hbm, 218, rfl⟩
abbrev main_v155 : Ref sig .tc := ⟨.hbm, 219, rfl⟩
abbrev main_v156 : Ref sig .tc := ⟨.hbm, 220, rfl⟩
abbrev main_call3_v0 : Ref sig .tc := ⟨.hbm, 221, rfl⟩
abbrev main_call3_v1 : Ref sig .tc := ⟨.hbm, 222, rfl⟩
abbrev main_call3_cst : Ref sig .tc := ⟨.hbm, 223, rfl⟩
abbrev main_call3_v2 : Ref sig .tc := ⟨.hbm, 224, rfl⟩
abbrev main_call3_v3 : Ref sig .tc := ⟨.hbm, 225, rfl⟩
abbrev main_call3_cst_0 : Ref sig .tc := ⟨.hbm, 226, rfl⟩
abbrev main_call3_v4 : Ref sig .tc := ⟨.hbm, 227, rfl⟩
abbrev main_call3_v5 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩

abbrev nD : Nat := 1
abbrev τ : Topo := Topo.v7x

variable {F : FTy → Type} [FloatOps F]
-- ==== Proof.XbTile.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise
public import Idealize.ShloMosaic.Lib.Ring
public import Idealize.ShloMosaic.Lib.Tactic

/-! The tile-major store of the layer: a block of 1024 channels by 512 positions is laid out as 128 groups of
    eight channels, each over four runs of 128 positions. -/

@[expose] public section

set_option maxRecDepth 16384

noncomputable section

namespace Cert.Mix

open Idealize.ShloMosaic Idealize.ShloMosaic.TcCoe Idealize.SL.Sem
open Cert.KernelIdeal Cert.KernelIdeal.Gen

variable {F : FTy → Type} [FloatOps F]

/-- The block `p` (channels by positions) in tile-major order: entry `(r, 8k + s, q)` is channel `8r + s` at
    position `128k + q`. -/
def xbTile (p : FVec F S1024x512 .f32) : Vec F S128x32x128 .f32 := fun y =>
  p (ix2 ⟨8 * (y 0).val + (y 1).val % 8, by have := (y 0).isLt; change (y 0).val < 128 at this; omega⟩
    ⟨128 * ((y 1).val / 8) + (y 2).val, by
      have h1 := (y 1).isLt; have h2 := (y 2).isLt
      change (y 1).val < 32 at h1; change (y 2).val < 128 at h2; omega⟩)

/-- One store of the tile-major layout: an eight by 128 slice of the block, reshaped, is the part of `xbTile` that
    the store's rectangle covers. -/
theorem tile_piece (v : FVec F S1024x512 .f32) (o₁ : Fin 3 → ℕ) (o₂ : Fin 2 → ℕ) (hin) (hs) (hc)
    (h : o₂ 0 = 8 * o₁ 0 ∧ o₁ 1 % 8 = 0 ∧ o₂ 1 = 16 * o₁ 1 ∧ o₁ 2 = 0) (x : S1x8x128.Idx) :
    shapeCast S1x8x128 (extractStridedSlice S8x128 o₂ v hs) hc x
      = xbTile v ((Rect.unit (s := S128x32x128) o₁ S1x8x128.size hin).emb x) := by
  obtain ⟨h0, h1, h2, h3⟩ := h
  have x0 : (x 0).val < 1 := (x 0).isLt
  have x1 : (x 1).val < 8 := (x 1).isLt
  have x2 : (x 2).val < 128 := (x 2).isLt
  unfold xbTile
  rw [shapeCast_apply _ hc x (ix2 (n0 := 8) (n1 := 128) ⟨(x 1).val, x1⟩ ⟨(x 2).val, x2⟩) (by
    rw [Shape.rowMajor_val_two, Shape.rowMajor_val_three]
    change (x 1).val * 128 + (x 2).val = ((x 0).val * 8 + (x 1).val) * 128 + (x 2).val
    omega)]
  refine extractStridedSlice_apply o₂ v hs _ _ fun a => ?_
  match a with
  | ⟨0, _⟩ =>
    simp only [Rect.emb_apply, Rect.off_unit, Rect.stride_unit]
    dsimp
    omega
  | ⟨1, _⟩ =>
    simp only [Rect.emb_apply, Rect.off_unit, Rect.stride_unit]
    dsimp
    omega

end Cert.Mix

end
-- ==== Proof.MixOut.lean ====
module

public import proofs.«01_k».proof.Proof.Gen.KernelIdeal.Launch
public import proofs.«01_k».proof.Proof.Gen.KernelIdeal.Points
public import proofs.«01_k».proof.Proof.XbTile
public import Idealize.ShloMosaic.Lib.Pipeline.FrameBody
public import Idealize.ShloMosaic.Lib.Pipeline.Value
public import Idealize.ShloMosaic.Lib.Claim
public import Idealize.ShloMosaic.Lib.WordCmp

/-! The body of the layer's first call: what it stores for one block of columns. -/

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body stores -/

/-- A whole block of 1024 channels by 512 columns. -/
abbrev rBlock : Rect S1024x512 := Rect.unit (s := S1024x512) ![0, 0] S1024x512.size inb_S1024x512_S1024x512_0_0
/-- A whole column of 1024 channels. -/
abbrev rCol : Rect S1024x1 := Rect.unit (s := S1024x1) ![0, 0] S1024x1.size inb_S1024x1_S1024x1_0_0
/-- The weights' rows of the normalised branch, -/
abbrev rWv : Rect S5120x1024 := Rect.unit (s := S5120x1024) ![1024, 0] S1024x1024.size inb_S5120x1024_S1024x1024_1024_0
/-- of the state-space input, -/
abbrev rWx : Rect S5120x1024 := Rect.unit (s := S5120x1024) ![3072, 0] S1024x1024.size inb_S5120x1024_S1024x1024_3072_0
/-- of its gate, -/
abbrev rWz : Rect S5120x1024 := Rect.unit (s := S5120x1024) ![4096, 0] S1024x1024.size inb_S5120x1024_S1024x1024_4096_0
/-- of the multiplied branch, -/
abbrev rWu : Rect S5120x1024 := Rect.unit (s := S5120x1024) ![0, 0] S1024x1024.size inb_S5120x1024_S1024x1024_0_0
/-- and of the first gate. -/
abbrev rWg : Rect S5120x1024 := Rect.unit (s := S5120x1024) ![2048, 0] S1024x1024.size inb_S5120x1024_S1024x1024_2048_0
/-- The two slabs of the mixing matrices -/
abbrev rM0 : Rect S2x256x256 := Rect.unit (s := S2x256x256) ![0, 0, 0] S1x256x256.size inb_S2x256x256_S1x256x256_0_0_0
abbrev rM1 : Rect S2x256x256 := Rect.unit (s := S2x256x256) ![1, 0, 0] S1x256x256.size inb_S2x256x256_S1x256x256_1_0_0
/-- and of their biases. -/
abbrev rB0 : Rect S2x1x256 := Rect.unit (s := S2x1x256) ![0, 0, 0] S1x1x256.size inb_S2x1x256_S1x1x256_0_0_0
abbrev rB1 : Rect S2x1x256 := Rect.unit (s := S2x1x256) ![1, 0, 0] S1x1x256.size inb_S2x1x256_S1x1x256_1_0_0

/-- The normalised branch of a block, -/
abbrev vBlock (x : Vec F S1024x512 .f32) (g : Vec F S1024x1 .f32) (w : Vec F S5120x1024 .bf16) (a b : Vec F S1024x1 .f32) : FVec F S1024x512 .bf16 :=
  k0_pay8 (k0_pay2 (View.ld x rBlock) (View.ld g rCol) (View.ld w rWv)) (k0_pay7 (View.ld x rBlock) (View.ld g rCol) (View.ld w rWv)) (View.ld a rCol) (View.ld b rCol)
/-- its mixed product, -/
def outY (x : Vec F S1024x512 .f32) (g : Vec F S1024x1 .f32) (w : Vec F S5120x1024 .bf16) (a b : Vec F S1024x1 .f32)
    (s : Vec F S2x256x256 .bf16) (d : Vec F S2x1x256 .f32) : Vec F S1024x512 .bf16 :=
  View.canon [⟨rBlock, k0_pay596 (vBlock x g w a b)
    (k0_pay591 (k0_pay5 (View.ld x rBlock) (View.ld g rCol) (View.ld w rWu)) (k0_pay6 (View.ld x rBlock) (View.ld g rCol) (View.ld w rWg)))
    (k0_pay592 (vBlock x g w a b) (View.ld s rM0) (View.ld d rB0)) (k0_pay593 (vBlock x g w a b) (View.ld s rM0) (View.ld d rB0)) (k0_pay594 (vBlock x g w a b) (View.ld s rM0) (View.ld d rB0)) (k0_pay595 (vBlock x g w a b) (View.ld s rM0) (View.ld d rB0))
    (View.ld s rM1) (View.ld d rB1)⟩]
/-- its state-space input in tile-major order -/
def outX (x : Vec F S1024x512 .f32) (g : Vec F S1024x1 .f32) (w : Vec F S5120x1024 .bf16) : Vec F S128x32x128 .f32 :=
  xbTile (k0_pay3 (View.ld x rBlock) (View.ld g rCol) (View.ld w rWx))
/-- and the gate of the state-space output. -/
def outZ (x : Vec F S1024x512 .f32) (g : Vec F S1024x1 .f32) (w : Vec F S5120x1024 .bf16) : Vec F S1024x512 .f32 :=
  View.canon [⟨rBlock, k0_pay590 (k0_pay4 (View.ld x rBlock) (View.ld g rCol) (View.ld w rWz))⟩]

/-- One store of a whole block leaves nothing of it uncovered. -/
theorem cover_block {e : EltTy} (p : Vec F S1024x512 e) : ∀ y, ∃ q ∈ ([⟨rBlock, p⟩] : List (View.Piece (Elt F) S1024x512 e)), y ∈ q.1.set :=
  View.cover_of_tiledL _ S1024x512.size (by sl_kernel_rfl)

/-- Stores that are each a part of the tile-major block and together cover it leave that block. -/
theorem canon_tile (v : FVec F S1024x512 .f32) (L : List (View.Piece (Elt F) S128x32x128 .f32))
    (hp : View.PiecesOf (xbTile v) L) (hc : ∀ y, ∃ q ∈ L, y ∈ q.1.set) : View.canon L = xbTile v :=
  funext fun y => View.canon_apply_of_pieces (xbTile v) L hp.mem y (hc y)

end Cert.Mix

end
-- ==== Proof.MixBody.lean ====
module

public import proofs.«01_k».proof.Proof.Gen.KernelIdeal.Launch
public import proofs.«01_k».proof.Proof.Gen.KernelIdeal.Points
public import proofs.«01_k».proof.Proof.MixOut
public import Idealize.ShloMosaic.Lib.Pipeline.FrameBody
public import Idealize.ShloMosaic.Lib.Pipeline.Value
public import Idealize.ShloMosaic.Lib.Claim
public import Idealize.ShloMosaic.Lib.WordCmp

/-! The body of the layer's first call: what it stores for one block of columns. -/

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body, from the blocks it is given to what it leaves in its three results. -/
theorem body_sound (c : Dev nD) (E : Set ℕ) (i : grid0.Coords)
    (arg1 : Memref sig .tc .vmem S1024x512 .f32) (h1 : arg1.IsWhole) (arg2 : Memref sig .tc .vmem S1024x1 .f32) (h2 : arg2.IsWhole)
    (arg3 : Memref sig .tc .vmem S5120x1024 .bf16) (h3 : arg3.IsWhole) (arg4 : Memref sig .tc .vmem S1024x1 .f32) (h4 : arg4.IsWhole)
    (arg5 : Memref sig .tc .vmem S1024x1 .f32) (h5 : arg5.IsWhole) (arg6 : Memref sig .tc .vmem S2x256x256 .bf16) (h6 : arg6.IsWhole)
    (arg7 : Memref sig .tc .vmem S2x1x256 .f32) (h7 : arg7.IsWhole) (arg8 : Memref sig .tc .vmem S1024x512 .bf16) (h8 : arg8.IsWhole)
    (arg9 : Memref sig .tc .vmem S128x32x128 .f32) (h9 : arg9.IsWhole) (arg10 : Memref sig .tc .vmem S1024x512 .f32) (h10 : arg10.IsWhole)
    (x0 : Vec F S1024x512 .f32) (x1 : Vec F S1024x1 .f32) (x2 : Vec F S5120x1024 .bf16) (x3 : Vec F S1024x1 .f32) (x4 : Vec F S1024x1 .f32)
    (x5 : Vec F S2x256x256 .bf16) (x6 : Vec F S2x1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outY x0 x1 x2 x3 x4 x5 x6) ∗ owns (c : Thread nD τ) arg9 fullShare (outX x0 x1 x2) ∗ owns (c : Thread nD τ) arg10 fullShare (outZ x0 x1 x2)) -∗ K ⟨⟩))
      ⊢ wp frame (wpE (defs₀ (F := F)) Variants.none c none) E (cc0_mix_in i arg1 h1 arg2 h2 arg3 h3 arg4 h4 arg5 h5 arg6 h6 arg7 h7 arg8 h8 arg9 h9 arg10 h10) K := by
  simp only [cc0_mix_in_eq_skeleton]; unfold cc0_mix_in_skel
  simp only [k0_part72_eq_skeleton, k0_part1_eq_skeleton, k0_part2_eq_skeleton, k0_part3_eq_skeleton,
    k0_part4_eq_skeleton, k0_part5_eq_skeleton, k0_part6_eq_skeleton, k0_part7_eq_skeleton,
    k0_part8_eq_skeleton, k0_part9_eq_skeleton, k0_part10_eq_skeleton, k0_part11_eq_skeleton,
    k0_part12_eq_skeleton, k0_part13_eq_skeleton, k0_part14_eq_skeleton, k0_part15_eq_skeleton,
    k0_part16_eq_skeleton, k0_part17_eq_skeleton, k0_part18_eq_skeleton, k0_part19_eq_skeleton,
    k0_part20_eq_skeleton, k0_part21_eq_skeleton, k0_part22_eq_skeleton, k0_part23_eq_skeleton,
    k0_part24_eq_skeleton, k0_part25_eq_skeleton, k0_part26_eq_skeleton, k0_part27_eq_skeleton,
    k0_part28_eq_skeleton, k0_part29_eq_skeleton, k0_part30_eq_skeleton, k0_part31_eq_skeleton,
    k0_part32_eq_skeleton, k0_part33_eq_skeleton, k0_part34_eq_skeleton, k0_part35_eq_skeleton,
    k0_part36_eq_skeleton, k0_part37_eq_skeleton, k0_part38_eq_skeleton, k0_part39_eq_skeleton,
    k0_part40_eq_skeleton, k0_part41_eq_skeleton, k0_part42_eq_skeleton, k0_part43_eq_skeleton,
    k0_part44_eq_skeleton, k0_part45_eq_skeleton, k0_part46_eq_skeleton, k0_part47_eq_skeleton,
    k0_part48_eq_skeleton, k0_part49_eq_skeleton, k0_part50_eq_skeleton, k0_part51_eq_skeleton,
    k0_part52_eq_skeleton, k0_part53_eq_skeleton, k0_part54_eq_skeleton, k0_part55_eq_skeleton,
    k0_part56_eq_skeleton, k0_part57_eq_skeleton, k0_part58_eq_skeleton, k0_part59_eq_skeleton,
    k0_part60_eq_skeleton, k0_part73_eq_skeleton, k0_part61_eq_skeleton, k0_part62_eq_skeleton,
    k0_part63_eq_skeleton, k0_part64_eq_skeleton, k0_part65_eq_skeleton, k0_part66_eq_skeleton,
    k0_part67_eq_skeleton, k0_part68_eq_skeleton, k0_part69_eq_skeleton, k0_part70_eq_skeleton,
    k0_part71_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_block _)).trans ?_
    rfl
  isplitl [H8]
  · iexists _; isplitr
    swap; · iexact H8
    ipureintro
    refine (View.read_writes_eq_canon _ _ _ ?_).trans ?_
    · exact View.cover_of_tiledL _ S1x8x128.size (by sl_kernel_rfl)
    sl_unfold_run_names
    generalize hv : k0_pay3 (F := F) _ _ _ = v
    refine (canon_tile v _ ?_ ?_).trans ?_
    · repeat' (first | exact trivial | refine ⟨fun x => tile_piece v _ _ (by decide) (by decide) (by decide) (by decide) x, ?_⟩)
    · exact View.cover_of_tiledL _ S1x8x128.size (by sl_kernel_rfl)
    · subst hv; rfl
  iexists _; isplitr
  swap; · iexact H9
  ipureintro
  refine (View.read_writes_eq_canon _ _ _ (cover_block _)).trans ?_
  rfl

end Cert.Mix

end
-- ==== Proof.MixHost.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.WordCmp

/-! The host operations of the layer's first call: what the region finds in each buffer. -/

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations that come before the region. -/
abbrev hostLines : List (List (HloOp τ sig (Elt F))) := [hostOps0, hostOps0_1, hostOps0_2, hostOps0_3, hostOps0_4]

/-- A core's buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation draws a fresh name. -/
theorem lines_fresh : (hostLines (F := F)).Forall fun l => l.Forall fun op => op.fresh = ∅ := by
  simp only [List.Forall]; repeat' constructor

set_option maxHeartbeats 800000 in
/-- The program is its host operations and then the region. -/
theorem host_main (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [List.Forall]; exact ⟨hostOps0_sub, hostOps0_1_sub, hostOps0_2_sub, hostOps0_3_sub, hostOps0_4_sub⟩)
    lines_fresh main_chain

/-- The program's argument arrays. -/
abbrev argRefs : List (Ref sig .tc) := [main_arg0, main_arg1, main_arg2, main_arg3, main_arg4, main_arg5, main_arg6, main_arg7]

/-- The region finds every argument array as it was launched. -/
theorem V_kept (c : Dev nD) : ∀ b ∈ argRefs, V m c b = m ((c : Thread nD τ).loc b) := by
  simp only [argRefs, List.forall_mem_cons, List.not_mem_nil, false_implies, implies_true, and_true]
  refine ⟨?_, ?_, ?_, ?_, ?_, ?_, ?_, ?_⟩ <;>
  · refine StableHlo.after_of_forall_not_mem (b := Proc.devRef .tc _) _ _ (List.forall_iff_forall_mem.mp ?_)
    simp only [hostLines, hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)

end Cert.Mix

end
-- ==== Proof.MixDats.lean ====
module

public import proofs.«01_k».proof.Proof.Gen.KernelIdeal.Launch
public import proofs.«01_k».proof.Proof.Gen.KernelIdeal.Points
public import proofs.«01_k».proof.Proof.MixOut
public import proofs.«01_k».proof.Proof.MixHost
public import Idealize.ShloMosaic.Lib.Pipeline.FrameBody
public import Idealize.ShloMosaic.Lib.Pipeline.Value
public import Idealize.ShloMosaic.Lib.Claim
public import Idealize.ShloMosaic.Lib.WordCmp

/-! What each window of the region's pipeline holds. -/

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline -/

/-- The proof data of the pipeline: after the body at a point each input holds its block and each result what the body
    stores for these blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (iblk m c 0 t) (iblk m c 1 t) (iblk m c 2 t) (iblk m c 3 t) (iblk m c 4 t) (iblk m c 5 t) (iblk m c 6 t)
    | ⟨8, _⟩ => outX (iblk m c 0 t) (iblk m c 1 t) (iblk m c 2 t)
    | ⟨9, _⟩ => outZ (iblk m c 0 t) (iblk m c 1 t) (iblk m c 2 t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in its inputs, -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
/-- and in its three results. -/
theorem after_Y (c : Dev nD) (t : Fin cfg0.N) : (dats m 0 c).after 7 t = outY (iblk m c 0 t) (iblk m c 1 t) (iblk m c 2 t) (iblk m c 3 t) (iblk m c 4 t) (iblk m c 5 t) (iblk m c 6 t) := by
  dsimp only [dats]
theorem after_X (c : Dev nD) (t : Fin cfg0.N) : (dats m 0 c).after 8 t = outX (iblk m c 0 t) (iblk m c 1 t) (iblk m c 2 t) := by
  dsimp only [dats]
theorem after_Z (c : Dev nD) (t : Fin cfg0.N) : (dats m 0 c).after 9 t = outZ (iblk m c 0 t) (iblk m c 1 t) (iblk m c 2 t) := by
  dsimp only [dats]

end Cert.Mix

end
-- ==== Proof.MixFrame.lean ====
module

public import proofs.«01_k».proof.Proof.Gen.KernelIdeal.Launch
public import proofs.«01_k».proof.Proof.Gen.KernelIdeal.Points
public import proofs.«01_k».proof.Proof.MixBody
public import proofs.«01_k».proof.Proof.MixDats
public import Idealize.ShloMosaic.Lib.Pipeline.FrameBody
public import Idealize.ShloMosaic.Lib.Pipeline.Value
public import Idealize.ShloMosaic.Lib.Claim
public import Idealize.ShloMosaic.Lib.WordCmp

/-! The run of the layer's first call: the region's body stores the mixed product, the tile-major branch and the gate
    for every block of columns, and the argument arrays are left as they were. -/

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window of the region lies on an argument array. -/
theorem arg_rest : ∀ b ∈ argRefs, b ∈ Pipeline.restRefs sig spec0 := by
  simp only [argRefs, List.forall_mem_cons, List.not_mem_nil, false_implies, implies_true, and_true]
  refine ⟨?_, ?_, ?_, ?_, ?_, ?_, ?_, ?_⟩ <;> exact Pipeline.mem_restRefs_of _ (by decide) (by decide)

/-- An input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; rfl)

/-- What the body is called with at a point -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point of the grid. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_Y, after_X, after_Z]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_sound c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is that body. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- The whole run: every execution ends with the pipeline's arrays as the proof data say, every other buffer as the
    region found it, and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_main m Variants.none) (hA := A_eq m) (hΦ := fun _ _ => rfl)

/-- The run with every argument array read back unchanged. -/
theorem run_kept : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
      ∧ ∀ c : Dev nD, r.2.mem ((c.tc : Thread nD τ).loc main_v31_0) = (dats m 0 c).arrAt 7 cfg0.N
        ∧ r.2.mem ((c.tc : Thread nD τ).loc main_v31_1) = (dats m 0 c).arrAt 8 cfg0.N
        ∧ r.2.mem ((c.tc : Thread nD τ).loc main_v31_2) = (dats m 0 c).arrAt 9 cfg0.N) :=
  (θ_run defs _ _).mono (fun r h => by
    have kept : ∀ (c : Dev nD), ∀ b ∈ argRefs, r.2.mem ((c.tc : Thread nD τ).loc b) = m ((c.tc : Thread nD τ).loc b) :=
      fun c b hb => ((h.1 c).2 b (arg_rest b hb)).trans (V_kept m c b hb)
    simp only [argRefs, List.forall_mem_cons, List.not_mem_nil, false_implies, implies_true, and_true] at kept
    exact ⟨⟨kept, h.2⟩, fun c => ⟨(h.1 c).1 7, (h.1 c).1 8, (h.1 c).1 9⟩⟩) (run_all m ρ)

end Cert.Mix

end
-- ==== Proof.MixSpec.lean ====
module

public import Idealize.ShloMosaic.Lib.Pointwise

@[expose] public section

noncomputable section
open Idealize.ShloMosaic Idealize.ShloMosaic.TcCoe Idealize.SL.Sem
namespace Cert.Mix

/-- The tanh form of gelu, of one number. -/
def gelu (v : EReal) : EReal :=
  v * (Ideal.ofBits .f32 0x3F000000#32 * (1 + Ideal.tanh (Ideal.ofBits .f32 0x3F4C422A#32 *
    (v + Ideal.ofBits .f32 0x3D372713#32 * (v * (v * v))))))

/-- silu of one number. -/
def silu (z : EReal) : EReal := z * Ideal.div 1 (1 + Ideal.exp (-z))

/-- The mean of a row of 1024 numbers. -/
def mean (v : Fin 1024 → EReal) : EReal := Ideal.div (∑ k, v k) (Ideal.ofBits .f32 0x44800000#32)

/-- The reciprocal root of a row's mean square, the small constant added to the mean. -/
def rstd (v : Fin 1024 → EReal) : EReal :=
  Ideal.rsqrt (mean (fun k => v k * v k) + Ideal.ofBits .f32 0x358637BD#32)

/-- rmsnorm of a row. -/
def rms (x g : Fin 1024 → EReal) (d : Fin 1024) : EReal := x d * rstd x * g d

/-- One column of the input projection of a normalised row. -/
def proj (x g : Fin 1024 → EReal) (W : Fin 1024 → Fin 5120 → EReal) (j : Fin 5120) : EReal :=
  ∑ d, rms x g d * W d j

/-- layernorm of a row. -/
def lnorm (v g b : Fin 1024 → EReal) (d : Fin 1024) : EReal :=
  (v d - mean v) * rstd (fun k => v k - mean v) * g d + b d

/-- The normalised value row of the spatial gate: layernorm of gelu of the projection's second quarter. -/
def vrow (x g : Fin 1024 → EReal) (W : Fin 1024 → Fin 5120 → EReal) (lg lb : Fin 1024 → EReal) : Fin 1024 → EReal :=
  lnorm (fun k => gelu (proj x g W ⟨1024 + k.val, by omega⟩)) lg lb

/-- The spatially mixed value at a position of a chunk: the head's 128×128 matrix over the chunk's positions, and its bias. -/
def mixed (X : Fin 128 → Fin 1024 → EReal) (g : Fin 1024 → EReal) (W : Fin 1024 → Fin 5120 → EReal) (lg lb : Fin 1024 → EReal)
    (ws : Fin 4 → Fin 128 → Fin 128 → EReal) (bs : Fin 4 → Fin 128 → EReal) (p : Fin 128) (ch : Fin 1024) : EReal :=
  (∑ q, vrow (X q) g W lg lb ch * ws ⟨ch.val / 256, by omega⟩ p q) + bs ⟨ch.val / 256, by omega⟩ p

/-- The gated branch's result at a position of a chunk. -/
def ya (X : Fin 128 → Fin 1024 → EReal) (g : Fin 1024 → EReal) (W : Fin 1024 → Fin 5120 → EReal) (lg lb : Fin 1024 → EReal)
    (ws : Fin 4 → Fin 128 → Fin 128 → EReal) (bs : Fin 4 → Fin 128 → EReal) (p : Fin 128) (ch : Fin 1024) : EReal :=
  gelu (proj (X p) g W ⟨ch.val, by omega⟩) * mixed X g W lg lb ws bs p ch * silu (proj (X p) g W ⟨2048 + ch.val, by omega⟩)

/-- The sequences cut into chunks of 128 positions, in the order of the columns: the prompt's by chunk and sequence, then the sample's. -/
def chunkX (P : Fin 16 → Fin 2048 → Fin 1024 → EReal) (S : Fin 16 → Fin 4096 → Fin 1024 → EReal) (c : Fin 768) (p : Fin 128) : Fin 1024 → EReal :=
  if h : c.val < 256 then P ⟨c.val % 16, by omega⟩ ⟨c.val / 16 * 128 + p.val, by omega⟩
  else S ⟨(c.val - 256) % 16, by omega⟩ ⟨(c.val - 256) / 16 * 128 + p.val, by omega⟩

/-- gelu with the cube taken from the left. -/
theorem gelu_cube (v : EReal) : v * (Ideal.ofBits .f32 0x3F000000#32 * (1 + Ideal.tanh (Ideal.ofBits .f32 0x3F4C422A#32 *
    (v + Ideal.ofBits .f32 0x3D372713#32 * (v * v * v))))) = gelu v := by
  rw [mul_assoc v v v]; rfl

end Cert.Mix
-- ==== Proof.MixBlock.lean ====
module

public import proofs.«01_k».proof.Proof.Gen.KernelIdeal.Skeleton
public import proofs.«01_k».proof.Proof.MixSpec

@[expose] public section

set_option maxRecDepth 16384
noncomputable section
open Idealize.ShloMosaic Idealize.ShloMosaic.TcCoe Idealize.SL.Sem
open Cert.KernelIdeal Cert.KernelIdeal.Gen
namespace Cert.Mix

/-- A column of a block of 1024 channels by 512 positions. -/
def col (x : FVec Ideal S1024x512 .f32) (l : Fin 512) (d : Fin 1024) : EReal := x (ix2 d l)

/-- A weight column 1024 by 1. -/
def wcol (x : FVec Ideal S1024x1 .f32) (d : Fin 1024) : EReal := x (ix2 d (0 : Fin 1))

/-- The normalised block, at a channel and a position. -/
theorem h_at (x : FVec Ideal S1024x512 .f32) (g : FVec Ideal S1024x1 .f32) (d : Fin 1024) (l : Fin 512) :
    k0_pay1 (F := Ideal) x g (ix2 d l) = rms (col x l) (wcol g) d := by
  pointwise [k0_pay1, rms, rstd, mean, col, wcol]

/-- A product of a slice of the transposed input weights with the normalised block. -/
theorem proj_at (x : FVec Ideal S1024x512 .f32) (g : FVec Ideal S1024x1 .f32) (w : FVec Ideal S1024x1024 .bf16)
    (W : Fin 1024 → Fin 5120 → EReal) (o : Nat) (ho : o + 1024 ≤ 5120)
    (hw : ∀ (r d : Fin 1024), w (ix2 r d) = W d ⟨o + r.val, by omega⟩) (r : Fin 1024) (l : Fin 512) :
    (∑ d : Fin 1024, w (ix2 r d) * k0_pay1 (F := Ideal) x g (ix2 d l)) = proj (col x l) (wcol g) W ⟨o + r.val, by omega⟩ :=
  Finset.sum_congr rfl fun d _ => by rw [hw, h_at, mul_comm]

variable (x : FVec Ideal S1024x512 .f32) (g : FVec Ideal S1024x1 .f32) (W : Fin 1024 → Fin 5120 → EReal)

/-- The second quarter of the projection (the value branch before gelu). -/
theorem pay2_at (w : FVec Ideal S1024x1024 .bf16)
    (hw : ∀ (r d : Fin 1024), w (ix2 r d) = W d ⟨1024 + r.val, by omega⟩) (r : Fin 1024) (l : Fin 512) :
    k0_pay2 (F := Ideal) x g w (ix2 r l) = proj (col x l) (wcol g) W ⟨1024 + r.val, by omega⟩ := by
  refine Eq.trans ?_ (proj_at x g w W 1024 (by omega) hw r l)
  pointwise [k0_pay2]

/-- The fourth part of the projection (the state-space branch's input). -/
theorem pay3_at (w : FVec Ideal S1024x1024 .bf16)
    (hw : ∀ (r d : Fin 1024), w (ix2 r d) = W d ⟨3072 + r.val, by omega⟩) (r : Fin 1024) (l : Fin 512) :
    k0_pay3 (F := Ideal) x g w (ix2 r l) = proj (col x l) (wcol g) W ⟨3072 + r.val, by omega⟩ := by
  refine Eq.trans ?_ (proj_at x g w W 3072 (by omega) hw r l)
  pointwise [k0_pay3]

/-- The fifth part of the projection (the state-space branch's gate). -/
theorem pay4_at (w : FVec Ideal S1024x1024 .bf16)
    (hw : ∀ (r d : Fin 1024), w (ix2 r d) = W d ⟨4096 + r.val, by omega⟩) (r : Fin 1024) (l : Fin 512) :
    k0_pay4 (F := Ideal) x g w (ix2 r l) = proj (col x l) (wcol g) W ⟨4096 + r.val, by omega⟩ := by
  refine Eq.trans ?_ (proj_at x g w W 4096 (by omega) hw r l)
  pointwise [k0_pay4]

/-- The first part of the projection (the gated branch's multiplicand). -/
theorem pay5_at (w : FVec Ideal S1024x1024 .bf16)
    (hw : ∀ (r d : Fin 1024), w (ix2 r d) = W d ⟨0 + r.val, by omega⟩) (r : Fin 1024) (l : Fin 512) :
    k0_pay5 (F := Ideal) x g w (ix2 r l) = proj (col x l) (wcol g) W ⟨0 + r.val, by omega⟩ := by
  refine Eq.trans ?_ (proj_at x g w W 0 (by omega) hw r l)
  pointwise [k0_pay5]

/-- The third part of the projection (the gated branch's gate). -/
theorem pay6_at (w : FVec Ideal S1024x1024 .bf16)
    (hw : ∀ (r d : Fin 1024), w (ix2 r d) = W d ⟨2048 + r.val, by omega⟩) (r : Fin 1024) (l : Fin 512) :
    k0_pay6 (F := Ideal) x g w (ix2 r l) = proj (col x l) (wcol g) W ⟨2048 + r.val, by omega⟩ := by
  refine Eq.trans ?_ (proj_at x g w W 2048 (by omega) hw r l)
  pointwise [k0_pay6]

/-- The third result's block: silu of the gate. -/
theorem sz_at (p : FVec Ideal S1024x512 .f32) (r : Fin 1024) (l : Fin 512) :
    k0_pay590 (F := Ideal) p (ix2 r l) = silu (p (ix2 r l)) := by
  pointwise [k0_pay590, silu, Ideal.logistic]

/-- The gated branch's multiplicand and gate together. -/
theorem gated_at (u z : FVec Ideal S1024x512 .f32) (r : Fin 1024) (l : Fin 512) :
    k0_pay591 (F := Ideal) u z (ix2 r l) = gelu (u (ix2 r l)) * silu (z (ix2 r l)) := by
  pointwise [k0_pay591, gelu, silu, Ideal.logistic]

/-- The normalised value block: layernorm of gelu, the cube taken from its own payload. -/
theorem v_at (p q : FVec Ideal S1024x512 .f32) (lg lb : FVec Ideal S1024x1 .f32)
    (hq : ∀ (r : Fin 1024) (l : Fin 512), q (ix2 r l) = Ideal.ofBits .f32 0x3D372713#32 * (p (ix2 r l) * (p (ix2 r l) * p (ix2 r l))))
    (r : Fin 1024) (l : Fin 512) :
    k0_pay8 (F := Ideal) p q lg lb (ix2 r l) = lnorm (fun k => gelu (p (ix2 k l))) (wcol lg) (wcol lb) r := by
  pointwise [k0_pay8, lnorm, rstd, mean, gelu, wcol, hq]

/-- The cube term of gelu. -/
theorem pay7_at (w : FVec Ideal S1024x1024 .bf16) (r : Fin 1024) (l : Fin 512) :
    k0_pay7 (F := Ideal) x g w (ix2 r l) = Ideal.ofBits .f32 0x3D372713#32 *
      (k0_pay2 (F := Ideal) x g w (ix2 r l) * (k0_pay2 (F := Ideal) x g w (ix2 r l) * k0_pay2 (F := Ideal) x g w (ix2 r l))) := by
  pointwise [k0_pay7]

/-- The columns of two 256-row halves of the value block, stacked chunk by chunk, times a matrix, and a bias row. -/
def stacked (v : FVec Ideal S1024x512 .bf16) (w : FVec Ideal S1x256x256 .bf16) (b : FVec Ideal S1x1x256 .f32) (o : Nat) (ho : o + 512 ≤ 1024)
    (c : Fin 4) (r p : Fin 256) : EReal :=
  (∑ q : Fin 128, v (ix2 ⟨o + r.val, by omega⟩ ⟨128 * c.val + q.val, by omega⟩) * w (ix3 0 ⟨q.val, by omega⟩ p))
    + (∑ q : Fin 128, v (ix2 ⟨o + 256 + r.val, by omega⟩ ⟨128 * c.val + q.val, by omega⟩) * w (ix3 0 ⟨128 + q.val, by omega⟩ p))
    + b (ix3 0 0 p)

set_option maxHeartbeats 1600000 in
/-- The first two heads' stacked product. -/
theorem pay592_at (v : FVec Ideal S1024x512 .bf16) (w : FVec Ideal S1x256x256 .bf16) (b : FVec Ideal S1x1x256 .f32) (c : Fin 4) (r p : Fin 256) :
    k0_pay592 (F := Ideal) v w b (ix2 ⟨256 * c.val + r.val, by omega⟩ p) = stacked v w b 0 (by omega) c r p := by
  pointwise [k0_pay592]
  unfold stacked
  refine congrArg₂ (· + ·) (congrArg₂ (· + ·) (Finset.sum_congr rfl fun q _ => congrArg₂ (· * ·) ?_ rfl)
    (Finset.sum_congr rfl fun q _ => congrArg₂ (· * ·) ?_ rfl)) rfl
  all_goals (split_ifs <;> (refine congrArg v ((ix2_inj ..).2 ⟨Fin.ext ?_, Fin.ext ?_⟩) <;> dsimp only <;> omega))

/-- A pair's stacked products spread back over the heads' channels and the chunks' positions. -/
def spread (s t : FVec Ideal S1024x256 .f32) (ch : Fin 1024) (l : Fin 512) : EReal :=
  if ch.val < 512 then s (ix2 ⟨256 * (l.val / 128) + ch.val % 256, by omega⟩ ⟨128 * (ch.val / 256 % 2) + l.val % 128, by omega⟩)
  else t (ix2 ⟨256 * (l.val / 128) + ch.val % 256, by omega⟩ ⟨128 * (ch.val / 256 % 2) + l.val % 128, by omega⟩)

set_option maxHeartbeats 1600000 in
/-- The first result's block over the stacked products. -/
theorem pay596_at (v : FVec Ideal S1024x512 .bf16) (u : FVec Ideal S1024x512 .f32) (w1 w2 : FVec Ideal S1x256x256 .bf16) (b1 b2 : FVec Ideal S1x1x256 .f32)
    (ch : Fin 1024) (l : Fin 512) :
    ∃ t : FVec Ideal S1024x256 .f32,
      (∀ (c : Fin 4) (r p : Fin 256), t (ix2 ⟨256 * c.val + r.val, by omega⟩ p) = stacked v w2 b2 512 (by omega) c r p) ∧
      k0_pay596 (F := Ideal) v u (k0_pay592 (F := Ideal) v w1 b1) (k0_pay593 (F := Ideal) v w1 b1) (k0_pay594 (F := Ideal) v w1 b1)
        (k0_pay595 (F := Ideal) v w1 b1) w2 b2 (ix2 ch l) = u (ix2 ch l) * spread (k0_pay592 (F := Ideal) v w1 b1) t ch l := by
  unfold k0_pay596
  generalize hv : addf (F := Ideal) (matmul _ none _ _ _) _ = t
  refine ⟨t, fun c r p => ?_, ?_⟩
  · rw [← hv]
    pointwise
    unfold stacked
    refine congrArg₂ (· + ·) (congrArg₂ (· + ·) (Finset.sum_congr rfl fun q _ => congrArg₂ (· * ·) ?_ rfl)
      (Finset.sum_congr rfl fun q _ => congrArg₂ (· * ·) ?_ rfl)) rfl
    all_goals (split_ifs <;> (refine congrArg v ((ix2_inj ..).2 ⟨Fin.ext ?_, Fin.ext ?_⟩) <;> dsimp only <;> omega))
  · clear hv
    pointwise [k0_pay593, k0_pay594, k0_pay595]
    refine congrArg₂ (· * ·) rfl ?_
    generalize k0_pay592 (F := Ideal) v w1 b1 = s
    unfold spread
    by_cases hc : ch.val < 512
    · rw [if_pos hc]
      split_ifs
      all_goals first | (exfalso; omega) | (refine congrArg s ((ix2_inj ..).2 ⟨Fin.ext ?_, Fin.ext ?_⟩) <;> dsimp only <;> omega)
    · rw [if_neg hc]
      split_ifs
      all_goals first | (exfalso; omega) | (refine congrArg t ((ix2_inj ..).2 ⟨Fin.ext ?_, Fin.ext ?_⟩) <;> dsimp only <;> omega)

/-- With a block-diagonal pair of head matrices the stacked product is the head's own product over the chunk. -/
theorem stacked_at (v : FVec Ideal S1024x512 .bf16) (w : FVec Ideal S1x256x256 .bf16) (b : FVec Ideal S1x1x256 .f32) (o : Nat) (ho : o + 512 ≤ 1024)
    (M : Fin 2 → Fin 128 → Fin 128 → EReal) (B : Fin 2 → Fin 128 → EReal)
    (hw : ∀ (s s' : Fin 2) (q p : Fin 128), w (ix3 0 ⟨128 * s.val + q.val, by omega⟩ ⟨128 * s'.val + p.val, by omega⟩) = if s = s' then M s p q else 0)
    (hb : ∀ (s : Fin 2) (p : Fin 128), b (ix3 0 0 ⟨128 * s.val + p.val, by omega⟩) = B s p)
    (c : Fin 4) (r : Fin 256) (s : Fin 2) (p : Fin 128) :
    stacked v w b o ho c r ⟨128 * s.val + p.val, by omega⟩
      = (∑ q : Fin 128, v (ix2 ⟨o + 256 * s.val + r.val, by omega⟩ ⟨128 * c.val + q.val, by omega⟩) * M s p q) + B s p := by
  unfold stacked
  rw [hb]
  refine congrArg₂ (· + ·) ?_ rfl
  have h0 : ∀ q : Fin 128, w (ix3 0 ⟨q.val, by omega⟩ ⟨128 * s.val + p.val, by omega⟩) = if (0 : Fin 2) = s then M 0 p q else 0 := fun q => by
    rw [← hw 0 s q p]; exact congrArg w (by simp)
  have h1 : ∀ q : Fin 128, w (ix3 0 ⟨128 + q.val, by omega⟩ ⟨128 * s.val + p.val, by omega⟩) = if (1 : Fin 2) = s then M 1 p q else 0 := fun q => by
    rw [← hw 1 s q p]; exact congrArg w (by simp)
  simp only [h0, h1]
  match s with
  | ⟨0, _⟩ => simp
  | ⟨1, _⟩ => simp

/-- The first result's block: the gated branch at a channel and a column, its chunk the 128 columns around it. -/
theorem ya_at (wv wu wg : FVec Ideal S1024x1024 .bf16) (lg lb : FVec Ideal S1024x1 .f32) (w1 w2 : FVec Ideal S1x256x256 .bf16)
    (b1 b2 : FVec Ideal S1x1x256 .f32) (ws : Fin 4 → Fin 128 → Fin 128 → EReal) (bs : Fin 4 → Fin 128 → EReal)
    (hv : ∀ (r d : Fin 1024), wv (ix2 r d) = W d ⟨1024 + r.val, by omega⟩)
    (hu : ∀ (r d : Fin 1024), wu (ix2 r d) = W d ⟨0 + r.val, by omega⟩)
    (hg : ∀ (r d : Fin 1024), wg (ix2 r d) = W d ⟨2048 + r.val, by omega⟩)
    (h1 : ∀ (s s' : Fin 2) (q p : Fin 128), w1 (ix3 0 ⟨128 * s.val + q.val, by omega⟩ ⟨128 * s'.val + p.val, by omega⟩) = if s = s' then ws ⟨s.val, by omega⟩ p q else 0)
    (h2 : ∀ (s s' : Fin 2) (q p : Fin 128), w2 (ix3 0 ⟨128 * s.val + q.val, by omega⟩ ⟨128 * s'.val + p.val, by omega⟩) = if s = s' then ws ⟨2 + s.val, by omega⟩ p q else 0)
    (k1 : ∀ (s : Fin 2) (p : Fin 128), b1 (ix3 0 0 ⟨128 * s.val + p.val, by omega⟩) = bs ⟨s.val, by omega⟩ p)
    (k2 : ∀ (s : Fin 2) (p : Fin 128), b2 (ix3 0 0 ⟨128 * s.val + p.val, by omega⟩) = bs ⟨2 + s.val, by omega⟩ p)
    (v : FVec Ideal S1024x512 .bf16) (hvb : v = k0_pay8 (F := Ideal) (k0_pay2 (F := Ideal) x g wv) (k0_pay7 (F := Ideal) x g wv) lg lb)
    (ch : Fin 1024) (l : Fin 512) :
    k0_pay596 (F := Ideal) v (k0_pay591 (F := Ideal) (k0_pay5 (F := Ideal) x g wu) (k0_pay6 (F := Ideal) x g wg))
        (k0_pay592 (F := Ideal) v w1 b1) (k0_pay593 (F := Ideal) v w1 b1) (k0_pay594 (F := Ideal) v w1 b1)
        (k0_pay595 (F := Ideal) v w1 b1) w2 b2 (ix2 ch l)
      = ya (fun q => col x ⟨128 * (l.val / 128) + q.val, by omega⟩) (wcol g) W (wcol lg) (wcol lb) ws bs ⟨l.val % 128, by omega⟩ ch := by
  have hvr : ∀ (r : Fin 1024) (k : Fin 512), v (ix2 r k) = vrow (col x k) (wcol g) W (wcol lg) (wcol lb) r := fun r k => by
    rw [hvb, v_at _ _ _ _ (fun r l => pay7_at x g wv r l)]
    unfold vrow
    simp only [pay2_at x g W wv hv]
  obtain ⟨t, ht, e⟩ := pay596_at v (k0_pay591 (F := Ideal) (k0_pay5 (F := Ideal) x g wu) (k0_pay6 (F := Ideal) x g wg)) w1 w2 b1 b2 ch l
  rw [e, gated_at, pay5_at x g W wu hu, pay6_at x g W wg hg]
  have hl : (⟨128 * (l.val / 128) + l.val % 128, by omega⟩ : Fin 512) = l := Fin.ext (by dsimp only; omega)
  have h0 : (⟨0 + ch.val, by omega⟩ : Fin 5120) = ⟨ch.val, by omega⟩ := Fin.ext (by dsimp only; omega)
  unfold ya mixed
  dsimp only
  rw [hl, h0, mul_right_comm]
  refine congrArg₂ (· * ·) (congrArg₂ (· * ·) rfl ?_) rfl
  unfold spread
  split_ifs with hc
  · rw [pay592_at v w1 b1 ⟨l.val / 128, by omega⟩ ⟨ch.val % 256, by omega⟩,
      stacked_at v w1 b1 0 (by omega) (fun s => ws ⟨s.val, by omega⟩) (fun s => bs ⟨s.val, by omega⟩) h1 k1 _ _ ⟨ch.val / 256 % 2, by omega⟩ ⟨l.val % 128, by omega⟩]
    have e1 : (⟨0 + 256 * (ch.val / 256 % 2) + ch.val % 256, by omega⟩ : Fin 1024) = ch := Fin.ext (by dsimp only; omega)
    have e2 : (⟨ch.val / 256 % 2, by omega⟩ : Fin 4) = ⟨ch.val / 256, by omega⟩ := Fin.ext (by dsimp only; omega)
    dsimp only
    simp only [e1, e2, hvr]
  · rw [ht ⟨l.val / 128, by omega⟩ ⟨ch.val % 256, by omega⟩,
      stacked_at v w2 b2 512 (by omega) (fun s => ws ⟨2 + s.val, by omega⟩) (fun s => bs ⟨2 + s.val, by omega⟩) h2 k2 _ _ ⟨ch.val / 256 % 2, by omega⟩ ⟨l.val % 128, by omega⟩]
    have e1 : (⟨512 + 256 * (ch.val / 256 % 2) + ch.val % 256, by omega⟩ : Fin 1024) = ch := Fin.ext (by dsimp only; omega)
    have e2 : (⟨2 + ch.val / 256 % 2, by omega⟩ : Fin 4) = ⟨ch.val / 256, by omega⟩ := Fin.ext (by dsimp only; omega)
    dsimp only
    simp only [e1, e2, hvr]

end Cert.Mix
-- ==== Proof.MixOperand.lean ====
module

public import proofs.«01_k».proof.Proof.MixHost
public import proofs.«01_k».proof.Proof.MixSpec
public import Idealize.ShloMosaic.Lib.Pipeline.ValueKit
public import Idealize.ShloMosaic.Lib.Tactic.CleanTypes

@[expose] public section

set_option maxRecDepth 16384
noncomputable section
open Idealize.ShloMosaic Idealize.ShloMosaic.TcCoe Idealize.SL.Sem
open Cert.KernelIdeal Cert.KernelIdeal.Gen
namespace Cert.Mix

variable (m : (ℓ : Loc nD τ sig) → Buf (Elt Ideal) ℓ) (c : Dev nD)

/-- The arguments of the kernel, as plain functions. -/
def kP (n : Fin 16) (l : Fin 2048) (d : Fin 1024) : EReal := m ((c : Thread nD τ).loc main_arg0) (ix3 n l d)
def kS (n : Fin 16) (l : Fin 4096) (d : Fin 1024) : EReal := m ((c : Thread nD τ).loc main_arg1) (ix3 n l d)
def kG (d : Fin 1024) : EReal := m ((c : Thread nD τ).loc main_arg2) (ix1 d)
def kW (d : Fin 1024) (j : Fin 5120) : EReal := m ((c : Thread nD τ).loc main_arg3) (ix2 d j)
def kLg (d : Fin 1024) : EReal := m ((c : Thread nD τ).loc main_arg4) (ix1 d)
def kLb (d : Fin 1024) : EReal := m ((c : Thread nD τ).loc main_arg5) (ix1 d)
def kWs (h : Fin 4) (p q : Fin 128) : EReal := m ((c : Thread nD τ).loc main_arg6) (ix3 h p q)
def kBs (h : Fin 4) (p : Fin 128) : EReal := m ((c : Thread nD τ).loc main_arg7) (ix2 h p)

/-- The region's copy of the rmsnorm scale, -/
theorem opG (d : Fin 1024) : V m c main_v7 (ix2 d (0 : Fin 1)) = kG m c d := by
  simp only [V, hostOps0, hostOps0_1, hostOps0_2, hostOps0_3, hostOps0_4, List.flatten_cons, List.flatten_nil, List.append_nil, List.cons_append, List.nil_append]
  after_results_simp
  after_results_loop
  pointwise [kG]

/-- of the layernorm scale -/
theorem opLg (d : Fin 1024) : V m c main_v10 (ix2 d (0 : Fin 1)) = kLg m c d := by
  simp only [V, hostOps0, hostOps0_1, hostOps0_2, hostOps0_3, hostOps0_4, List.flatten_cons, List.flatten_nil, List.append_nil, List.cons_append, List.nil_append]
  after_results_simp
  after_results_loop
  pointwise [kLg]

/-- and bias, -/
theorem opLb (d : Fin 1024) : V m c main_v11 (ix2 d (0 : Fin 1)) = kLb m c d := by
  simp only [V, hostOps0, hostOps0_1, hostOps0_2, hostOps0_3, hostOps0_4, List.flatten_cons, List.flatten_nil, List.append_nil, List.cons_append, List.nil_append]
  after_results_simp
  after_results_loop
  pointwise [kLb]

/-- of the input weights, transposed, -/
theorem opW (j : Fin 5120) (d : Fin 1024) : V m c main_v9 (ix2 j d) = kW m c d j := by
  simp only [V, hostOps0, hostOps0_1, hostOps0_2, hostOps0_3, hostOps0_4, List.flatten_cons, List.flatten_nil, List.append_nil, List.cons_append, List.nil_append]
  after_results_simp
  after_results_loop
  pointwise [kW]

/-- of the spatial bias, two heads to a row, -/
theorem opBs (e s : Fin 2) (p : Fin 128) :
    V m c main_v30 (ix3 e (0 : Fin 1) (⟨128 * s.val + p.val, by omega⟩ : Fin 256)) = kBs m c ⟨2 * e.val + s.val, by omega⟩ p := by
  simp only [V, hostOps0, hostOps0_1, hostOps0_2, hostOps0_3, hostOps0_4, List.flatten_cons, List.flatten_nil, List.append_nil, List.cons_append, List.nil_append]
  after_results_simp
  after_results_loop
  pointwise [kBs]
  exact congrArg (m (c, Proc.tc.devRef main_arg7)) ((ix2_inj ..).2 ⟨Fin.ext (by dsimp only; omega), rfl⟩)

/-- Two matrices side by side on the diagonal of a larger one. -/
def diag (a b z : FVec Ideal S128x128 .f32) : FVec Ideal S256x256 .f32 :=
  concatenate S256x256 0 [⟨S128x256, concatenate S128x256 1 [⟨S128x128, a⟩, ⟨S128x128, z⟩] concatenates_S128x128_S128x128_S128x256_d1⟩,
    ⟨S128x256, concatenate S128x256 1 [⟨S128x128, z⟩, ⟨S128x128, b⟩] concatenates_S128x128_S128x128_S128x256_d1⟩]
    concatenates_S128x256_S128x256_S256x256_d0

/-- Its entries. -/
theorem diag_at (a b z : FVec Ideal S128x128 .f32) (hz : ∀ q p : Fin 128, z (ix2 q p) = 0) (s s' : Fin 2) (q p : Fin 128) :
    diag a b z (ix2 (⟨128 * s.val + q.val, by omega⟩ : Fin 256) (⟨128 * s'.val + p.val, by omega⟩ : Fin 256))
      = if s = s' then (if s = 0 then a (ix2 q p) else b (ix2 q p)) else 0 := by
  match s, s' with
  | 0, 0 => pointwise [diag, hz]
  | 0, 1 => pointwise [diag, hz]
  | 1, 0 => pointwise [diag, hz]
  | 1, 1 => pointwise [diag, hz]

/-- A head's matrix, transposed. -/
def head (w : FVec Ideal S4x128x128 .f32) (o : Fin 3 → ℕ) (h : S4x128x128.Slices o S1x128x128) : FVec Ideal S128x128 .f32 :=
  shapeCast S128x128 (extractStridedSlice S1x128x128 o (transpose S4x128x128 [0, 2, 1] w transposes_S4x128x128_S4x128x128_0_2_1) h)
    shapeCasts_S1x128x128_S128x128

/-- The zeros off the diagonal. -/
def zeros : FVec Ideal S128x128 .f32 := broadcastInDim S128x128 ![] bcast_S_S128x128 (constant S_ .f32 0x00000000#32)

theorem zeros_at (q p : Fin 128) : zeros (ix2 q p) = 0 := by pointwise [zeros]

/-- The region's copy of the spatial matrices is two such matrices. -/
theorem opPairs : V m c main_v29 = truncf .bf16 (concatenate S2x256x256 0
    [⟨S1x256x256, broadcastInDim S1x256x256 ![1, 2] bcast_S256x256_S1x256x256_1_2 (diag
      (head (m ((c : Thread nD τ).loc main_arg6)) ![0, 0, 0] slices_S4x128x128_S1x128x128_0_0_0)
      (head (m ((c : Thread nD τ).loc main_arg6)) ![1, 0, 0] slices_S4x128x128_S1x128x128_1_0_0) zeros)⟩,
     ⟨S1x256x256, broadcastInDim S1x256x256 ![1, 2] bcast_S256x256_S1x256x256_1_2 (diag
      (head (m ((c : Thread nD τ).loc main_arg6)) ![2, 0, 0] slices_S4x128x128_S1x128x128_2_0_0)
      (head (m ((c : Thread nD τ).loc main_arg6)) ![3, 0, 0] slices_S4x128x128_S1x128x128_3_0_0) zeros)⟩]
    concatenates_S1x256x256_S1x256x256_S2x256x256_d0) bitsLt_bf16_f32 := by
  simp only [V, hostOps0, hostOps0_1, hostOps0_2, hostOps0_3, hostOps0_4, List.flatten_cons, List.flatten_nil, List.append_nil, List.cons_append, List.nil_append]
  after_results_simp
  after_results_loop
  rfl

/-- so, entry by entry, two heads to a block-diagonal matrix, -/
theorem opWs (e s s' : Fin 2) (q p : Fin 128) :
    V m c main_v29 (ix3 e (⟨128 * s.val + q.val, by omega⟩ : Fin 256) (⟨128 * s'.val + p.val, by omega⟩ : Fin 256))
      = if s = s' then kWs m c ⟨2 * e.val + s.val, by omega⟩ p q else 0 := by
  rw [opPairs]
  match e with
  | 0 =>
    refine Eq.trans ?_ ((diag_at (head (m ((c : Thread nD τ).loc main_arg6)) ![0, 0, 0] slices_S4x128x128_S1x128x128_0_0_0)
      (head (m ((c : Thread nD τ).loc main_arg6)) ![1, 0, 0] slices_S4x128x128_S1x128x128_1_0_0) _ zeros_at s s' q p).trans (if_congr Iff.rfl ?_ rfl))
    · pointwise
    · match s with
      | 0 => pointwise [head, kWs]
      | 1 => pointwise [head, kWs]
  | 1 =>
    refine Eq.trans ?_ ((diag_at (head (m ((c : Thread nD τ).loc main_arg6)) ![2, 0, 0] slices_S4x128x128_S1x128x128_2_0_0)
      (head (m ((c : Thread nD τ).loc main_arg6)) ![3, 0, 0] slices_S4x128x128_S1x128x128_3_0_0) _ zeros_at s s' q p).trans (if_congr Iff.rfl ?_ rfl))
    · pointwise
    · match s with
      | 0 => pointwise [head, kWs]
      | 1 => pointwise [head, kWs]

/-- The chunks, one number at a time. -/
theorem chunkX_apply (P : Fin 16 → Fin 2048 → Fin 1024 → EReal) (S : Fin 16 → Fin 4096 → Fin 1024 → EReal) (k : Fin 768) (p : Fin 128) (d : Fin 1024) :
    chunkX P S k p d = if h : k.val < 256 then P ⟨k.val % 16, by omega⟩ ⟨k.val / 16 * 128 + p.val, by omega⟩ d
      else S ⟨(k.val - 256) % 16, by omega⟩ ⟨(k.val - 256) / 16 * 128 + p.val, by omega⟩ d := by
  unfold chunkX
  split <;> rfl

/-- The chunk of a column of the prompt -/
theorem chunk_lo (P : Fin 16 → Fin 2048 → Fin 1024 → EReal) (S : Fin 16 → Fin 4096 → Fin 1024 → EReal) (r : Fin 98304) (d : Fin 1024) (h : r.val < 32768) :
    P ⟨r.val / 128 % 16, by omega⟩ ⟨r.val / 2048 * 128 + r.val % 128, by omega⟩ d
      = chunkX P S ⟨r.val / 128, by omega⟩ ⟨r.val % 128, by omega⟩ d := by
  rw [chunkX_apply, dif_pos (show r.val / 128 < 256 by omega)]
  have e : r.val / 128 / 16 = r.val / 2048 := by omega
  simp only [e]

/-- and of one of the sample. -/
theorem chunk_hi (P : Fin 16 → Fin 2048 → Fin 1024 → EReal) (S : Fin 16 → Fin 4096 → Fin 1024 → EReal) (r : Fin 98304) (d : Fin 1024) (h : ¬ r.val < 32768) :
    S ⟨(r.val - 32768) / 128 % 16, by omega⟩ ⟨(r.val - 32768) / 2048 * 128 + (r.val - 32768) % 128, by omega⟩ d
      = chunkX P S ⟨r.val / 128, by omega⟩ ⟨r.val % 128, by omega⟩ d := by
  rw [chunkX_apply, dif_neg (show ¬ r.val / 128 < 256 by omega)]
  have e1 : r.val / 128 - 256 = (r.val - 32768) / 128 := by omega
  have e2 : (r.val - 32768) / 128 / 16 = (r.val - 32768) / 2048 := by omega
  have e3 : (r.val - 32768) % 128 = r.val % 128 := by omega
  simp only [e1, e2, e3]

set_option maxRecDepth 200000 in
/-- and of the sequences, cut into chunks. -/
theorem opX (d : Fin 1024) (r : Fin 98304) :
    V m c main_v6 (ix2 d r) = chunkX (kP m c) (kS m c) ⟨r.val / 128, by omega⟩ ⟨r.val % 128, by omega⟩ d := by
  simp only [V, hostOps0, hostOps0_1, hostOps0_2, hostOps0_3, hostOps0_4, List.flatten_cons, List.flatten_nil, List.append_nil, List.cons_append, List.nil_append]
  after_results_simp
  after_results_loop
  generalize hK : chunkX (kP m c) (kS m c) ⟨r.val / 128, by omega⟩ ⟨r.val % 128, by omega⟩ d = k
  pointwise
  split_ifs with h
  · exact (chunk_lo (kP m c) (kS m c) r d h).trans hK
  all_goals exact (chunk_hi (kP m c) (kS m c) r d h).trans hK

end Cert.Mix
-- ==== Proof.MixValue.lean ====
module

public import proofs.«01_k».proof.Proof.MixDats
public import proofs.«01_k».proof.Proof.MixBlock
public import proofs.«01_k».proof.Proof.MixOperand
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Mix

/-! ## The blocks the body stores, by their entries -/

/-- A slice of the weights' rows, -/
theorem ld_rows (w : Vec Ideal S5120x1024 .bf16) (o : ℕ) (ho : o + 1024 ≤ 5120) (inb) (r d : Fin 1024) :
    View.ld w (Rect.unit (s := S5120x1024) ![o, 0] S1024x1024.size inb) (ix2 r d) = w (ix2 (⟨o + r.val, by omega⟩ : Fin 5120) d) :=
  View.ld_unit_apply_of _ _ _ _ _ _ fun a => match a with
    | ⟨0, _⟩ => rfl
    | ⟨1, _⟩ => (Nat.zero_add _).symm

/-- one of the two mixing matrices, -/
theorem ld_mats (w : Vec Ideal S2x256x256 .bf16) (e : Fin 2) (inb) (r d : Fin 256) :
    View.ld w (Rect.unit (s := S2x256x256) ![e.val, 0, 0] S1x256x256.size inb) (ix3 (0 : Fin 1) r d) = w (ix3 e r d) :=
  View.ld_unit_apply_of _ _ _ _ _ _ fun a => match a with
    | ⟨0, _⟩ => rfl
    | ⟨1, _⟩ => (Nat.zero_add _).symm
    | ⟨2, _⟩ => (Nat.zero_add _).symm

/-- and one of their two biases. -/
theorem ld_bias (w : Vec Ideal S2x1x256 .f32) (e : Fin 2) (inb) (d : Fin 256) :
    View.ld w (Rect.unit (s := S2x1x256) ![e.val, 0, 0] S1x1x256.size inb) (ix3 (0 : Fin 1) (0 : Fin 1) d) = w (ix3 e (0 : Fin 1) d) :=
  View.ld_unit_apply_of _ _ _ _ _ _ fun a => match a with
    | ⟨0, _⟩ => rfl
    | ⟨1, _⟩ => rfl
    | ⟨2, _⟩ => (Nat.zero_add _).symm

/-- A whole block and a whole column are read as they are. -/
theorem ld_block (x : Vec Ideal S1024x512 .f32) : View.ld x rBlock = x := View.ld_unit_lit _ _ (by decide)
theorem ld_col (x : Vec Ideal S1024x1 .f32) : View.ld x rCol = x := View.ld_unit_lit _ _ (by decide)

variable (x : Vec Ideal S1024x512 .f32) (g : Vec Ideal S1024x1 .f32) (w : Vec Ideal S5120x1024 .bf16) (a b : Vec Ideal S1024x1 .f32)
  (s : Vec Ideal S2x256x256 .bf16) (d : Vec Ideal S2x1x256 .f32)
  (W : Fin 1024 → Fin 5120 → EReal) (ws : Fin 4 → Fin 128 → Fin 128 → EReal) (bs : Fin 4 → Fin 128 → EReal)

/-- The first result's block. -/
theorem outY_at (hw : ∀ (j : Fin 5120) (k : Fin 1024), w (ix2 j k) = W k j)
    (hs : ∀ (e i i' : Fin 2) (q p : Fin 128), s (ix3 e (⟨128 * i.val + q.val, by omega⟩ : Fin 256) (⟨128 * i'.val + p.val, by omega⟩ : Fin 256))
      = if i = i' then ws ⟨2 * e.val + i.val, by omega⟩ p q else 0)
    (hb : ∀ (e i : Fin 2) (p : Fin 128), d (ix3 e (0 : Fin 1) (⟨128 * i.val + p.val, by omega⟩ : Fin 256)) = bs ⟨2 * e.val + i.val, by omega⟩ p)
    (ch : Fin 1024) (l : Fin 512) :
    outY x g w a b s d (ix2 ch l)
      = ya (fun q => col x ⟨128 * (l.val / 128) + q.val, by omega⟩) (wcol g) W (wcol a) (wcol b) ws bs ⟨l.val % 128, by omega⟩ ch := by
  unfold outY vBlock
  rw [View.canon_cons_unit_lit _ _ _ (by decide), ld_block, ld_col, ld_col, ld_col]
  refine ya_at x g W _ _ _ a b _ _ _ _ ws bs (fun r k => ?_) (fun r k => ?_) (fun r k => ?_)
    (fun i i' q p => ?_) (fun i i' q p => ?_) (fun i p => ?_) (fun i p => ?_) _ rfl ch l
  · exact (ld_rows w 1024 (by decide) _ r k).trans (hw _ k)
  · exact (ld_rows w 0 (by decide) _ r k).trans (hw _ k)
  · exact (ld_rows w 2048 (by decide) _ r k).trans (hw _ k)
  · refine (ld_mats s 0 _ _ _).trans ((hs 0 i i' q p).trans (if_congr Iff.rfl (congrArg (ws · p q) (Fin.ext ?_)) rfl))
    dsimp only [Fin.val_zero]; omega
  · exact (ld_mats s 1 _ _ _).trans (hs 1 i i' q p)
  · refine (ld_bias d 0 _ _).trans ((hb 0 i p).trans (congrArg (bs · p) (Fin.ext ?_)))
    dsimp only [Fin.val_zero]; omega
  · exact (ld_bias d 1 _ _).trans (hb 1 i p)

/-- The second's, in tile-major order. -/
theorem outX_at (hw : ∀ (j : Fin 5120) (k : Fin 1024), w (ix2 j k) = W k j) (h : Fin 128) (u : Fin 32) (p : Fin 128) :
    outX x g w (ix3 h u p) = proj (col x ⟨128 * (u.val / 8) + p.val, by omega⟩) (wcol g) W ⟨3072 + (8 * h.val + u.val % 8), by omega⟩ := by
  unfold outX
  rw [ld_block, ld_col]
  exact pay3_at x g W _ (fun r k => (ld_rows w 3072 (by decide) _ r k).trans (hw _ k)) ⟨8 * h.val + u.val % 8, by omega⟩ ⟨128 * (u.val / 8) + p.val, by omega⟩

/-- The third's. -/
theorem outZ_at (hw : ∀ (j : Fin 5120) (k : Fin 1024), w (ix2 j k) = W k j) (ch : Fin 1024) (l : Fin 512) :
    outZ x g w (ix2 ch l) = silu (proj (col x l) (wcol g) W ⟨4096 + ch.val, by omega⟩) := by
  unfold outZ
  rw [View.canon_cons_unit_lit _ _ _ (by decide), ld_block, ld_col, sz_at]
  exact congrArg silu (pay4_at x g W _ (fun r k => (ld_rows w 4096 (by decide) _ r k).trans (hw _ k)) ch l)

/-! ## The blocks the body is given -/

variable (m : (ℓ : Loc nD τ sig) → Buf (Elt Ideal) ℓ) (c : Dev nD)

/-- The windows' index maps. -/
theorem idx : ∀ t : Fin cfg0.N, win0_0.index t = ![0, t.val] ∧ win0_1.index t = ![0, 0] ∧ win0_2.index t = ![0, 0] ∧ win0_3.index t = ![0, 0]
    ∧ win0_4.index t = ![0, 0] ∧ win0_5.index t = ![0, 0, 0] ∧ win0_6.index t = ![0, 0, 0] ∧ win0_7.index t = ![0, t.val]
    ∧ win0_8.index t = ![0, t.val, 0] ∧ win0_9.index t = ![0, t.val] ∧ t.val < 192 :=
  (by decide +kernel : ∀ t : Fin grid0.N, _)

/-- The point's number. -/
theorem pt (t : Fin cfg0.N) : t.val < 192 := (idx t).2.2.2.2.2.2.2.2.2.2

theorem blk0 (t : Fin cfg0.N) (k : Fin 1024) (l : Fin 512) : (show FVec Ideal S1024x512 .f32 from iblk m c 0 t) (ix2 k l)
    = V m c main_v6 (ix2 k (⟨512 * t.val + l.val, by have := pt t; omega⟩ : Fin 98304)) := by
  blk_ext [iblk, idx t]
theorem blk1 (t : Fin cfg0.N) (k : Fin 1024) : (show FVec Ideal S1024x1 .f32 from iblk m c 1 t) (ix2 k (0 : Fin 1)) = V m c main_v7 (ix2 k (0 : Fin 1)) := by
  blk_ext [iblk, idx t]
theorem blk2 (t : Fin cfg0.N) (j : Fin 5120) (k : Fin 1024) : (show FVec Ideal S5120x1024 .bf16 from iblk m c 2 t) (ix2 j k) = V m c main_v9 (ix2 j k) := by
  blk_ext [iblk, idx t]
theorem blk3 (t : Fin cfg0.N) (k : Fin 1024) : (show FVec Ideal S1024x1 .f32 from iblk m c 3 t) (ix2 k (0 : Fin 1)) = V m c main_v10 (ix2 k (0 : Fin 1)) := by
  blk_ext [iblk, idx t]
theorem blk4 (t : Fin cfg0.N) (k : Fin 1024) : (show FVec Ideal S1024x1 .f32 from iblk m c 4 t) (ix2 k (0 : Fin 1)) = V m c main_v11 (ix2 k (0 : Fin 1)) := by
  blk_ext [iblk, idx t]
theorem blk5 (t : Fin cfg0.N) (e : Fin 2) (j k : Fin 256) : (show FVec Ideal S2x256x256 .bf16 from iblk m c 5 t) (ix3 e j k) = V m c main_v29 (ix3 e j k) := by
  blk_ext [iblk, idx t]
theorem blk6 (t : Fin cfg0.N) (e : Fin 2) (k : Fin 256) : (show FVec Ideal S2x1x256 .f32 from iblk m c 6 t) (ix3 e (0 : Fin 1) k) = V m c main_v30 (ix3 e (0 : Fin 1) k) := by
  blk_ext [iblk, idx t]

/-- The columns of a block are columns of the sequences' chunks; -/
theorem col_at (t : Fin cfg0.N) (l : Fin 512) : col (show FVec Ideal S1024x512 .f32 from iblk m c 0 t) l
    = chunkX (kP m c) (kS m c) ⟨4 * t.val + l.val / 128, by have := pt t; omega⟩ ⟨l.val % 128, by omega⟩ := by
  funext k
  refine (blk0 m c t k l).trans ((opX m c k _).trans ?_)
  have e1 : (512 * t.val + l.val) / 128 = 4 * t.val + l.val / 128 := by omega
  have e2 : (512 * t.val + l.val) % 128 = l.val % 128 := by omega
  simp only [e1, e2]
/-- the other operands are the arguments. -/
theorem wG (t : Fin cfg0.N) : wcol (show FVec Ideal S1024x1 .f32 from iblk m c 1 t) = kG m c :=
  funext fun k => (blk1 m c t k).trans (opG m c k)
theorem wLg (t : Fin cfg0.N) : wcol (show FVec Ideal S1024x1 .f32 from iblk m c 3 t) = kLg m c :=
  funext fun k => (blk3 m c t k).trans (opLg m c k)
theorem wLb (t : Fin cfg0.N) : wcol (show FVec Ideal S1024x1 .f32 from iblk m c 4 t) = kLb m c :=
  funext fun k => (blk4 m c t k).trans (opLb m c k)

/-! ## The results -/

/-- The chunks of the kernel's arguments. -/
abbrev kX : Fin 768 → Fin 128 → Fin 1024 → EReal := chunkX (kP m c) (kS m c)

/-- The kernel's first result: the mixed product, one column to a position. -/
def resY : FVec Ideal S1024x98304 .bf16 := fun i =>
  ya (kX m c ⟨(i 1).val / 128, by have := (i 1).isLt; change (i 1).val < 98304 at this; omega⟩) (kG m c) (kW m c) (kLg m c) (kLb m c) (kWs m c) (kBs m c)
    ⟨(i 1).val % 128, by omega⟩ ⟨(i 0).val, (i 0).isLt⟩
/-- Its second: the state-space input in tile-major order. -/
def resX : FVec Ideal S128x6144x128 .f32 := fun i =>
  proj (kX m c ⟨(i 1).val / 8, by have := (i 1).isLt; change (i 1).val < 6144 at this; omega⟩ ⟨(i 2).val, (i 2).isLt⟩) (kG m c) (kW m c)
    ⟨3072 + (8 * (i 0).val + (i 1).val % 8), by have := (i 0).isLt; change (i 0).val < 128 at this; omega⟩
/-- Its third: the gate of the state-space output. -/
def resZ : FVec Ideal S1024x98304 .f32 := fun i =>
  silu (proj (kX m c ⟨(i 1).val / 128, by have := (i 1).isLt; change (i 1).val < 98304 at this; omega⟩ ⟨(i 1).val % 128, by omega⟩) (kG m c) (kW m c)
    ⟨4096 + (i 0).val, by have := (i 0).isLt; change (i 0).val < 1024 at this; omega⟩)

theorem pointY (t : Fin cfg0.N) (ch : Fin 1024) (l : Fin 512) :
    outY (iblk m c 0 t) (iblk m c 1 t) (iblk m c 2 t) (iblk m c 3 t) (iblk m c 4 t) (iblk m c 5 t) (iblk m c 6 t) (ix2 ch l)
      = resY m c (ix2 ch (⟨512 * t.val + l.val, by have := pt t; omega⟩ : Fin 98304)) := by
  refine (outY_at _ _ _ _ _ _ _ (kW m c) (kWs m c) (kBs m c) (fun j k => (blk2 m c t j k).trans (opW m c j k))
    (fun e i i' q p => (blk5 m c t e _ _).trans (opWs m c e i i' q p)) (fun e i p => (blk6 m c t e _).trans (opBs m c e i p)) ch l).trans ?_
  rw [wG, wLg, wLb]
  have e1 : (512 * t.val + l.val) / 128 = 4 * t.val + l.val / 128 := by omega
  have e2 : (512 * t.val + l.val) % 128 = l.val % 128 := by omega
  unfold resY
  dsimp only [ix2_0, ix2_1]
  simp only [e1, e2]
  refine congrArg (fun X => ya X _ _ _ _ _ _ _ _) (funext fun q => (col_at m c t _).trans ?_)
  have e3 : (128 * (l.val / 128) + q.val) / 128 = l.val / 128 := by omega
  have e4 : (128 * (l.val / 128) + q.val) % 128 = q.val := by omega
  simp only [e3, e4]

theorem pointX (t : Fin cfg0.N) (h : Fin 128) (u : Fin 32) (p : Fin 128) :
    outX (iblk m c 0 t) (iblk m c 1 t) (iblk m c 2 t) (ix3 h u p)
      = resX m c (ix3 h (⟨32 * t.val + u.val, by have := pt t; omega⟩ : Fin 6144) p) := by
  refine (outX_at _ _ _ (kW m c) (fun j k => (blk2 m c t j k).trans (opW m c j k)) h u p).trans ?_
  rw [wG]
  unfold resX
  refine (congrArg (proj · _ _ _) (col_at m c t _)).trans ?_
  have e1 : (32 * t.val + u.val) / 8 = 4 * t.val + u.val / 8 := by omega
  have e2 : (32 * t.val + u.val) % 8 = u.val % 8 := by omega
  have e3 : (128 * (u.val / 8) + p.val) / 128 = u.val / 8 := by omega
  have e4 : (128 * (u.val / 8) + p.val) % 128 = p.val := by omega
  dsimp only [ix3_0, ix3_1, ix3_2]
  simp only [e1, e2, e3, e4]

theorem pointZ (t : Fin cfg0.N) (ch : Fin 1024) (l : Fin 512) :
    outZ (iblk m c 0 t) (iblk m c 1 t) (iblk m c 2 t) (ix2 ch l)
      = resZ m c (ix2 ch (⟨512 * t.val + l.val, by have := pt t; omega⟩ : Fin 98304)) := by
  refine (outZ_at _ _ _ (kW m c) (fun j k => (blk2 m c t j k).trans (opW m c j k)) ch l).trans ?_
  rw [wG]
  unfold resZ
  refine (congrArg (fun X => silu (proj X _ _ _)) (col_at m c t _)).trans ?_
  have e1 : (512 * t.val + l.val) / 128 = 4 * t.val + l.val / 128 := by omega
  have e2 : (512 * t.val + l.val) % 128 = l.val % 128 := by omega
  dsimp only [ix2_0, ix2_1]
  simp only [e1, e2]

/-- The three result arrays after the run. -/
theorem finalY : (dats m 0 c).arrAt 7 (cfgs 0).N = resY m c := by
  refine (dats m 0 c).arrAt_eq_of_covers 7 _ (by decide +kernel) fun t _ y => ?_
  blk_simp
  rw [after_Y]
  obtain ⟨ch, l, rfl⟩ : ∃ (ch : Fin 1024) (l : Fin 512), y = ix2 ch l := ⟨y 0, y 1, eq_ix2 y⟩
  refine (pointY m c t ch l).trans ?_
  blk_ext [idx t]

theorem finalX : (dats m 0 c).arrAt 8 (cfgs 0).N = resX m c := by
  refine (dats m 0 c).arrAt_eq_of_covers 8 _ (by decide +kernel) fun t _ y => ?_
  blk_simp
  rw [after_X]
  obtain ⟨h, u, p, rfl⟩ : ∃ (h : Fin 128) (u : Fin 32) (p : Fin 128), y = ix3 h u p := ⟨y 0, y 1, y 2, eq_ix3 y⟩
  refine (pointX m c t h u p).trans ?_
  blk_ext [idx t]

theorem finalZ : (dats m 0 c).arrAt 9 (cfgs 0).N = resZ m c := by
  refine (dats m 0 c).arrAt_eq_of_covers 9 _ (by decide +kernel) fun t _ y => ?_
  blk_simp
  rw [after_Z]
  obtain ⟨ch, l, rfl⟩ : ∃ (ch : Fin 1024) (l : Fin 512), y = ix2 ch l := ⟨y 0, y 1, eq_ix2 y⟩
  refine (pointZ m c t ch l).trans ?_
  blk_ext [idx t]

end Cert.Mix
-- ==== Proof.MixRef.lean ====
module

public import proofs.«01_k».proof.Proof.Gen.ReferenceIdeal.Run
public import proofs.«01_k».proof.Proof.MixSpec
public import Idealize.ShloMosaic.Lib.Claim
public import Idealize.ShloMosaic.Lib.Tactic.CleanTypes

@[expose] public section

set_option maxRecDepth 16384
noncomputable section
open Idealize.ShloMosaic Idealize.ShloMosaic.TcCoe Idealize.SL.Sem
open Cert.ReferenceIdeal Cert.ReferenceIdeal.Gen Cert.ReferenceIdeal.Value
namespace Cert.Mix

variable (V0 : Valuation τ sig (Elt Ideal))

/-- The arguments of the reference, as plain functions. -/
def refP (n : Fin 16) (l : Fin 2048) (d : Fin 1024) : EReal := V0 (Proc.devRef .tc main_arg0) (ix3 n l d)
def refS (n : Fin 16) (l : Fin 4096) (d : Fin 1024) : EReal := V0 (Proc.devRef .tc main_arg1) (ix3 n l d)
def refG (d : Fin 1024) : EReal := V0 (Proc.devRef .tc main_arg2) (ix1 d)
def refW (d : Fin 1024) (j : Fin 5120) : EReal := V0 (Proc.devRef .tc main_arg3) (ix2 d j)
def refLg (d : Fin 1024) : EReal := V0 (Proc.devRef .tc main_arg4) (ix1 d)
def refLb (d : Fin 1024) : EReal := V0 (Proc.devRef .tc main_arg5) (ix1 d)
def refWs (h : Fin 4) (p q : Fin 128) : EReal := V0 (Proc.devRef .tc main_arg6) (ix3 h p q)
def refBs (h : Fin 4) (p : Fin 128) : EReal := V0 (Proc.devRef .tc main_arg7) (ix2 h p)

/-- The projection of the prompt, -/
theorem proj_prompt (n : Fin 16) (l : Fin 2048) (j : Fin 5120) :
    res_main_v13 V0 (ix3 n l j) = proj (refP V0 n l) (refG V0) (refW V0) j := by
  unfold res_main_v13
  clean_types
  pointwise [proj, rms, rstd, mean, refP, refG, refW]

/-- and of the sample. -/
theorem proj_sample (n : Fin 16) (l : Fin 4096) (j : Fin 5120) :
    res_main_v92 V0 (ix3 n l j) = proj (refS V0 n l) (refG V0) (refW V0) j := by
  unfold res_main_v92
  clean_types
  pointwise [proj, rms, rstd, mean, refS, refG, refW]

/-- gelu of the prompt's second quarter. -/
theorem gelu_prompt (n : Fin 16) (l : Fin 2048) (k : Fin 1024) :
    res_main_v44 V0 (ix3 n l k) = gelu (proj (refP V0 n l) (refG V0) (refW V0) ⟨1024 + k.val, by omega⟩) := by
  unfold res_main_v44 res_main_v15
  clean_types
  pointwise [proj_prompt]
  exact gelu_cube _

/-- The sample's. -/
theorem gelu_sample (n : Fin 16) (l : Fin 4096) (k : Fin 1024) :
    res_main_v123 V0 (ix3 n l k) = gelu (proj (refS V0 n l) (refG V0) (refW V0) ⟨1024 + k.val, by omega⟩) := by
  unfold res_main_v123 res_main_v94
  clean_types
  pointwise [proj_sample]
  exact gelu_cube _

/-- The prompt's centred row. -/
theorem centre_prompt (n : Fin 16) (l : Fin 2048) (k : Fin 1024) :
    res_main_v50 V0 (ix3 n l k) = gelu (proj (refP V0 n l) (refG V0) (refW V0) ⟨1024 + k.val, by omega⟩)
      - mean (fun k => gelu (proj (refP V0 n l) (refG V0) (refW V0) ⟨1024 + k.val, by omega⟩)) := by
  unfold res_main_v50
  clean_types
  pointwise [gelu_prompt, mean]

/-- The sample's. -/
theorem centre_sample (n : Fin 16) (l : Fin 4096) (k : Fin 1024) :
    res_main_v129 V0 (ix3 n l k) = gelu (proj (refS V0 n l) (refG V0) (refW V0) ⟨1024 + k.val, by omega⟩)
      - mean (fun k => gelu (proj (refS V0 n l) (refG V0) (refW V0) ⟨1024 + k.val, by omega⟩)) := by
  unfold res_main_v129
  clean_types
  pointwise [gelu_sample, mean]

set_option maxRecDepth 200000 in
/-- Two batches laid out as rows of positions, by chunk, sequence and place in the chunk. -/
theorem rows_at (y0 : FVec Ideal S16x2048x1024 .f32) (y1 : FVec Ideal S16x4096x1024 .f32) (r : Fin 98304) (ch : Fin 1024) :
    concatenate S98304x1024 0 [⟨S32768x1024, shapeCast S32768x1024 (transpose S16x16x128x1024 [1, 0, 2, 3] (shapeCast S16x16x128x1024 y0
        shapeCasts_S16x2048x1024_S16x16x128x1024) transposes_S16x16x128x1024_S16x16x128x1024_1_0_2_3) shapeCasts_S16x16x128x1024_S32768x1024⟩,
      ⟨S65536x1024, shapeCast S65536x1024 (transpose S32x16x128x1024 [1, 0, 2, 3] (shapeCast S16x32x128x1024 y1
        shapeCasts_S16x4096x1024_S16x32x128x1024) transposes_S16x32x128x1024_S32x16x128x1024_1_0_2_3) shapeCasts_S32x16x128x1024_S65536x1024⟩]
      concatenates_S32768x1024_S65536x1024_S98304x1024_d0 (ix2 r ch)
    = if h : r.val < 32768 then y0 (ix3 ⟨r.val / 128 % 16, by omega⟩ ⟨r.val / 2048 * 128 + r.val % 128, by omega⟩ ch)
      else y1 (ix3 ⟨(r.val - 32768) / 128 % 16, by omega⟩ ⟨(r.val - 32768) / 2048 * 128 + r.val % 128, by omega⟩ ch) := by
  pointwise
  split_ifs with h
  · refine congrArg y0 ((ix3_inj ..).2 ⟨Fin.ext ?_, Fin.ext ?_, rfl⟩) <;> dsimp only <;> omega
  all_goals refine congrArg y1 ((ix3_inj ..).2 ⟨Fin.ext ?_, Fin.ext ?_, rfl⟩) <;> dsimp only <;> omega

/-- The chunk a row lies in, at the row's place. -/
theorem chunkX_row (P : Fin 16 → Fin 2048 → Fin 1024 → EReal) (S : Fin 16 → Fin 4096 → Fin 1024 → EReal) (r : Fin 98304) (q : Fin 128) :
    chunkX P S ⟨r.val / 128, by omega⟩ q = if h : r.val < 32768 then P ⟨r.val / 128 % 16, by omega⟩ ⟨r.val / 2048 * 128 + q.val, by omega⟩
      else S ⟨(r.val - 32768) / 128 % 16, by omega⟩ ⟨(r.val - 32768) / 2048 * 128 + q.val, by omega⟩ := by
  unfold chunkX
  dsimp only
  by_cases h : r.val < 32768
  · rw [dif_pos h, dif_pos (by omega)]
    exact congrArg₂ P (Fin.ext rfl) (Fin.ext (by dsimp only; omega))
  · rw [dif_neg h, dif_neg (by omega)]
    exact congrArg₂ S (Fin.ext (by dsimp only; omega)) (Fin.ext (by dsimp only; omega))

/-- A row's own columns in its chunk. -/
theorem chunkX_self (P : Fin 16 → Fin 2048 → Fin 1024 → EReal) (S : Fin 16 → Fin 4096 → Fin 1024 → EReal) (r : Fin 98304) :
    chunkX P S ⟨r.val / 128, by omega⟩ ⟨r.val % 128, by omega⟩ = if h : r.val < 32768 then P ⟨r.val / 128 % 16, by omega⟩ ⟨r.val / 2048 * 128 + r.val % 128, by omega⟩
      else S ⟨(r.val - 32768) / 128 % 16, by omega⟩ ⟨(r.val - 32768) / 2048 * 128 + r.val % 128, by omega⟩ :=
  chunkX_row P S r ⟨r.val % 128, by omega⟩

/-- The chunk that column `r` belongs to, of the reference's arguments. -/
abbrev refX (c : Fin 768) (q : Fin 128) : Fin 1024 → EReal := chunkX (refP V0) (refS V0) c q

set_option maxRecDepth 200000 in
/-- The reference's first result before its last transpose. -/
theorem ya_ref (r : Fin 98304) (ch : Fin 1024) :
    res_main_v164 V0 (ix2 r ch) = ya (refX V0 ⟨r.val / 128, by omega⟩) (refG V0) (refW V0) (refLg V0) (refLb V0) (refWs V0) (refBs V0) ⟨r.val % 128, by omega⟩ ch := by
  unfold res_main_v164
  clean_types
  refine (rows_at _ _ r ch).trans ?_
  split_ifs with h
  · pointwise [res_main_v14, res_main_v16, proj_prompt, centre_prompt]
    have e1 : (r.val / 2048 * 128 + r.val % 128) / 128 = r.val / 2048 := by omega
    have e2 : (r.val / 2048 * 128 + r.val % 128) % 128 = r.val % 128 := by omega
    simp only [gelu_cube, refX, ya, mixed, vrow, lnorm, rstd, mean, silu, chunkX_self, chunkX_row, dif_pos h, e1, e2, refLg, refLb, refWs, refBs]
  · pointwise [res_main_v93, res_main_v95, proj_sample, centre_sample]
    have e1 : ((r.val - 32768) / 2048 * 128 + r.val % 128) / 128 = (r.val - 32768) / 2048 := by omega
    have e2 : ((r.val - 32768) / 2048 * 128 + r.val % 128) % 128 = r.val % 128 := by omega
    simp only [gelu_cube, refX, ya, mixed, vrow, lnorm, rstd, mean, silu, chunkX_self, chunkX_row, dif_neg h, e1, e2, refLg, refLb, refWs, refBs]

/-- A function of a position's own row, laid out by rows. -/
theorem own_ref (f : (Fin 1024 → EReal) → EReal) (r : Fin 98304) (ch : Fin 1024) (y0 : FVec Ideal S16x2048x1024 .f32) (y1 : FVec Ideal S16x4096x1024 .f32)
    (h0 : ∀ n l, y0 (ix3 n l ch) = f (refP V0 n l)) (h1 : ∀ n l, y1 (ix3 n l ch) = f (refS V0 n l)) :
    (if h : r.val < 32768 then y0 (ix3 ⟨r.val / 128 % 16, by omega⟩ ⟨r.val / 2048 * 128 + r.val % 128, by omega⟩ ch)
      else y1 (ix3 ⟨(r.val - 32768) / 128 % 16, by omega⟩ ⟨(r.val - 32768) / 2048 * 128 + r.val % 128, by omega⟩ ch))
    = f (refX V0 ⟨r.val / 128, by omega⟩ ⟨r.val % 128, by omega⟩) := by
  simp only [refX, chunkX_self]
  split_ifs with h
  · exact h0 _ _
  · exact h1 _ _

/-- Rows turned into tiles of eight channels by 128 positions. -/
theorem tile_rows (z : FVec Ideal S98304x1024 .f32) (g : Fin 128) (u : Fin 6144) (p : Fin 128) :
    shapeCast S128x6144x128 (transpose S128x768x8x128 [0, 2, 1, 3] (shapeCast S128x8x768x128 (transpose S1024x98304 [1, 0] z
      transposes_S98304x1024_S1024x98304_1_0) shapeCasts_S1024x98304_S128x8x768x128) transposes_S128x8x768x128_S128x768x8x128_0_2_1_3)
      shapeCasts_S128x768x8x128_S128x6144x128 (ix3 g u p)
    = z (ix2 ⟨128 * (u.val / 8) + p.val, by omega⟩ ⟨8 * g.val + u.val % 8, by omega⟩) := by
  pointwise
  refine congrArg z ((ix2_inj ..).2 ⟨Fin.ext ?_, Fin.ext ?_⟩) <;> dsimp only <;> omega

/-- The first result of the reference. -/
theorem refY_at (ch : Fin 1024) (r : Fin 98304) :
    (truncf .bf16 (transpose S1024x98304 [1, 0] (res_main_v164 V0) transposes_S98304x1024_S1024x98304_1_0) bitsLt_bf16_f32) (ix2 ch r)
    = ya (refX V0 ⟨r.val / 128, by omega⟩) (refG V0) (refW V0) (refLg V0) (refLb V0) (refWs V0) (refBs V0) ⟨r.val % 128, by omega⟩ ch := by
  refine Eq.trans ?_ (ya_ref V0 r ch)
  pointwise

/-- The second result of the reference. -/
theorem refT_at (g : Fin 128) (u : Fin 6144) (p : Fin 128) :
    (shapeCast S128x6144x128 (transpose S128x768x8x128 [0, 2, 1, 3] (shapeCast _ (transpose S1024x98304 [1, 0] (concatenate S98304x1024 0 [⟨S32768x1024, (shapeCast _ (transpose S16x16x128x1024 [1, 0, 2, 3] (shapeCast _ (extractStridedSlice S16x2048x1024 ![0, 0, 3072] (res_main_v13 V0) slices_S16x2048x5120_S16x2048x1024_0_0_3072) shapeCasts_S16x2048x1024_S16x16x128x1024) transposes_S16x16x128x1024_S16x16x128x1024_1_0_2_3) shapeCasts_S16x16x128x1024_S32768x1024)⟩, ⟨S65536x1024, (shapeCast _ (transpose S32x16x128x1024 [1, 0, 2, 3] (shapeCast _ (extractStridedSlice S16x4096x1024 ![0, 0, 3072] (res_main_v92 V0) slices_S16x4096x5120_S16x4096x1024_0_0_3072) shapeCasts_S16x4096x1024_S16x32x128x1024) transposes_S16x32x128x1024_S32x16x128x1024_1_0_2_3) shapeCasts_S32x16x128x1024_S65536x1024)⟩] concatenates_S32768x1024_S65536x1024_S98304x1024_d0) transposes_S98304x1024_S1024x98304_1_0) shapeCasts_S1024x98304_S128x8x768x128) transposes_S128x8x768x128_S128x768x8x128_0_2_1_3) shapeCasts_S128x768x8x128_S128x6144x128) (ix3 g u p)
    = proj (refX V0 ⟨u.val / 8, by omega⟩ p) (refG V0) (refW V0) ⟨3072 + (8 * g.val + u.val % 8), by omega⟩ := by
  refine (tile_rows _ g u p).trans ((rows_at _ _ _ _).trans ?_)
  refine (own_ref V0 (fun x => proj x (refG V0) (refW V0) ⟨3072 + (8 * g.val + u.val % 8), by omega⟩) _ _ _ _ ?_ ?_).trans ?_
  · intro n l
    pointwise [proj_prompt]
  · intro n l
    pointwise [proj_sample]
  · have e1 : (128 * (u.val / 8) + p.val) / 128 = u.val / 8 := by omega
    have e2 : (128 * (u.val / 8) + p.val) % 128 = p.val := by omega
    simp only [e1, e2]

/-- The third result of the reference. -/
theorem refZ_at (ch : Fin 1024) (r : Fin 98304) :
    (transpose S1024x98304 [1, 0] (concatenate S98304x1024 0 [⟨S32768x1024, (shapeCast _ (transpose S16x16x128x1024 [1, 0, 2, 3] (shapeCast _ (mulf (res_main_v18 V0) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (res_main_v18 V0)))))) shapeCasts_S16x2048x1024_S16x16x128x1024) transposes_S16x16x128x1024_S16x16x128x1024_1_0_2_3) shapeCasts_S16x16x128x1024_S32768x1024)⟩, ⟨S65536x1024, (shapeCast _ (transpose S32x16x128x1024 [1, 0, 2, 3] (shapeCast _ (mulf (res_main_v97 V0) (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (res_main_v97 V0)))))) shapeCasts_S16x4096x1024_S16x32x128x1024) transposes_S16x32x128x1024_S32x16x128x1024_1_0_2_3) shapeCasts_S32x16x128x1024_S65536x1024)⟩] concatenates_S32768x1024_S65536x1024_S98304x1024_d0) transposes_S98304x1024_S1024x98304_1_0) (ix2 ch r)
    = silu (proj (refX V0 ⟨r.val / 128, by omega⟩ ⟨r.val % 128, by omega⟩) (refG V0) (refW V0) ⟨4096 + ch.val, by omega⟩) := by
  refine Eq.trans (transpose_apply _ _ _ _ (ix2 r ch) fun b => ?_) ((rows_at _ _ r ch).trans ?_)
  · match b with
    | ⟨0, _⟩ => rfl
    | ⟨1, _⟩ => rfl
  refine own_ref V0 (fun x => silu (proj x (refG V0) (refW V0) ⟨4096 + ch.val, by omega⟩)) _ _ _ _ ?_ ?_
  · intro n l
    pointwise [res_main_v18, proj_prompt, silu]
  · intro n l
    pointwise [res_main_v97, proj_sample, silu]

end Cert.Mix
-- ==== Proof.MixClaim.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.MixFrame
public import proofs.«01_k».proof.Proof.MixValue
public import proofs.«01_k».proof.Proof.MixRef
public import Idealize.ShloMosaic.Lib.Claim
public import Idealize.ShloMosaic.Lib.Tactic

/-! The claims about the layer's first call. -/

@[expose] public section

set_option maxRecDepth 16384

noncomputable section

namespace Cert.Mix

open Idealize.ShloMosaic Idealize.ShloMosaic.TcCoe Idealize.SL.Sem
open Idealize.ShloMosaic.StableHlo (launchContents)

instance : Cert.Kernel.Facts := Cert.Kernel.Gen.facts
instance : Cert.KernelIdeal.Facts := Cert.KernelIdeal.Gen.facts
instance : Cert.ReferenceIdeal.Facts := Cert.ReferenceIdeal.Gen.facts

/-- The kernel runs, leaves its arguments as they were and every counter at zero, -/
theorem frameK : Cert.quiescent_Kernel := by
  intro m ρ _
  have h := (θ_run Cert.KernelIdeal.defs _ _).mono (fun _ h => h.1) (run_kept (F := Bits) m ρ)
  refine Eq.mp ?_ h
  sl_kernel_rfl

/-- its idealization too, -/
theorem frameKI : Cert.quiescent_KernelIdeal := fun m ρ _ =>
  (θ_run Cert.KernelIdeal.defs _ _).mono (fun _ h => h.1) (run_kept (F := Ideal) m ρ)

/-- and the reference too. -/
theorem frameRI : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable (h : Agree m m' c)
include h

theorem eqP : refP (launchContents m' c) = kP m c := funext fun n => funext fun l => funext fun d => congrFun h.1 (ix3 n l d)
theorem eqS : refS (launchContents m' c) = kS m c := funext fun n => funext fun l => funext fun d => congrFun h.2.1 (ix3 n l d)
theorem eqG : refG (launchContents m' c) = kG m c := funext fun d => congrFun h.2.2.1 (ix1 d)
theorem eqW : refW (launchContents m' c) = kW m c := funext fun d => funext fun j => congrFun h.2.2.2.1 (ix2 d j)
theorem eqLg : refLg (launchContents m' c) = kLg m c := funext fun d => congrFun h.2.2.2.2.1 (ix1 d)
theorem eqLb : refLb (launchContents m' c) = kLb m c := funext fun d => congrFun h.2.2.2.2.2.1 (ix1 d)
theorem eqWs : refWs (launchContents m' c) = kWs m c := funext fun k => funext fun p => funext fun q => congrFun h.2.2.2.2.2.2.1 (ix3 k p q)
theorem eqBs : refBs (launchContents m' c) = kBs m c := funext fun k => funext fun p => congrFun h.2.2.2.2.2.2.2 (ix2 k p)
theorem eqX : refX (launchContents m' c) = kX m c := by unfold refX kX; rw [eqP m m' c h, eqS m m' c h]

end Value

/-- The kernel's three results are the reference's, as extended reals. -/
theorem algebraic : Cert.algebraic_KernelIdeal_ReferenceIdeal := by
  intro m g m' g' _ hagree
  refine ⟨fun c => resY m c, fun c => resX m c, fun c => resZ m c, ?_, ?_⟩
  · refine (θ_run Cert.KernelIdeal.defs _ _).mono (fun r h c => ?_) (run_kept (F := Ideal) m g)
    obtain ⟨⟨ha, -⟩, hv⟩ := h
    obtain ⟨h0, h1, h2⟩ := hv c
    exact ⟨h0.trans (finalY m c), h1.trans (finalX m c), h2.trans (finalZ m c), ha c⟩
  · refine (θ_run Cert.ReferenceIdeal.defs _ _).mono (fun r h c => ?_) (Cert.ReferenceIdeal.Value.run (F := Ideal) m' g')
    obtain ⟨h0, h1, h2, ha⟩ := h c
    have e := hagree c
    refine ⟨h0.trans (funext fun i => ?_), h1.trans (funext fun i => ?_), h2.trans (funext fun i => ?_), ha⟩
    · obtain ⟨ch, r, rfl⟩ : ∃ (ch : Fin 1024) (r : Fin 98304), i = ix2 ch r := ⟨i 0, i 1, eq_ix2 i⟩
      refine (refY_at _ ch r).trans ?_
      rw [eqX m m' c e, eqG m m' c e, eqW m m' c e, eqLg m m' c e, eqLb m m' c e, eqWs m m' c e, eqBs m m' c e]
      rfl
    · obtain ⟨k, u, p, rfl⟩ : ∃ (k : Fin 128) (u : Fin 6144) (p : Fin 128), i = ix3 k u p := ⟨i 0, i 1, i 2, eq_ix3 i⟩
      refine (refT_at _ k u p).trans ?_
      rw [eqX m m' c e, eqG m m' c e, eqW m m' c e]
      rfl
    · obtain ⟨ch, r, rfl⟩ : ∃ (ch : Fin 1024) (r : Fin 98304), i = ix2 ch r := ⟨i 0, i 1, eq_ix2 i⟩
      refine (refZ_at _ ch r).trans ?_
      rw [eqX m m' c e, eqG m m' c e, eqW m m' c e]
      rfl

end Cert.Mix

end
-- ==== Proof.OutHost.lean ====
module

public import proofs.«01_k».proof.Proof.Gen.Kernel2Ideal
public import proofs.«01_k».proof.Proof.MixOperand
public import Idealize.ShloMosaic.Lib.Pointwise

/-! The layouts the layer's last call is given its operands in: columns of positions, and the same columns in tiles. -/

@[expose] public section

set_option maxRecDepth 16384
noncomputable section
open Idealize.ShloMosaic Idealize.ShloMosaic.TcCoe Idealize.SL.Sem
open Cert.Kernel2Ideal Cert.Kernel2Ideal.Gen
open Cert.Mix (chunkX chunk_lo chunk_hi)
namespace Cert.Out

/-- A batch as a function of sequence, position and channel. -/
abbrev prompt (p : FVec Ideal S16x2048x1024 .f32) (n : Fin 16) (l : Fin 2048) (d : Fin 1024) : EReal := p (ix3 n l d)
abbrev sample (s : FVec Ideal S16x4096x1024 .f32) (n : Fin 16) (l : Fin 4096) (d : Fin 1024) : EReal := s (ix3 n l d)

/-- The two batches as columns of positions -/
def columns (p : FVec Ideal S16x2048x1024 .f32) (s : FVec Ideal S16x4096x1024 .f32) : FVec Ideal S1024x98304 .f32 :=
  concatenate S1024x98304 1 [
    ⟨S1024x32768, shapeCast S1024x32768 (transpose S1024x16x16x128 [3, 1, 0, 2]
      (shapeCast S16x16x128x1024 p shapeCasts_S16x2048x1024_S16x16x128x1024) transposes_S16x16x128x1024_S1024x16x16x128_3_1_0_2)
      shapeCasts_S1024x16x16x128_S1024x32768⟩,
    ⟨S1024x65536, shapeCast S1024x65536 (transpose S1024x32x16x128 [3, 1, 0, 2]
      (shapeCast S16x32x128x1024 s shapeCasts_S16x4096x1024_S16x32x128x1024) transposes_S16x32x128x1024_S1024x32x16x128_3_1_0_2)
      shapeCasts_S1024x32x16x128_S1024x65536⟩]
    concatenates_S1024x32768_S1024x65536_S1024x98304_d1
/-- and as tiles. -/
def tiles (p : FVec Ideal S16x2048x1024 .f32) (s : FVec Ideal S16x4096x1024 .f32) : FVec Ideal S128x6144x128 .f32 :=
  shapeCast S128x6144x128 (transpose S128x768x8x128 [0, 2, 1, 3] (shapeCast S128x8x768x128 (columns p s) shapeCasts_S1024x98304_S128x8x768x128)
    transposes_S128x8x768x128_S128x768x8x128_0_2_1_3) shapeCasts_S128x768x8x128_S128x6144x128

set_option maxRecDepth 200000 in
/-- A column is a position of a chunk. -/
theorem columns_at (p : FVec Ideal S16x2048x1024 .f32) (s : FVec Ideal S16x4096x1024 .f32) (d : Fin 1024) (r : Fin 98304) :
    columns p s (ix2 d r) = chunkX (prompt p) (sample s) ⟨r.val / 128, by omega⟩ ⟨r.val % 128, by omega⟩ d := by
  generalize hK : chunkX (prompt p) (sample s) ⟨r.val / 128, by omega⟩ ⟨r.val % 128, by omega⟩ d = k
  pointwise [columns]
  split_ifs with h
  · exact (chunk_lo (prompt p) (sample s) r d h).trans hK
  all_goals exact (chunk_hi (prompt p) (sample s) r d h).trans hK

set_option maxRecDepth 200000 in
/-- A tile's entry is a channel of a column. -/
theorem tiles_cast (w : FVec Ideal S1024x98304 .f32) (r : Fin 128) (u : Fin 6144) (q : Fin 128) :
    shapeCast S128x6144x128 (transpose S128x768x8x128 [0, 2, 1, 3] (shapeCast S128x8x768x128 w shapeCasts_S1024x98304_S128x8x768x128)
      transposes_S128x8x768x128_S128x768x8x128_0_2_1_3) shapeCasts_S128x768x8x128_S128x6144x128 (ix3 r u q)
      = w (ix2 (⟨r.val * 8 + u.val % 8, by omega⟩ : Fin 1024) (⟨u.val / 8 * 128 + q.val, by omega⟩ : Fin 98304)) := by
  pointwise

/-- So it is a channel of a position of a chunk. -/
theorem tiles_at (p : FVec Ideal S16x2048x1024 .f32) (s : FVec Ideal S16x4096x1024 .f32) (r : Fin 128) (u : Fin 6144) (q : Fin 128) :
    tiles p s (ix3 r u q) = chunkX (prompt p) (sample s) ⟨u.val / 8, by omega⟩ q ⟨r.val * 8 + u.val % 8, by omega⟩ := by
  refine (tiles_cast (columns p s) r u q).trans ((columns_at p s _ _).trans ?_)
  have e1 : (u.val / 8 * 128 + q.val) / 128 = u.val / 8 := by omega
  have e2 : (u.val / 8 * 128 + q.val) % 128 = q.val := by omega
  simp only [e1, e2]

end Cert.Out

end
-- ==== Proof.OutSpec.lean ====
module

public import proofs.«01_k».proof.Proof.MixSpec

/-! The layer's closing step at one position: the skip of the state-space branch, its gate, the output projection of
    both branches, the residual and the last norm. -/

@[expose] public section

noncomputable section
open Idealize.ShloMosaic Idealize.ShloMosaic.TcCoe Idealize.SL.Sem
open Cert.Mix
namespace Cert.Out

/-- What a position brings: the residual, the first branch, and of the second its input, its mixed input and its silu gate. -/
structure Rows where
  x : Fin 1024 → EReal
  ya : Fin 1024 → EReal
  xb : Fin 1024 → EReal
  ys : Fin 1024 → EReal
  sz : Fin 1024 → EReal

/-- The weights. -/
structure Weights where
  dsk : Fin 1024 → EReal
  wg : Fin 1024 → Fin 1024 → EReal
  bg : Fin 1024 → EReal
  wo : Fin 2048 → Fin 1024 → EReal
  fg : Fin 1024 → EReal

/-- The state-space output with its skip, after gelu. -/
def act (R : Rows) (K : Weights) (d : Fin 1024) : EReal := gelu (R.ys d + K.dsk d * R.xb d)

/-- The gated linear unit's gate. -/
def gate (R : Rows) (K : Weights) (j : Fin 1024) : EReal :=
  Ideal.div 1 (1 + Ideal.exp (-((∑ k, act R K k * K.wg k j) + K.bg j)))

/-- The second branch's result. -/
def yb (R : Rows) (K : Weights) (j : Fin 1024) : EReal := act R K j * gate R K j * R.sz j

/-- The residual with the output projection of the two branches side by side. -/
def mixed (R : Rows) (K : Weights) (d : Fin 1024) : EReal :=
  R.x d + ((∑ k : Fin 1024, R.ya k * K.wo ⟨k.val, by omega⟩ d) + ∑ k : Fin 1024, yb R K k * K.wo ⟨1024 + k.val, by omega⟩ d)

/-- The layer's result. -/
def fin (R : Rows) (K : Weights) (d : Fin 1024) : EReal := rms (mixed R K) K.fg d

/-- A sum over the branches side by side is the sum over the first and that over the second. -/
theorem sum_split (f : Fin 2048 → EReal) :
    ∑ k, f k = (∑ k : Fin 1024, f ⟨k.val, by omega⟩) + ∑ k : Fin 1024, f ⟨1024 + k.val, by omega⟩ :=
  (Fin.sum_univ_add (a := 1024) (b := 1024) f)

end Cert.Out

end
-- ==== Proof.OutBlock.lean ====
module

public import proofs.«01_k».proof.Proof.Gen.Kernel2Ideal.Frame
public import proofs.«01_k».proof.Proof.OutSpec
public import Idealize.ShloMosaic.Lib.Pipeline.Value
public import Idealize.ShloMosaic.Lib.Pipeline.ReadBack
public import Idealize.ShloMosaic.Lib.Pipeline.ValueKit
public import Idealize.ShloMosaic.Lib.Pointwise
public import Idealize.ShloMosaic.Lib.Tactic

/-! The body of the layer's last call: what it stores for one block of columns. -/

@[expose] public section

set_option maxRecDepth 16384
noncomputable section
open Idealize.ShloMosaic Idealize.ShloMosaic.TcCoe Idealize.SL.Sem
open Cert.Kernel2Ideal Cert.Kernel2Ideal.Gen
open Cert.Mix (gelu rms rstd mean)
namespace Cert.Out

/-! ## The tile-major load -/

theorem inb_tile (r : Fin 128) (k : Fin 4) (a : Fin 3) : (![r.val, 8 * k.val, 0] : Fin 3 → ℕ) a + S1x8x128.size a ≤ S128x32x128.size a :=
  match a with
  | ⟨0, _⟩ => r.isLt
  | ⟨1, _⟩ => show 8 * k.val + 8 ≤ 32 by omega
  | ⟨2, _⟩ => Nat.le_refl 128

/-- One tile of the load, eight channels by 128 positions. -/
def piece (v : Vec Ideal S128x32x128 .f32) (r : Fin 128) (k : Fin 4) : FVec Ideal S8x128 .f32 :=
  shapeCast S8x128 (View.ld v (Rect.unit (s := S128x32x128) ![r.val, 8 * k.val, 0] S1x8x128.size (inb_tile r k))) shapeCasts_S1x8x128_S8x128

/-- Four pieces side by side make a row of tiles, -/
theorem cat4 (f : Fin 4 → FVec Ideal S8x128 .f32) :
    Shape.Concatenates ((List.ofFn fun k : Fin 4 => (⟨S8x128, f k⟩ : (s : Shape) × (s.Idx → EReal))).map (·.1)) S8x512 1 := by
  rw [List.map_ofFn]
  exact (by decide : Shape.Concatenates (List.ofFn fun _ : Fin 4 => S8x128) S8x512 1)
/-- and 128 rows of tiles make a block. -/
theorem cat128 (f : Fin 128 → FVec Ideal S8x512 .f32) :
    Shape.Concatenates ((List.ofFn fun r : Fin 128 => (⟨S8x512, f r⟩ : (s : Shape) × (s.Idx → EReal))).map (·.1)) S1024x512 0 := by
  rw [List.map_ofFn]
  exact (by decide +kernel : Shape.Concatenates (List.ofFn fun _ : Fin 128 => S8x512) S1024x512 0)

/-- A row of tiles, -/
def tileRow (v : Vec Ideal S128x32x128 .f32) (r : Fin 128) : FVec Ideal S8x512 .f32 :=
  concatenate S8x512 1 (List.ofFn fun k : Fin 4 => (⟨S8x128, piece v r k⟩ : (s : Shape) × (s.Idx → EReal))) (cat4 (piece v r))
/-- and the block, channels by positions. -/
def untile (v : Vec Ideal S128x32x128 .f32) : FVec Ideal S1024x512 .f32 :=
  concatenate S1024x512 0 (List.ofFn fun r : Fin 128 => (⟨S8x512, tileRow v r⟩ : (s : Shape) × (s.Idx → EReal))) (cat128 (tileRow v))

/-- A tile without its leading axis of one. -/
theorem drop_at (w : FVec Ideal S1x8x128 .f32) (s : Fin 8) (p : Fin 128) :
    shapeCast S8x128 w shapeCasts_S1x8x128_S8x128 (ix2 s p) = w (ix3 (0 : Fin 1) s p) := by
  pointwise

theorem piece_at (v : Vec Ideal S128x32x128 .f32) (r : Fin 128) (k : Fin 4) (s : Fin 8) (p : Fin 128) :
    piece v r k (ix2 s p) = v (ix3 r (⟨8 * k.val + s.val, by omega⟩ : Fin 32) p) := by
  refine (drop_at _ s p).trans (View.ld_unit_apply_of _ _ _ _ _ _ fun a => match a with
    | ⟨0, _⟩ => rfl
    | ⟨1, _⟩ => rfl
    | ⟨2, _⟩ => (Nat.zero_add _).symm)

theorem tileRow_at (v : Vec Ideal S128x32x128 .f32) (r : Fin 128) (s : Fin 8) (l : Fin 512) :
    tileRow v r (ix2 s l) = piece v r ⟨l.val / 128, by omega⟩ (ix2 s (⟨l.val % 128, by omega⟩ : Fin 128)) :=
  concatenate_ofFn_apply (t := S8x512) (s₁ := S8x128) 1 (piece v r) (cat4 (piece v r)) rfl 128 rfl (ix2 s l) ⟨l.val / 128, by omega⟩ rfl _ rfl
    fun b hb => match b with
      | ⟨0, _⟩ => rfl
      | ⟨1, _⟩ => absurd rfl hb

/-- The block holds the channel `8 r + s` at position `128 k + p` of the entry `(r, 8 k + s, p)`. -/
theorem untile_at (v : Vec Ideal S128x32x128 .f32) (ch : Fin 1024) (l : Fin 512) :
    untile v (ix2 ch l) = v (ix3 (⟨ch.val / 8, by omega⟩ : Fin 128) (⟨8 * (l.val / 128) + ch.val % 8, by omega⟩ : Fin 32) (⟨l.val % 128, by omega⟩ : Fin 128)) := by
  refine (concatenate_ofFn_apply (t := S1024x512) (s₁ := S8x512) 0 (tileRow v) (cat128 (tileRow v)) rfl 8 rfl (ix2 ch l) ⟨ch.val / 8, by omega⟩ rfl
    (ix2 (⟨ch.val % 8, by omega⟩ : Fin 8) l) rfl fun b hb => match b with
      | ⟨0, _⟩ => absurd rfl hb
      | ⟨1, _⟩ => rfl).trans ?_
  exact (tileRow_at v _ _ l).trans (piece_at v _ _ _ _)

/-! ## The block's value -/

/-- A block, a column, the square weights and the halves of the output weights, read whole. -/
abbrev mixBlock (x : FVec Ideal S1024x512 .f32) (y : FVec Ideal S1024x512 .bf16) (xb ys : Vec Ideal S128x32x128 .f32) (sz : FVec Ideal S1024x512 .f32)
    (d : FVec Ideal S1024x1 .f32) (wg : FVec Ideal S1024x1024 .bf16) (bg : FVec Ideal S1024x1 .f32) (w1 w2 : FVec Ideal S1024x1024 .bf16) : FVec Ideal S1024x512 .f32 :=
  k0_pay406 (k0_pay3 x w1 y) (untile ys) (mulf (broadcastTo S1024x512 (k0_pay217 d) broadcasts_S1024x1_S1024x512) (untile xb)) wg bg sz w2

/-- What the generated body computes before the last norm's weight is that, of the blocks it loads. -/
theorem block_eq (x0 : Vec Ideal S1024x512 .f32) (x1 : Vec Ideal S1024x512 .bf16) (x2 x3 : Vec Ideal S128x32x128 .f32) (x4 : Vec Ideal S1024x512 .f32)
    (x5 : Vec Ideal S1024x1 .f32) (x6 : Vec Ideal S1024x1024 .bf16) (x7 : Vec Ideal S1024x1 .f32) (x8 : Vec Ideal S1024x2048 .bf16) (x9 : Vec Ideal S1024x1 .f32) :
    k0_pay411 (F := Ideal) x0 x1 x2 x3 x4 x5 x6 x7 x8 x9
      = mixBlock (View.ld x0 r0_0) (View.ld x1 r0_0) x2 x3 (View.ld x4 r0_0) (View.ld x5 r0_514) (View.ld x6 r0_515) (View.ld x7 r0_514) (View.ld x8 r0_1) (View.ld x8 r0_516) := by
  sl_kernel_rfl

/-! ## Its value, channel by channel -/

section Column

variable (v y b sz : FVec Ideal S1024x512 .f32) (wg w2 : FVec Ideal S1024x1024 .bf16) (bg : FVec Ideal S1024x1 .f32) (l : Fin 512)

/-- The activation of one column, -/
def actC (k : Fin 1024) : EReal := gelu (y (ix2 k l) + b (ix2 k l))
/-- its gate -/
def gateC (j : Fin 1024) : EReal := Ideal.div 1 (1 + Ideal.exp (-((∑ k : Fin 1024, wg (ix2 j k) * actC y b l k) + bg (ix2 j (0 : Fin 1)))))
/-- and the residual with both branches. -/
def mixedC (d : Fin 1024) : EReal :=
  v (ix2 d l) + ∑ j : Fin 1024, w2 (ix2 d j) * (actC y b l j * gateC y b wg bg l j * sz (ix2 j l))

theorem pay406_at (d : Fin 1024) : k0_pay406 (F := Ideal) v y b wg bg sz w2 (ix2 d l)
    = mixedC v y b sz wg w2 bg l d * rstd (mixedC v y b sz wg w2 bg l) := by
  pointwise [k0_pay406, mixedC, gateC, actC, gelu, rstd, mean, Ideal.logistic]

end Column

theorem pay3_at (x : FVec Ideal S1024x512 .f32) (y : FVec Ideal S1024x512 .bf16) (w : FVec Ideal S1024x1024 .bf16) (d : Fin 1024) (l : Fin 512) :
    k0_pay3 (F := Ideal) x w y (ix2 d l) = x (ix2 d l) + ∑ k : Fin 1024, w (ix2 d k) * y (ix2 k l) := by
  pointwise [k0_pay3]

theorem skip_at (d : FVec Ideal S1024x1 .f32) (t : FVec Ideal S1024x512 .f32) (k : Fin 1024) (l : Fin 512) :
    mulf (broadcastTo S1024x512 (k0_pay217 (F := Ideal) d) broadcasts_S1024x1_S1024x512) t (ix2 k l) = d (ix2 k (0 : Fin 1)) * t (ix2 k l) := by
  pointwise [k0_pay217]

theorem scale_at (v : FVec Ideal S1024x512 .f32) (g : FVec Ideal S1024x1 .f32) (d : Fin 1024) (l : Fin 512) :
    k0_pay407 (F := Ideal) v g (ix2 d l) = v (ix2 d l) * g (ix2 d (0 : Fin 1)) := by
  pointwise [k0_pay407]

/-! ## The stores -/

/-- The block's columns as four runs of positions, channels last. -/
def runs (w : FVec Ideal S1024x512 .f32) : Vec Ideal S4x128x1024 .f32 := fun y =>
  w (ix2 (⟨(y 2).val, (y 2).isLt⟩ : Fin 1024) (⟨128 * (y 0).val + (y 1).val, by
    have h0 := (y 0).isLt; have h1 := (y 1).isLt
    change (y 0).val < 4 at h0; change (y 1).val < 128 at h1; omega⟩ : Fin 512))

theorem turn_at (v : FVec Ideal S1024x128 .f32) (z : Fin 1) (p : Fin 128) (d : Fin 1024) :
    shapeCast S1x128x1024 (transpose S128x1024 [1, 0] v transposes_S1024x128_p1_0_S128x1024) shapeCasts_S128x1024_S1x128x1024 (ix3 z p d) = v (ix2 d p) := by
  pointwise

/-- One store: a slice of 128 columns, turned. -/
theorem run_piece (w : FVec Ideal S1024x512 .f32) (o₁ : Fin 3 → ℕ) (o₂ : Fin 2 → ℕ) (hin) (hs)
    (h : o₂ 0 = 0 ∧ o₂ 1 = 128 * o₁ 0 ∧ o₁ 1 = 0 ∧ o₁ 2 = 0) (x : S1x128x1024.Idx) :
    shapeCast S1x128x1024 (transpose S128x1024 [1, 0] (extractStridedSlice S1024x128 o₂ w hs) transposes_S1024x128_p1_0_S128x1024) shapeCasts_S128x1024_S1x128x1024 x
      = runs w ((Rect.unit (s := S4x128x1024) o₁ S1x128x1024.size hin).emb x) := by
  obtain ⟨h0, h1, h2, h3⟩ := h
  obtain ⟨z, p, d, rfl⟩ : ∃ (z : Fin 1) (p : Fin 128) (d : Fin 1024), x = ix3 z p d := ⟨x 0, x 1, x 2, eq_ix3 x⟩
  refine (turn_at _ z p d).trans ?_
  unfold runs
  refine extractStridedSlice_apply o₂ w hs _ _ fun a => ?_
  match a with
  | ⟨0, _⟩ =>
    simp only [Rect.emb_apply, Rect.off_unit, Rect.stride_unit]
    dsimp
    omega
  | ⟨1, _⟩ =>
    simp only [Rect.emb_apply, Rect.off_unit, Rect.stride_unit]
    dsimp
    omega

/-- Four stores of runs of a block leave the block's runs. -/
theorem canon_runs (p3 p2 p1 p0 : Vec Ideal S1x128x1024 .f32) (w : FVec Ideal S1024x512 .f32)
    (h3 : ∀ x, p3 x = runs w (r0_520.emb x)) (h2 : ∀ x, p2 x = runs w (r0_519.emb x)) (h1 : ∀ x, p1 x = runs w (r0_518.emb x))
    (h0 : ∀ x, p0 x = runs w (r0_517.emb x)) :
    View.canon (Val := Elt Ideal) (s := S4x128x1024) (e := .f32) [⟨r0_520, p3⟩, ⟨r0_519, p2⟩, ⟨r0_518, p1⟩, ⟨r0_517, p0⟩] = runs w := by
  have hp : View.PiecesOf (Val := Elt Ideal) (s := S4x128x1024) (e := .f32) (runs w) [⟨r0_520, p3⟩, ⟨r0_519, p2⟩, ⟨r0_518, p1⟩, ⟨r0_517, p0⟩] := ⟨h3, h2, h1, h0, trivial⟩
  exact funext fun y => View.canon_apply_of_pieces (runs w) _ hp.mem y (cover0_10 p3 p2 p1 p0 y)

/-- The four stores leave the whole block, turned. -/
theorem out_eq (x0 : Vec Ideal S1024x512 .f32) (x1 : Vec Ideal S1024x512 .bf16) (x2 x3 : Vec Ideal S128x32x128 .f32) (x4 : Vec Ideal S1024x512 .f32)
    (x5 : Vec Ideal S1024x1 .f32) (x6 : Vec Ideal S1024x1024 .bf16) (x7 : Vec Ideal S1024x1 .f32) (x8 : Vec Ideal S1024x2048 .bf16) (x9 : Vec Ideal S1024x1 .f32) :
    out0_10 (F := Ideal) x0 x1 x2 x3 x4 x5 x6 x7 x8 x9 = runs (k0_pay407 (k0_pay411 x0 x1 x2 x3 x4 x5 x6 x7 x8 x9) (View.ld x9 r0_514)) := by
  unfold out0_10
  generalize k0_pay411 (F := Ideal) x0 x1 x2 x3 x4 x5 x6 x7 x8 x9 = v
  generalize (View.ld x9 r0_514 : Vec Ideal S1024x1 .f32) = g
  refine (canon_runs _ _ _ _ (k0_pay407 v g) (fun x => ?_) (fun x => ?_) (fun x => ?_) (fun x => ?_))
  · exact run_piece (k0_pay407 v g) ![3, 0, 0] ![0, 384] _ _ (by decide) x
  · exact run_piece (k0_pay407 v g) ![2, 0, 0] ![0, 256] _ slices_S1024x512_o0_256_S1024x128 (by decide) x
  · exact run_piece (k0_pay407 v g) ![1, 0, 0] ![0, 128] _ _ (by decide) x
  · exact run_piece (k0_pay407 v g) ![0, 0, 0] ![0, 0] _ _ (by decide) x

/-! ## The block's result in the weights and rows -/

section Point

variable (x0 : Vec Ideal S1024x512 .f32) (x1 : Vec Ideal S1024x512 .bf16) (x2 x3 : Vec Ideal S128x32x128 .f32) (x4 : Vec Ideal S1024x512 .f32)
  (x5 : Vec Ideal S1024x1 .f32) (x6 : Vec Ideal S1024x1024 .bf16) (x7 : Vec Ideal S1024x1 .f32) (x8 : Vec Ideal S1024x2048 .bf16) (x9 : Vec Ideal S1024x1 .f32)

/-- The block a set of weights is loaded from, -/
structure IsWeights (K : Weights) : Prop where
  dsk : ∀ k : Fin 1024, x5 (ix2 k (0 : Fin 1)) = K.dsk k
  wg : ∀ j k : Fin 1024, x6 (ix2 j k) = K.wg k j
  bg : ∀ k : Fin 1024, x7 (ix2 k (0 : Fin 1)) = K.bg k
  wo : ∀ (d : Fin 1024) (k : Fin 2048), x8 (ix2 d k) = K.wo k d
  fg : ∀ k : Fin 1024, x9 (ix2 k (0 : Fin 1)) = K.fg k
/-- and the one that holds a position's rows in column `l`. -/
structure IsRows (R : Rows) (l : Fin 512) : Prop where
  x : ∀ k : Fin 1024, x0 (ix2 k l) = R.x k
  ya : ∀ k : Fin 1024, x1 (ix2 k l) = R.ya k
  xb : ∀ k : Fin 1024, x2 (ix3 (⟨k.val / 8, by omega⟩ : Fin 128) (⟨8 * (l.val / 128) + k.val % 8, by omega⟩ : Fin 32) (⟨l.val % 128, by omega⟩ : Fin 128)) = R.xb k
  ys : ∀ k : Fin 1024, x3 (ix3 (⟨k.val / 8, by omega⟩ : Fin 128) (⟨8 * (l.val / 128) + k.val % 8, by omega⟩ : Fin 32) (⟨l.val % 128, by omega⟩ : Fin 128)) = R.ys k
  sz : ∀ k : Fin 1024, x4 (ix2 k l) = R.sz k

theorem ld_block (x : Vec Ideal S1024x512 .f32) : View.ld x r0_0 = x := View.ld_unit_lit _ _ (by decide)
theorem ld_blockb (x : Vec Ideal S1024x512 .bf16) : View.ld x r0_0 = x := View.ld_unit_lit _ _ (by decide)
theorem ld_col (x : Vec Ideal S1024x1 .f32) : View.ld x r0_514 = x := View.ld_unit_lit _ _ (by decide)
theorem ld_square (x : Vec Ideal S1024x1024 .bf16) : View.ld x r0_515 = x := View.ld_unit_lit _ _ (by decide)
theorem ld_first (x : Vec Ideal S1024x2048 .bf16) (d k : Fin 1024) : View.ld x r0_1 (ix2 d k) = x (ix2 d (⟨k.val, by omega⟩ : Fin 2048)) :=
  View.ld_unit_apply_of _ _ _ _ _ _ fun a => match a with
    | ⟨0, _⟩ => (Nat.zero_add _).symm
    | ⟨1, _⟩ => (Nat.zero_add _).symm
theorem ld_second (x : Vec Ideal S1024x2048 .bf16) (d k : Fin 1024) : View.ld x r0_516 (ix2 d k) = x (ix2 d (⟨1024 + k.val, by omega⟩ : Fin 2048)) :=
  View.ld_unit_apply_of _ _ _ _ _ _ fun a => match a with
    | ⟨0, _⟩ => (Nat.zero_add _).symm
    | ⟨1, _⟩ => rfl

variable {x0 x1 x2 x3 x4 x5 x6 x7 x8 x9}

/-- The residual with both branches, of a column that holds a position's rows. -/
theorem mixedC_at {K : Weights} {R : Rows} {l : Fin 512} (hK : IsWeights x5 x6 x7 x8 x9 K) (hR : IsRows x0 x1 x2 x3 x4 R l)
    {v b : FVec Ideal S1024x512 .f32} (hv : ∀ d : Fin 1024, v (ix2 d l) = x0 (ix2 d l) + ∑ k : Fin 1024, View.ld x8 r0_1 (ix2 d k) * x1 (ix2 k l))
    (hb : ∀ k : Fin 1024, b (ix2 k l) = x5 (ix2 k (0 : Fin 1)) * untile x2 (ix2 k l)) :
    mixedC v (untile x3) b x4 x6 (View.ld x8 r0_516) x7 l = mixed R K := by
  have ha : ∀ k, actC (untile x3) b l k = act R K k := fun k => by
    unfold actC act
    rw [hb, untile_at, untile_at, hR.ys, hR.xb, hK.dsk]
  have hg : ∀ j, gateC (untile x3) b x6 x7 l j = gate R K j := fun j => by
    unfold gateC gate
    rw [hK.bg]
    refine congrArg (fun s => Ideal.div 1 (1 + Ideal.exp (-(s + K.bg j)))) (Finset.sum_congr rfl fun k _ => ?_)
    rw [ha, hK.wg, mul_comm]
  funext d
  unfold mixedC mixed
  rw [hv, hR.x, add_assoc]
  refine congrArg₂ (fun s s' => R.x d + (s + s')) (Finset.sum_congr rfl fun k _ => ?_) (Finset.sum_congr rfl fun k _ => ?_)
  · rw [ld_first, hK.wo, hR.ya, mul_comm]
  · rw [ha, hg, ld_second, hK.wo, hR.sz, mul_comm]
    rfl

theorem block_at {K : Weights} {R : Rows} {l : Fin 512} (hK : IsWeights x5 x6 x7 x8 x9 K) (hR : IsRows x0 x1 x2 x3 x4 R l) (d : Fin 1024) :
    k0_pay411 (F := Ideal) x0 x1 x2 x3 x4 x5 x6 x7 x8 x9 (ix2 d l) = mixed R K d * rstd (mixed R K) := by
  rw [block_eq]
  unfold mixBlock
  rw [ld_block, ld_blockb, ld_block, ld_col, ld_square, ld_col, pay406_at,
    mixedC_at hK hR (fun d => pay3_at _ _ _ d l) (fun k => skip_at _ _ k l)]

/-- The block's result at a run, a place in it and a channel. -/
theorem out_at {K : Weights} {R : Rows} (u : Fin 4) (p : Fin 128) (d : Fin 1024) (hK : IsWeights x5 x6 x7 x8 x9 K)
    (hR : IsRows x0 x1 x2 x3 x4 R ⟨128 * u.val + p.val, by omega⟩) :
    out0_10 (F := Ideal) x0 x1 x2 x3 x4 x5 x6 x7 x8 x9 (ix3 u p d) = fin R K d := by
  rw [out_eq]
  refine (scale_at _ _ d _).trans ?_
  rw [ld_col, hK.fg]
  exact congrArg (· * K.fg d) (block_at hK hR d)

end Point

end Cert.Out

end
-- ==== Proof.OutArgs.lean ====
module

public import proofs.«01_k».proof.Proof.OutHost
public import proofs.«01_k».proof.Proof.OutBlock

/-! The arguments of the layer's last call, the rows and weights they hold, and the value of one block of columns. -/

@[expose] public section

set_option maxRecDepth 16384
noncomputable section
open Idealize.ShloMosaic Idealize.ShloMosaic.TcCoe Idealize.SL.Sem
open Cert.Kernel2Ideal Cert.Kernel2Ideal.Gen
open Cert.Mix (chunkX chunkX_apply)
namespace Cert.Out

/-- The arguments: of each batch the residual, the first branch's result, the second's input, mixed input and gate; the weights. -/
structure Args where
  xP : FVec Ideal S16x2048x1024 .f32
  xS : FVec Ideal S16x4096x1024 .f32
  yaP : FVec Ideal S16x2048x1024 .f32
  yaS : FVec Ideal S16x4096x1024 .f32
  xbP : FVec Ideal S16x2048x1024 .f32
  xbS : FVec Ideal S16x4096x1024 .f32
  ysP : FVec Ideal S16x2048x1024 .f32
  ysS : FVec Ideal S16x4096x1024 .f32
  szP : FVec Ideal S16x2048x1024 .f32
  szS : FVec Ideal S16x4096x1024 .f32
  dsk : FVec Ideal S1024 .f32
  wg : FVec Ideal S1024x1024 .f32
  bg : FVec Ideal S1024 .f32
  wo : FVec Ideal S2048x1024 .f32
  fg : FVec Ideal S1024 .f32

variable (A : Args)

/-- The weights they hold, -/
def Args.weights : Weights where
  dsk k := A.dsk (ix1 k)
  wg k j := A.wg (ix2 k j)
  bg k := A.bg (ix1 k)
  wo k d := A.wo (ix2 k d)
  fg k := A.fg (ix1 k)
/-- the rows of a position of a prompt, -/
def Args.rowsP (n : Fin 16) (l : Fin 2048) : Rows where
  x := prompt A.xP n l
  ya := prompt A.yaP n l
  xb := prompt A.xbP n l
  ys := prompt A.ysP n l
  sz := prompt A.szP n l
/-- of a position of a sample -/
def Args.rowsS (n : Fin 16) (l : Fin 4096) : Rows where
  x := sample A.xS n l
  ya := sample A.yaS n l
  xb := sample A.xbS n l
  ys := sample A.ysS n l
  sz := sample A.szS n l
/-- and of a position of a chunk. -/
def Args.rowsC (c : Fin 768) (q : Fin 128) : Rows where
  x := chunkX (prompt A.xP) (sample A.xS) c q
  ya := chunkX (prompt A.yaP) (sample A.yaS) c q
  xb := chunkX (prompt A.xbP) (sample A.xbS) c q
  ys := chunkX (prompt A.ysP) (sample A.ysS) c q
  sz := chunkX (prompt A.szP) (sample A.szS) c q

/-- The first 256 chunks are the prompts', -/
theorem rowsC_prompt (c : Fin 768) (q : Fin 128) (h : c.val < 256) :
    A.rowsC c q = A.rowsP ⟨c.val % 16, by omega⟩ ⟨c.val / 16 * 128 + q.val, by omega⟩ := by
  have e : ∀ P S, chunkX P S c q = P ⟨c.val % 16, by omega⟩ ⟨c.val / 16 * 128 + q.val, by omega⟩ := fun P S =>
    funext fun d => (chunkX_apply P S c q d).trans (dif_pos h)
  unfold Args.rowsC Args.rowsP
  simp only [e]
/-- the others the samples'. -/
theorem rowsC_sample (c : Fin 768) (q : Fin 128) (h : ¬ c.val < 256) :
    A.rowsC c q = A.rowsS ⟨(c.val - 256) % 16, by omega⟩ ⟨(c.val - 256) / 16 * 128 + q.val, by omega⟩ := by
  have e : ∀ P S, chunkX P S c q = S ⟨(c.val - 256) % 16, by omega⟩ ⟨(c.val - 256) / 16 * 128 + q.val, by omega⟩ := fun P S =>
    funext fun d => (chunkX_apply P S c q d).trans (dif_neg h)
  unfold Args.rowsC Args.rowsS
  simp only [e]

/-- The layer's result for the prompts -/
def Args.resP : FVec Ideal S16x2048x1024 .f32 := fun i =>
  fin (A.rowsP ⟨(i 0).val, (i 0).isLt⟩ ⟨(i 1).val, (i 1).isLt⟩) A.weights ⟨(i 2).val, (i 2).isLt⟩
/-- and for the samples. -/
def Args.resS : FVec Ideal S16x4096x1024 .f32 := fun i =>
  fin (A.rowsS ⟨(i 0).val, (i 0).isLt⟩ ⟨(i 1).val, (i 1).isLt⟩) A.weights ⟨(i 2).val, (i 2).isLt⟩

/-- The residual with both branches, of every position, as columns. -/
def Args.resM : FVec Ideal S1024x98304 .f32 := fun i =>
  mixed (A.rowsC ⟨(i 1).val / 128, Nat.div_lt_of_lt_mul (i 1).isLt⟩ ⟨(i 1).val % 128, Nat.mod_lt _ (by decide)⟩) A.weights ⟨(i 0).val, (i 0).isLt⟩

variable {x0 : Vec Ideal S1024x512 .f32} {x1 : Vec Ideal S1024x512 .bf16} {x2 x3 : Vec Ideal S128x32x128 .f32} {x4 : Vec Ideal S1024x512 .f32}
  {x5 : Vec Ideal S1024x1 .f32} {x6 : Vec Ideal S1024x1024 .bf16} {x7 : Vec Ideal S1024x1 .f32} {x8 : Vec Ideal S1024x2048 .bf16} {x9 : Vec Ideal S1024x1 .f32}

/-- A block of columns, as columns of a position of a chunk. -/
theorem cols_of {P : FVec Ideal S16x2048x1024 .f32} {S : FVec Ideal S16x4096x1024 .f32} {f : Fin 1024 → Fin 512 → EReal} (T : Fin 192)
    (h : ∀ (k : Fin 1024) (l : Fin 512), f k l = columns P S (ix2 k (⟨512 * T.val + l.val, by omega⟩ : Fin 98304))) (l : Fin 512) (k : Fin 1024) :
    f k l = chunkX (prompt P) (sample S) ⟨4 * T.val + l.val / 128, by omega⟩ ⟨l.val % 128, by omega⟩ k := by
  refine (h k l).trans ((columns_at P S k _).trans ?_)
  have e1 : (512 * T.val + l.val) / 128 = 4 * T.val + l.val / 128 := by omega
  have e2 : (512 * T.val + l.val) % 128 = l.val % 128 := by omega
  simp only [e1, e2]
/-- A block of tiles, likewise. -/
theorem tile_of {P : FVec Ideal S16x2048x1024 .f32} {S : FVec Ideal S16x4096x1024 .f32} {f : Vec Ideal S128x32x128 .f32} (T : Fin 192)
    (h : ∀ (r : Fin 128) (u : Fin 32) (q : Fin 128), f (ix3 r u q) = tiles P S (ix3 r (⟨32 * T.val + u.val, by omega⟩ : Fin 6144) q)) (l : Fin 512) (k : Fin 1024) :
    f (ix3 (⟨k.val / 8, by omega⟩ : Fin 128) (⟨8 * (l.val / 128) + k.val % 8, by omega⟩ : Fin 32) (⟨l.val % 128, by omega⟩ : Fin 128))
      = chunkX (prompt P) (sample S) ⟨4 * T.val + l.val / 128, by omega⟩ ⟨l.val % 128, by omega⟩ k := by
  refine (h _ _ _).trans ((tiles_at P S _ _ _).trans ?_)
  have e1 : (32 * T.val + (8 * (l.val / 128) + k.val % 8)) / 8 = 4 * T.val + l.val / 128 := by omega
  have e2 : k.val / 8 * 8 + (32 * T.val + (8 * (l.val / 128) + k.val % 8)) % 8 = k.val := by omega
  simp only [e1, e2]

/-- A block whose operands are blocks of the arguments' columns and tiles holds the rows of their positions. -/
theorem rows_of (T : Fin 192)
    (h0 : ∀ (k : Fin 1024) (l : Fin 512), x0 (ix2 k l) = columns A.xP A.xS (ix2 k (⟨512 * T.val + l.val, by omega⟩ : Fin 98304)))
    (h1 : ∀ (k : Fin 1024) (l : Fin 512), x1 (ix2 k l) = columns A.yaP A.yaS (ix2 k (⟨512 * T.val + l.val, by omega⟩ : Fin 98304)))
    (h2 : ∀ (r : Fin 128) (u : Fin 32) (q : Fin 128), x2 (ix3 r u q) = tiles A.xbP A.xbS (ix3 r (⟨32 * T.val + u.val, by omega⟩ : Fin 6144) q))
    (h3 : ∀ (r : Fin 128) (u : Fin 32) (q : Fin 128), x3 (ix3 r u q) = tiles A.ysP A.ysS (ix3 r (⟨32 * T.val + u.val, by omega⟩ : Fin 6144) q))
    (h4 : ∀ (k : Fin 1024) (l : Fin 512), x4 (ix2 k l) = columns A.szP A.szS (ix2 k (⟨512 * T.val + l.val, by omega⟩ : Fin 98304)))
    (l : Fin 512) : IsRows x0 x1 x2 x3 x4 (A.rowsC ⟨4 * T.val + l.val / 128, by omega⟩ ⟨l.val % 128, by omega⟩) l where
  x := cols_of T h0 _
  ya := cols_of (f := fun k l => x1 (ix2 k l)) T h1 _
  xb := tile_of T h2 _
  ys := tile_of T h3 _
  sz := cols_of T h4 _

/-- The value of a block whose operands are blocks of the arguments' columns and tiles. -/
theorem point_at (T : Fin 192)
    (h0 : ∀ (k : Fin 1024) (l : Fin 512), x0 (ix2 k l) = columns A.xP A.xS (ix2 k (⟨512 * T.val + l.val, by omega⟩ : Fin 98304)))
    (h1 : ∀ (k : Fin 1024) (l : Fin 512), x1 (ix2 k l) = columns A.yaP A.yaS (ix2 k (⟨512 * T.val + l.val, by omega⟩ : Fin 98304)))
    (h2 : ∀ (r : Fin 128) (u : Fin 32) (q : Fin 128), x2 (ix3 r u q) = tiles A.xbP A.xbS (ix3 r (⟨32 * T.val + u.val, by omega⟩ : Fin 6144) q))
    (h3 : ∀ (r : Fin 128) (u : Fin 32) (q : Fin 128), x3 (ix3 r u q) = tiles A.ysP A.ysS (ix3 r (⟨32 * T.val + u.val, by omega⟩ : Fin 6144) q))
    (h4 : ∀ (k : Fin 1024) (l : Fin 512), x4 (ix2 k l) = columns A.szP A.szS (ix2 k (⟨512 * T.val + l.val, by omega⟩ : Fin 98304)))
    (hK : IsWeights x5 x6 x7 x8 x9 A.weights) (u : Fin 4) (p : Fin 128) (d : Fin 1024) :
    out0_10 (F := Ideal) x0 x1 x2 x3 x4 x5 x6 x7 x8 x9 (ix3 u p d) = fin (A.rowsC ⟨4 * T.val + u.val, by omega⟩ p) A.weights d := by
  refine out_at u p d hK ?_
  have e1 : 4 * T.val + (128 * u.val + p.val) / 128 = 4 * T.val + u.val := by omega
  have e2 : (128 * u.val + p.val) % 128 = p.val := by omega
  have hR := rows_of A T h0 h1 h2 h3 h4 ⟨128 * u.val + p.val, by omega⟩
  simpa only [e1, e2] using hR

end Cert.Out

end
-- ==== Proof.OutSample.lean ====
module

public import proofs.«01_k».proof.Proof.OutArgs
public import Idealize.ShloMosaic.Lib.Pipeline.ValueKit
public import Idealize.ShloMosaic.Lib.Pipeline.Value

/-! The layer's last call on the samples: its operands and its result array. -/

@[expose] public section

set_option maxRecDepth 16384
noncomputable section
open Idealize.ShloMosaic Idealize.ShloMosaic.TcCoe Idealize.ShloMosaic.Tactic Idealize.SL.Sem
open Idealize.ShloMosaic.Pipeline (Dat Cfg Window)
open Cert.Kernel2Ideal Cert.Kernel2Ideal.Gen
namespace Cert.Out.Sample

variable (m : (ℓ : Loc nD τ sig) → Buf (Elt Ideal) ℓ) (c : Dev nD)

/-- The arguments the call is launched with. -/
def args : Args where
  xP := m ((c : Thread nD τ).loc main_arg0)
  xS := m ((c : Thread nD τ).loc main_arg1)
  yaP := m ((c : Thread nD τ).loc main_arg2)
  yaS := m ((c : Thread nD τ).loc main_arg3)
  xbP := m ((c : Thread nD τ).loc main_arg4)
  xbS := m ((c : Thread nD τ).loc main_arg5)
  ysP := m ((c : Thread nD τ).loc main_arg6)
  ysS := m ((c : Thread nD τ).loc main_arg7)
  szP := m ((c : Thread nD τ).loc main_arg8)
  szS := m ((c : Thread nD τ).loc main_arg9)
  dsk := m ((c : Thread nD τ).loc main_arg10)
  wg := m ((c : Thread nD τ).loc main_arg11)
  bg := m ((c : Thread nD τ).loc main_arg12)
  wo := m ((c : Thread nD τ).loc main_arg13)
  fg := m ((c : Thread nD τ).loc main_arg14)

/-! ## The operands the host prepares -/

theorem opX : V m c main_v13 = columns (args m c).xP (args m c).xS := by
  simp only [V, hostOps0]
  after_results_simp
  rfl
theorem opYa : V m c main_v21 = (truncf .bf16 (columns (args m c).yaP (args m c).yaS) bitsLt_bf16_f32 : FVec Ideal S1024x98304 .bf16) := by
  simp only [V, hostOps0]
  after_results_simp
  rfl
theorem opXb : V m c main_v31 = tiles (args m c).xbP (args m c).xbS := by
  simp only [V, hostOps0]
  after_results_simp
  rfl
theorem opYs : V m c main_v41 = tiles (args m c).ysP (args m c).ysS := by
  simp only [V, hostOps0]
  after_results_simp
  rfl
theorem opSz : V m c main_v48 = columns (args m c).szP (args m c).szS := by
  simp only [V, hostOps0]
  after_results_simp
  rfl
theorem opDsk (k : Fin 1024) : V m c main_v0 (ix2 k (0 : Fin 1)) = (args m c).weights.dsk k := by
  simp only [V, hostOps0]
  after_results_simp
  pointwise [args, Args.weights]
theorem opWg (j k : Fin 1024) : V m c main_v2 (ix2 j k) = (args m c).weights.wg k j := by
  simp only [V, hostOps0]
  after_results_simp
  pointwise [args, Args.weights]
theorem opBg (k : Fin 1024) : V m c main_v3 (ix2 k (0 : Fin 1)) = (args m c).weights.bg k := by
  simp only [V, hostOps0]
  after_results_simp
  pointwise [args, Args.weights]
theorem opWo (d : Fin 1024) (k : Fin 2048) : V m c main_v5 (ix2 d k) = (args m c).weights.wo k d := by
  simp only [V, hostOps0]
  after_results_simp
  pointwise [args, Args.weights]
theorem opFg (k : Fin 1024) : V m c main_v6 (ix2 k (0 : Fin 1)) = (args m c).weights.fg k := by
  simp only [V, hostOps0]
  after_results_simp
  pointwise [args, Args.weights]

/-! ## The blocks the body is given -/

/-- The windows' index maps. -/
theorem idx : ∀ t : Fin cfg0.N, win0_0.index t = ![0, 64 + t.val] ∧ win0_1.index t = ![0, 64 + t.val] ∧ win0_2.index t = ![0, 64 + t.val, 0]
    ∧ win0_3.index t = ![0, 64 + t.val, 0] ∧ win0_4.index t = ![0, 64 + t.val] ∧ win0_5.index t = ![0, 0] ∧ win0_6.index t = ![0, 0]
    ∧ win0_7.index t = ![0, 0] ∧ win0_8.index t = ![0, 0] ∧ win0_9.index t = ![0, 0] ∧ win0_10.index t = ![t.val % 4, t.val / 4, 0] ∧ t.val < 128 :=
  (by decide +kernel : ∀ t : Fin grid0.N, _)

theorem pt (t : Fin cfg0.N) : t.val < 128 := (idx t).2.2.2.2.2.2.2.2.2.2.2

/-- The number of the block of columns a point works on. -/
abbrev tile (t : Fin cfg0.N) : Fin 192 := ⟨64 + t.val, by have := pt t; omega⟩

theorem blk0 (t : Fin cfg0.N) (k : Fin 1024) (l : Fin 512) : (show FVec Ideal S1024x512 .f32 from iblk m c 0 t) (ix2 k l)
    = V m c main_v13 (ix2 k (⟨512 * (tile t).val + l.val, by omega⟩ : Fin 98304)) := by
  blk_ext [iblk, idx t]
theorem blk1 (t : Fin cfg0.N) (k : Fin 1024) (l : Fin 512) : (show FVec Ideal S1024x512 .bf16 from iblk m c 1 t) (ix2 k l)
    = V m c main_v21 (ix2 k (⟨512 * (tile t).val + l.val, by omega⟩ : Fin 98304)) := by
  blk_ext [iblk, idx t]
theorem read2 (W : (b : Ref sig .tc) → Buf (Elt Ideal) ((c : Thread nD τ).loc b)) (t : Fin cfg0.N) (r : Fin 128) (u : Fin 32) (q : Fin 128) :
    (show FVec Ideal S128x32x128 .f32 from ((cfg0.win 2).blk t).view.read (Elt Ideal) (W (Pipeline.arrRef spec0 2))) (ix3 r u q)
    = W main_v31 (ix3 r (⟨32 * (tile t).val + u.val, by omega⟩ : Fin 6144) q) := by
  blk_ext [idx t]
theorem blk2 (t : Fin cfg0.N) (r : Fin 128) (u : Fin 32) (q : Fin 128) : (show FVec Ideal S128x32x128 .f32 from iblk m c 2 t) (ix3 r u q)
    = V m c main_v31 (ix3 r (⟨32 * (tile t).val + u.val, by omega⟩ : Fin 6144) q) := by
  unfold iblk
  exact read2 c (V m c) t r u q
theorem read3 (W : (b : Ref sig .tc) → Buf (Elt Ideal) ((c : Thread nD τ).loc b)) (t : Fin cfg0.N) (r : Fin 128) (u : Fin 32) (q : Fin 128) :
    (show FVec Ideal S128x32x128 .f32 from ((cfg0.win 3).blk t).view.read (Elt Ideal) (W (Pipeline.arrRef spec0 3))) (ix3 r u q)
    = W main_v41 (ix3 r (⟨32 * (tile t).val + u.val, by omega⟩ : Fin 6144) q) := by
  blk_ext [idx t]
theorem blk3 (t : Fin cfg0.N) (r : Fin 128) (u : Fin 32) (q : Fin 128) : (show FVec Ideal S128x32x128 .f32 from iblk m c 3 t) (ix3 r u q)
    = V m c main_v41 (ix3 r (⟨32 * (tile t).val + u.val, by omega⟩ : Fin 6144) q) := by
  unfold iblk
  exact read3 c (V m c) t r u q
theorem blk4 (t : Fin cfg0.N) (k : Fin 1024) (l : Fin 512) : (show FVec Ideal S1024x512 .f32 from iblk m c 4 t) (ix2 k l)
    = V m c main_v48 (ix2 k (⟨512 * (tile t).val + l.val, by omega⟩ : Fin 98304)) := by
  blk_ext [iblk, idx t]
theorem blk5 (t : Fin cfg0.N) (k : Fin 1024) : (show FVec Ideal S1024x1 .f32 from iblk m c 5 t) (ix2 k (0 : Fin 1)) = V m c main_v0 (ix2 k (0 : Fin 1)) := by
  blk_ext [iblk, idx t]
theorem blk6 (t : Fin cfg0.N) (j k : Fin 1024) : (show FVec Ideal S1024x1024 .bf16 from iblk m c 6 t) (ix2 j k) = V m c main_v2 (ix2 j k) := by
  blk_ext [iblk, idx t]
theorem blk7 (t : Fin cfg0.N) (k : Fin 1024) : (show FVec Ideal S1024x1 .f32 from iblk m c 7 t) (ix2 k (0 : Fin 1)) = V m c main_v3 (ix2 k (0 : Fin 1)) := by
  blk_ext [iblk, idx t]
theorem blk8 (t : Fin cfg0.N) (d : Fin 1024) (k : Fin 2048) : (show FVec Ideal S1024x2048 .bf16 from iblk m c 8 t) (ix2 d k) = V m c main_v5 (ix2 d k) := by
  blk_ext [iblk, idx t]
theorem blk9 (t : Fin cfg0.N) (k : Fin 1024) : (show FVec Ideal S1024x1 .f32 from iblk m c 9 t) (ix2 k (0 : Fin 1)) = V m c main_v6 (ix2 k (0 : Fin 1)) := by
  blk_ext [iblk, idx t]

/-! ## The result -/

theorem weights_at (t : Fin cfg0.N) : IsWeights (iblk m c 5 t) (iblk m c 6 t) (iblk m c 7 t) (iblk m c 8 t) (iblk m c 9 t) (args m c).weights where
  dsk k := (blk5 m c t k).trans (opDsk m c k)
  wg j k := (blk6 m c t j k).trans (opWg m c j k)
  bg k := (blk7 m c t k).trans (opBg m c k)
  wo d k := (blk8 m c t d k).trans (opWo m c d k)
  fg k := (blk9 m c t k).trans (opFg m c k)

theorem point (t : Fin cfg0.N) (u : Fin 4) (p : Fin 128) (d : Fin 1024) :
    out0_10 (F := Ideal) (iblk m c 0 t) (iblk m c 1 t) (iblk m c 2 t) (iblk m c 3 t) (iblk m c 4 t) (iblk m c 5 t) (iblk m c 6 t) (iblk m c 7 t) (iblk m c 8 t)
      (iblk m c 9 t) (ix3 u p d)
    = (args m c).resS (ix3 (⟨4 * (t.val % 4) + u.val, by omega⟩ : Fin 16) (⟨128 * (t.val / 4) + p.val, by have := pt t; omega⟩ : Fin 4096) d) := by
  refine (point_at (args m c) (tile t) (fun k l => (blk0 m c t k l).trans (congrFun (opX m c) _))
    (fun k l => (blk1 m c t k l).trans (congrFun (opYa m c) _)) (fun r u q => (blk2 m c t r u q).trans (congrFun (opXb m c) _))
    (fun r u q => (blk3 m c t r u q).trans (congrFun (opYs m c) _)) (fun k l => (blk4 m c t k l).trans (congrFun (opSz m c) _))
    (weights_at m c t) u p d).trans ?_
  have ht := pt t
  rw [rowsC_sample _ _ _ (by dsimp only; omega)]
  have e1 : (4 * (64 + t.val) + u.val - 256) % 16 = 4 * (t.val % 4) + u.val := by omega
  have e2 : (4 * (64 + t.val) + u.val - 256) / 16 * 128 + p.val = 128 * (t.val / 4) + p.val := by omega
  unfold Args.resS
  dsimp only [ix3_0, ix3_1, ix3_2]
  simp only [e1, e2]

/-- The result array after the run. -/
theorem final : (dats m 0 c).arrAt 10 (cfgs 0).N = (args m c).resS := by
  refine (dats m 0 c).arrAt_eq_of_covers 10 _ (by decide +kernel) fun t _ y => ?_
  blk_simp
  rw [after0_10]
  obtain ⟨u, p, d, rfl⟩ : ∃ (u : Fin 4) (p : Fin 128) (d : Fin 1024), y = ix3 u p d := ⟨y 0, y 1, y 2, eq_ix3 y⟩
  refine (point m c t u p d).trans ?_
  blk_ext [idx t]

end Cert.Out.Sample

end
-- ==== Proof.OutPrompt.lean ====
module

public import proofs.«01_k».proof.Proof.OutArgs
public import proofs.«01_k».proof.Proof.Gen.Kernel3Ideal.Frame
public import Idealize.ShloMosaic.Lib.Tactic
public import Idealize.ShloMosaic.Lib.Pipeline.ValueKit
public import Idealize.ShloMosaic.Lib.Pipeline.Value

/-! The layer's last call on the prompts: its operands and its result array. -/

@[expose] public section

set_option maxRecDepth 16384
noncomputable section
open Idealize.ShloMosaic Idealize.ShloMosaic.TcCoe Idealize.ShloMosaic.Tactic Idealize.SL.Sem
open Idealize.ShloMosaic.Pipeline (Dat Cfg Window)
open Cert.Kernel3Ideal Cert.Kernel3Ideal.Gen
namespace Cert.Out.Prompt

variable (m : (ℓ : Loc nD τ sig) → Buf (Elt Ideal) ℓ) (c : Dev nD)

/-- The arguments the call is launched with. -/
def args : Args where
  xP := m ((c : Thread nD τ).loc main_arg0)
  xS := m ((c : Thread nD τ).loc main_arg1)
  yaP := m ((c : Thread nD τ).loc main_arg2)
  yaS := m ((c : Thread nD τ).loc main_arg3)
  xbP := m ((c : Thread nD τ).loc main_arg4)
  xbS := m ((c : Thread nD τ).loc main_arg5)
  ysP := m ((c : Thread nD τ).loc main_arg6)
  ysS := m ((c : Thread nD τ).loc main_arg7)
  szP := m ((c : Thread nD τ).loc main_arg8)
  szS := m ((c : Thread nD τ).loc main_arg9)
  dsk := m ((c : Thread nD τ).loc main_arg10)
  wg := m ((c : Thread nD τ).loc main_arg11)
  bg := m ((c : Thread nD τ).loc main_arg12)
  wo := m ((c : Thread nD τ).loc main_arg13)
  fg := m ((c : Thread nD τ).loc main_arg14)

/-! ## The operands the host prepares -/

theorem opX : V m c main_v13 = columns (args m c).xP (args m c).xS := by
  simp only [V, hostOps0]
  after_results_simp
  rfl
theorem opYa : V m c main_v21 = (truncf .bf16 (columns (args m c).yaP (args m c).yaS) bitsLt_bf16_f32 : FVec Ideal S1024x98304 .bf16) := by
  simp only [V, hostOps0]
  after_results_simp
  rfl
theorem opXb : V m c main_v31 = tiles (args m c).xbP (args m c).xbS := by
  simp only [V, hostOps0]
  after_results_simp
  rfl
theorem opYs : V m c main_v41 = tiles (args m c).ysP (args m c).ysS := by
  simp only [V, hostOps0]
  after_results_simp
  rfl
theorem opSz : V m c main_v48 = columns (args m c).szP (args m c).szS := by
  simp only [V, hostOps0]
  after_results_simp
  rfl
theorem opDsk (k : Fin 1024) : V m c main_v0 (ix2 k (0 : Fin 1)) = (args m c).weights.dsk k := by
  simp only [V, hostOps0]
  after_results_simp
  pointwise [args, Args.weights]
theorem opWg (j k : Fin 1024) : V m c main_v2 (ix2 j k) = (args m c).weights.wg k j := by
  simp only [V, hostOps0]
  after_results_simp
  pointwise [args, Args.weights]
theorem opBg (k : Fin 1024) : V m c main_v3 (ix2 k (0 : Fin 1)) = (args m c).weights.bg k := by
  simp only [V, hostOps0]
  after_results_simp
  pointwise [args, Args.weights]
theorem opWo (d : Fin 1024) (k : Fin 2048) : V m c main_v5 (ix2 d k) = (args m c).weights.wo k d := by
  simp only [V, hostOps0]
  after_results_simp
  pointwise [args, Args.weights]
theorem opFg (k : Fin 1024) : V m c main_v6 (ix2 k (0 : Fin 1)) = (args m c).weights.fg k := by
  simp only [V, hostOps0]
  after_results_simp
  pointwise [args, Args.weights]

/-! ## The blocks the body is given -/

/-- The windows' index maps. -/
theorem idx : ∀ t : Fin cfg0.N, win0_0.index t = ![0, t.val] ∧ win0_1.index t = ![0, t.val] ∧ win0_2.index t = ![0, t.val, 0]
    ∧ win0_3.index t = ![0, t.val, 0] ∧ win0_4.index t = ![0, t.val] ∧ win0_5.index t = ![0, 0] ∧ win0_6.index t = ![0, 0]
    ∧ win0_7.index t = ![0, 0] ∧ win0_8.index t = ![0, 0] ∧ win0_9.index t = ![0, 0] ∧ win0_10.index t = ![t.val % 4, t.val / 4, 0] ∧ t.val < 64 :=
  (by decide +kernel : ∀ t : Fin grid0.N, _)

theorem pt (t : Fin cfg0.N) : t.val < 64 := (idx t).2.2.2.2.2.2.2.2.2.2.2

/-- The number of the block of columns a point works on. -/
abbrev tile (t : Fin cfg0.N) : Fin 192 := ⟨t.val, by have := pt t; omega⟩

theorem blk0 (t : Fin cfg0.N) (k : Fin 1024) (l : Fin 512) : (show FVec Ideal S1024x512 .f32 from iblk m c 0 t) (ix2 k l)
    = V m c main_v13 (ix2 k (⟨512 * (tile t).val + l.val, by omega⟩ : Fin 98304)) := by
  blk_ext [iblk, idx t]
theorem blk1 (t : Fin cfg0.N) (k : Fin 1024) (l : Fin 512) : (show FVec Ideal S1024x512 .bf16 from iblk m c 1 t) (ix2 k l)
    = V m c main_v21 (ix2 k (⟨512 * (tile t).val + l.val, by omega⟩ : Fin 98304)) := by
  blk_ext [iblk, idx t]
theorem read2 (W : (b : Ref sig .tc) → Buf (Elt Ideal) ((c : Thread nD τ).loc b)) (t : Fin cfg0.N) (r : Fin 128) (u : Fin 32) (q : Fin 128) :
    (show FVec Ideal S128x32x128 .f32 from ((cfg0.win 2).blk t).view.read (Elt Ideal) (W (Pipeline.arrRef spec0 2))) (ix3 r u q)
    = W main_v31 (ix3 r (⟨32 * (tile t).val + u.val, by omega⟩ : Fin 6144) q) := by
  blk_ext [idx t]
theorem blk2 (t : Fin cfg0.N) (r : Fin 128) (u : Fin 32) (q : Fin 128) : (show FVec Ideal S128x32x128 .f32 from iblk m c 2 t) (ix3 r u q)
    = V m c main_v31 (ix3 r (⟨32 * (tile t).val + u.val, by omega⟩ : Fin 6144) q) := by
  unfold iblk
  exact read2 c (V m c) t r u q
theorem read3 (W : (b : Ref sig .tc) → Buf (Elt Ideal) ((c : Thread nD τ).loc b)) (t : Fin cfg0.N) (r : Fin 128) (u : Fin 32) (q : Fin 128) :
    (show FVec Ideal S128x32x128 .f32 from ((cfg0.win 3).blk t).view.read (Elt Ideal) (W (Pipeline.arrRef spec0 3))) (ix3 r u q)
    = W main_v41 (ix3 r (⟨32 * (tile t).val + u.val, by omega⟩ : Fin 6144) q) := by
  blk_ext [idx t]
theorem blk3 (t : Fin cfg0.N) (r : Fin 128) (u : Fin 32) (q : Fin 128) : (show FVec Ideal S128x32x128 .f32 from iblk m c 3 t) (ix3 r u q)
    = V m c main_v41 (ix3 r (⟨32 * (tile t).val + u.val, by omega⟩ : Fin 6144) q) := by
  unfold iblk
  exact read3 c (V m c) t r u q
theorem blk4 (t : Fin cfg0.N) (k : Fin 1024) (l : Fin 512) : (show FVec Ideal S1024x512 .f32 from iblk m c 4 t) (ix2 k l)
    = V m c main_v48 (ix2 k (⟨512 * (tile t).val + l.val, by omega⟩ : Fin 98304)) := by
  blk_ext [iblk, idx t]
theorem blk5 (t : Fin cfg0.N) (k : Fin 1024) : (show FVec Ideal S1024x1 .f32 from iblk m c 5 t) (ix2 k (0 : Fin 1)) = V m c main_v0 (ix2 k (0 : Fin 1)) := by
  blk_ext [iblk, idx t]
theorem blk6 (t : Fin cfg0.N) (j k : Fin 1024) : (show FVec Ideal S1024x1024 .bf16 from iblk m c 6 t) (ix2 j k) = V m c main_v2 (ix2 j k) := by
  blk_ext [iblk, idx t]
theorem blk7 (t : Fin cfg0.N) (k : Fin 1024) : (show FVec Ideal S1024x1 .f32 from iblk m c 7 t) (ix2 k (0 : Fin 1)) = V m c main_v3 (ix2 k (0 : Fin 1)) := by
  blk_ext [iblk, idx t]
theorem blk8 (t : Fin cfg0.N) (d : Fin 1024) (k : Fin 2048) : (show FVec Ideal S1024x2048 .bf16 from iblk m c 8 t) (ix2 d k) = V m c main_v5 (ix2 d k) := by
  blk_ext [iblk, idx t]
theorem blk9 (t : Fin cfg0.N) (k : Fin 1024) : (show FVec Ideal S1024x1 .f32 from iblk m c 9 t) (ix2 k (0 : Fin 1)) = V m c main_v6 (ix2 k (0 : Fin 1)) := by
  blk_ext [iblk, idx t]

/-! ## The result -/

theorem weights_at (t : Fin cfg0.N) : IsWeights (iblk m c 5 t) (iblk m c 6 t) (iblk m c 7 t) (iblk m c 8 t) (iblk m c 9 t) (args m c).weights where
  dsk k := (blk5 m c t k).trans (opDsk m c k)
  wg j k := (blk6 m c t j k).trans (opWg m c j k)
  bg k := (blk7 m c t k).trans (opBg m c k)
  wo d k := (blk8 m c t d k).trans (opWo m c d k)
  fg k := (blk9 m c t k).trans (opFg m c k)

/-- What the body leaves of its blocks is the same function as on the samples. -/
theorem body_eq (x0 : Vec Ideal S1024x512 .f32) (x1 : Vec Ideal S1024x512 .bf16) (x2 x3 : Vec Ideal S128x32x128 .f32) (x4 : Vec Ideal S1024x512 .f32)
    (x5 : Vec Ideal S1024x1 .f32) (x6 : Vec Ideal S1024x1024 .bf16) (x7 : Vec Ideal S1024x1 .f32) (x8 : Vec Ideal S1024x2048 .bf16)
    (x9 : Vec Ideal S1024x1 .f32) : out0_10 (F := Ideal) x0 x1 x2 x3 x4 x5 x6 x7 x8 x9
      = Cert.Kernel2Ideal.Gen.out0_10 (F := Ideal) x0 x1 x2 x3 x4 x5 x6 x7 x8 x9 := by
  sl_kernel_rfl

theorem point (t : Fin cfg0.N) (u : Fin 4) (p : Fin 128) (d : Fin 1024) :
    out0_10 (F := Ideal) (iblk m c 0 t) (iblk m c 1 t) (iblk m c 2 t) (iblk m c 3 t) (iblk m c 4 t) (iblk m c 5 t) (iblk m c 6 t) (iblk m c 7 t) (iblk m c 8 t)
      (iblk m c 9 t) (ix3 u p d)
    = (args m c).resP (ix3 (⟨4 * (t.val % 4) + u.val, by omega⟩ : Fin 16) (⟨128 * (t.val / 4) + p.val, by have := pt t; omega⟩ : Fin 2048) d) := by
  rw [body_eq]
  refine (point_at (args m c) (tile t) (fun k l => (blk0 m c t k l).trans (congrFun (opX m c) _))
    (fun k l => (blk1 m c t k l).trans (congrFun (opYa m c) _)) (fun r u q => (blk2 m c t r u q).trans (congrFun (opXb m c) _))
    (fun r u q => (blk3 m c t r u q).trans (congrFun (opYs m c) _)) (fun k l => (blk4 m c t k l).trans (congrFun (opSz m c) _))
    (weights_at m c t) u p d).trans ?_
  have ht := pt t
  rw [rowsC_prompt _ _ _ (by dsimp only; omega)]
  have e1 : (4 * t.val + u.val) % 16 = 4 * (t.val % 4) + u.val := by omega
  have e2 : (4 * t.val + u.val) / 16 * 128 + p.val = 128 * (t.val / 4) + p.val := by omega
  unfold Args.resP
  dsimp only [ix3_0, ix3_1, ix3_2]
  simp only [e1, e2]

/-- The result array after the run. -/
theorem final : (dats m 0 c).arrAt 10 (cfgs 0).N = (args m c).resP := by
  refine (dats m 0 c).arrAt_eq_of_covers 10 _ (by decide +kernel) fun t _ y => ?_
  blk_simp
  rw [after0_10]
  obtain ⟨u, p, d, rfl⟩ : ∃ (u : Fin 4) (p : Fin 128) (d : Fin 1024), y = ix3 u p d := ⟨y 0, y 1, y 2, eq_ix3 y⟩
  refine (point m c t u p d).trans ?_
  blk_ext [idx t]

end Cert.Out.Prompt

end
-- ==== Proof.OutRefS.lean ====
module

public import proofs.«01_k».proof.Proof.Gen.Reference2Ideal.Run
public import proofs.«01_k».proof.Proof.OutArgs
public import Idealize.ShloMosaic.Lib.Claim

/-! The result of the reference of the layer's closing step on the samples, entry by entry. -/

@[expose] public section

set_option maxRecDepth 16384
noncomputable section
open Idealize.ShloMosaic Idealize.ShloMosaic.TcCoe Idealize.SL.Sem
open Cert.Reference2Ideal Cert.Reference2Ideal.Gen Cert.Reference2Ideal.Value
open Cert.Mix
namespace Cert.Out.RefS

variable (m : (ℓ : Loc nD τ sig) → Buf (Elt Ideal) ℓ) (c : Dev nD)

/-- The arguments the reference is launched with. -/
def args : Args where
  xP := m ((c.tc : Thread nD τ).loc main_arg0)
  xS := m ((c.tc : Thread nD τ).loc main_arg1)
  yaP := m ((c.tc : Thread nD τ).loc main_arg2)
  yaS := m ((c.tc : Thread nD τ).loc main_arg3)
  xbP := m ((c.tc : Thread nD τ).loc main_arg4)
  xbS := m ((c.tc : Thread nD τ).loc main_arg5)
  ysP := m ((c.tc : Thread nD τ).loc main_arg6)
  ysS := m ((c.tc : Thread nD τ).loc main_arg7)
  szP := m ((c.tc : Thread nD τ).loc main_arg8)
  szS := m ((c.tc : Thread nD τ).loc main_arg9)
  dsk := m ((c.tc : Thread nD τ).loc main_arg10)
  wg := m ((c.tc : Thread nD τ).loc main_arg11)
  bg := m ((c.tc : Thread nD τ).loc main_arg12)
  wo := m ((c.tc : Thread nD τ).loc main_arg13)
  fg := m ((c.tc : Thread nD τ).loc main_arg14)

variable (A : Args)

/-- One number at every entry. -/
abbrev every (b : BitVec 32) : FVec Ideal S16x4096x1024 .f32 := broadcastInDim S16x4096x1024 ![] bcast_S_S16x4096x1024 (constant S_ .f32 b)
/-- One row at every position. -/
abbrev row (v : FVec Ideal S1024 .f32) : FVec Ideal S16x4096x1024 .f32 :=
  broadcastInDim S16x4096x1024 ![0, 1, 2] bcast_S1x1x1024_S16x4096x1024_0_1_2 (broadcastInDim S1x1x1024 ![2] bcast_S1024_S1x1x1024_2 v)

/-- gelu of the mixed input with its skip, -/
def gy (y : FVec Ideal S16x4096x1024 .f32) : FVec Ideal S16x4096x1024 .f32 :=
  mulf y (mulf (every 0x3F000000#32) (addf (every 0x3F800000#32) (Host.tanh (mulf (every 0x3F4C422A#32)
    (addf y (mulf (every 0x3D372713#32) (mulf (mulf y y) y)))))))
/-- the second branch, -/
def br (g : FVec Ideal S16x4096x1024 .f32) : FVec Ideal S16x4096x1024 .f32 :=
  mulf (mulf g (Host.divf (every 0x3F800000#32) (addf (every 0x3F800000#32) (Host.exp (Host.negf
    (addf (Host.dotGeneral dot_S16x4096x1024_S1024x1024_S16x4096x1024_2_0_01_1_n_n none g A.wg) (row A.bg))))))) A.szS
/-- the residual with both branches, -/
def mx (b : FVec Ideal S16x4096x1024 .f32) : FVec Ideal S16x4096x1024 .f32 :=
  addf A.xS (Host.dotGeneral dot_S16x4096x2048_S2048x1024_S16x4096x1024_2_0_01_1_n_n none (concatenate S16x4096x2048 2
    [⟨S16x4096x1024, A.yaS⟩, ⟨S16x4096x1024, b⟩] concatenates_S16x4096x1024_S16x4096x1024_S16x4096x2048_d2) A.wo)
/-- and its norm. -/
def nm (x : FVec Ideal S16x4096x1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32)
      reducesTo_S16x4096x1024_S16x4096_d2 h_S_)) (broadcastInDim S16x4096x1 ![] bcast_S_S16x4096x1 (constant S_ .f32 0x44800000#32)))
    (broadcastInDim S16x4096x1 ![] bcast_S_S16x4096x1 (constant S_ .f32 0x358637BD#32)))))) (row A.fg)

/-- The reference's term in these steps. -/
theorem term_eq : res_main_v44 m c = nm (args m c) (mx (args m c) (br (args m c) (gy (addf (args m c).ysS (mulf (row (args m c).dsk) (args m c).xbS))))) := rfl

theorem gy_at (n : Fin 16) (l : Fin 4096) (k : Fin 1024) : gy (addf A.ysS (mulf (row A.dsk) A.xbS)) (ix3 n l k) = act (A.rowsS n l) A.weights k := by
  refine Eq.trans ?_ (gelu_cube _)
  pointwise [gy, Args.rowsS, Args.weights, sample]

theorem br_at (g : FVec Ideal S16x4096x1024 .f32) (hg : ∀ n l k, g (ix3 n l k) = act (A.rowsS n l) A.weights k) (n : Fin 16) (l : Fin 4096)
    (k : Fin 1024) : br A g (ix3 n l k) = yb (A.rowsS n l) A.weights k := by
  pointwise [br, hg, yb, gate, Args.rowsS, Args.weights, sample]

theorem mx_at (b : FVec Ideal S16x4096x1024 .f32) (hb : ∀ n l k, b (ix3 n l k) = yb (A.rowsS n l) A.weights k) (n : Fin 16) (l : Fin 4096)
    (d : Fin 1024) : mx A b (ix3 n l d) = Cert.Out.mixed (A.rowsS n l) A.weights d := by
  pointwise [mx, hb, Cert.Out.mixed]
  rfl

theorem nm_at (x : FVec Ideal S16x4096x1024 .f32) (hx : ∀ n l d, x (ix3 n l d) = Cert.Out.mixed (A.rowsS n l) A.weights d) (n : Fin 16) (l : Fin 4096)
    (d : Fin 1024) : nm A x (ix3 n l d) = fin (A.rowsS n l) A.weights d := by
  pointwise [nm, hx, fin, rms, rstd, mean, Args.weights]

/-- The reference's result. -/
theorem final : res_main_v44 m c = (args m c).resS := by
  rw [term_eq]
  funext i
  obtain ⟨n, l, d, rfl⟩ : ∃ (n : Fin 16) (l : Fin 4096) (d : Fin 1024), i = ix3 n l d := ⟨i 0, i 1, i 2, eq_ix3 i⟩
  exact nm_at _ _ (mx_at _ _ (br_at _ _ (gy_at _))) n l d

end Cert.Out.RefS

end
-- ==== Proof.OutRefP.lean ====
module

public import proofs.«01_k».proof.Proof.Gen.Reference3Ideal.Run
public import proofs.«01_k».proof.Proof.OutArgs
public import Idealize.ShloMosaic.Lib.Claim

/-! The result of the reference of the layer's closing step on the prompts, entry by entry. -/

@[expose] public section

set_option maxRecDepth 16384
noncomputable section
open Idealize.ShloMosaic Idealize.ShloMosaic.TcCoe Idealize.SL.Sem
open Cert.Reference3Ideal Cert.Reference3Ideal.Gen Cert.Reference3Ideal.Value
open Cert.Mix
namespace Cert.Out.RefP

variable (m : (ℓ : Loc nD τ sig) → Buf (Elt Ideal) ℓ) (c : Dev nD)

/-- The arguments the reference is launched with. -/
def args : Args where
  xP := m ((c.tc : Thread nD τ).loc main_arg0)
  xS := m ((c.tc : Thread nD τ).loc main_arg1)
  yaP := m ((c.tc : Thread nD τ).loc main_arg2)
  yaS := m ((c.tc : Thread nD τ).loc main_arg3)
  xbP := m ((c.tc : Thread nD τ).loc main_arg4)
  xbS := m ((c.tc : Thread nD τ).loc main_arg5)
  ysP := m ((c.tc : Thread nD τ).loc main_arg6)
  ysS := m ((c.tc : Thread nD τ).loc main_arg7)
  szP := m ((c.tc : Thread nD τ).loc main_arg8)
  szS := m ((c.tc : Thread nD τ).loc main_arg9)
  dsk := m ((c.tc : Thread nD τ).loc main_arg10)
  wg := m ((c.tc : Thread nD τ).loc main_arg11)
  bg := m ((c.tc : Thread nD τ).loc main_arg12)
  wo := m ((c.tc : Thread nD τ).loc main_arg13)
  fg := m ((c.tc : Thread nD τ).loc main_arg14)

variable (A : Args)

/-- One number at every entry. -/
abbrev every (b : BitVec 32) : FVec Ideal S16x2048x1024 .f32 := broadcastInDim S16x2048x1024 ![] bcast_S_S16x2048x1024 (constant S_ .f32 b)
/-- One row at every position. -/
abbrev row (v : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 v)

/-- gelu of the mixed input with its skip, -/
def gy (y : FVec Ideal S16x2048x1024 .f32) : FVec Ideal S16x2048x1024 .f32 :=
  mulf y (mulf (every 0x3F000000#32) (addf (every 0x3F800000#32) (Host.tanh (mulf (every 0x3F4C422A#32)
    (addf y (mulf (every 0x3D372713#32) (mulf (mulf y y) y)))))))
/-- the second branch, -/
def br (g : FVec Ideal S16x2048x1024 .f32) : FVec Ideal S16x2048x1024 .f32 :=
  mulf (mulf g (Host.divf (every 0x3F800000#32) (addf (every 0x3F800000#32) (Host.exp (Host.negf
    (addf (Host.dotGeneral dot_S16x2048x1024_S1024x1024_S16x2048x1024_2_0_01_1_n_n none g A.wg) (row A.bg))))))) A.szP
/-- the residual with both branches, -/
def mx (b : FVec Ideal S16x2048x1024 .f32) : FVec Ideal S16x2048x1024 .f32 :=
  addf A.xP (Host.dotGeneral dot_S16x2048x2048_S2048x1024_S16x2048x1024_2_0_01_1_n_n none (concatenate S16x2048x2048 2
    [⟨S16x2048x1024, A.yaP⟩, ⟨S16x2048x1024, b⟩] concatenates_S16x2048x1024_S16x2048x1024_S16x2048x2048_d2) A.wo)
/-- and its norm. -/
def nm (x : FVec Ideal S16x2048x1024 .f32) : FVec Ideal S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32)
      reducesTo_S16x2048x1024_S16x2048_d2 h_S_)) (broadcastInDim S16x2048x1 ![] bcast_S_S16x2048x1 (constant S_ .f32 0x44800000#32)))
    (broadcastInDim S16x2048x1 ![] bcast_S_S16x2048x1 (constant S_ .f32 0x358637BD#32)))))) (row A.fg)

/-- The reference's term in these steps. -/
theorem term_eq : res_main_v44 m c = nm (args m c) (mx (args m c) (br (args m c) (gy (addf (args m c).ysP (mulf (row (args m c).dsk) (args m c).xbP))))) := rfl

theorem gy_at (n : Fin 16) (l : Fin 2048) (k : Fin 1024) : gy (addf A.ysP (mulf (row A.dsk) A.xbP)) (ix3 n l k) = act (A.rowsP n l) A.weights k := by
  refine Eq.trans ?_ (gelu_cube _)
  pointwise [gy, Args.rowsP, Args.weights, prompt]

theorem br_at (g : FVec Ideal S16x2048x1024 .f32) (hg : ∀ n l k, g (ix3 n l k) = act (A.rowsP n l) A.weights k) (n : Fin 16) (l : Fin 2048)
    (k : Fin 1024) : br A g (ix3 n l k) = yb (A.rowsP n l) A.weights k := by
  pointwise [br, hg, yb, gate, Args.rowsP, Args.weights, prompt]

theorem mx_at (b : FVec Ideal S16x2048x1024 .f32) (hb : ∀ n l k, b (ix3 n l k) = yb (A.rowsP n l) A.weights k) (n : Fin 16) (l : Fin 2048)
    (d : Fin 1024) : mx A b (ix3 n l d) = Cert.Out.mixed (A.rowsP n l) A.weights d := by
  pointwise [mx, hb, Cert.Out.mixed]
  rfl

theorem nm_at (x : FVec Ideal S16x2048x1024 .f32) (hx : ∀ n l d, x (ix3 n l d) = Cert.Out.mixed (A.rowsP n l) A.weights d) (n : Fin 16) (l : Fin 2048)
    (d : Fin 1024) : nm A x (ix3 n l d) = fin (A.rowsP n l) A.weights d := by
  pointwise [nm, hx, fin, rms, rstd, mean, Args.weights]

/-- The reference's result. -/
theorem final : res_main_v44 m c = (args m c).resP := by
  rw [term_eq]
  funext i
  obtain ⟨n, l, d, rfl⟩ : ∃ (n : Fin 16) (l : Fin 2048) (d : Fin 1024), i = ix3 n l d := ⟨i 0, i 1, i 2, eq_ix3 i⟩
  exact nm_at _ _ (mx_at _ _ (br_at _ _ (gy_at _))) n l d

end Cert.Out.RefP

end
-- ==== Proof.OutMiddle.lean ====
module

public import proofs.«01_k».proof.Proof.Gen.Kernel4Ideal.Frame
public import proofs.«01_k».proof.Proof.OutArgs
public import Idealize.ShloMosaic.Lib.Pipeline.ValueKit
public import Idealize.ShloMosaic.Lib.Pipeline.Value

/-! The call that closes the layers before the last: its body, its operands and its result array. -/

@[expose] public section

set_option maxRecDepth 16384
noncomputable section
open Idealize.ShloMosaic Idealize.ShloMosaic.TcCoe Idealize.ShloMosaic.Tactic Idealize.SL.Sem
open Idealize.ShloMosaic.Pipeline (Dat Cfg Window)
open Cert.Kernel4Ideal Cert.Kernel4Ideal.Gen
open Cert.Mix (gelu)
namespace Cert.Out.Middle

/-! ## The body -/

section Body

/-- A block, a column, the square weights and the halves of the output weights, read whole. -/
abbrev mixBlock (x : FVec Ideal S1024x512 .f32) (y : FVec Ideal S1024x512 .bf16) (xb ys : Vec Ideal S128x32x128 .f32) (sz : FVec Ideal S1024x512 .f32)
    (d : FVec Ideal S1024x1 .f32) (wg : FVec Ideal S1024x1024 .bf16) (bg : FVec Ideal S1024x1 .f32) (w1 w2 : FVec Ideal S1024x1024 .bf16) : FVec Ideal S1024x512 .f32 :=
  k0_pay1 (k0_pay2 x w1 y) (k0_pay405 (untile ys) (mulf (broadcastTo S1024x512 (k0_pay216 d) broadcasts_S1024x1_S1024x512) (untile xb)))
    (k0_pay406 (untile ys) (mulf (broadcastTo S1024x512 (k0_pay216 d) broadcasts_S1024x1_S1024x512) (untile xb)) wg) (k0_pay407 bg) sz w2

variable (x0 : Vec Ideal S1024x512 .f32) (x1 : Vec Ideal S1024x512 .bf16) (x2 x3 : Vec Ideal S128x32x128 .f32) (x4 : Vec Ideal S1024x512 .f32)
  (x5 : Vec Ideal S1024x1 .f32) (x6 : Vec Ideal S1024x1024 .bf16) (x7 : Vec Ideal S1024x1 .f32) (x8 : Vec Ideal S1024x2048 .bf16)

/-- What the generated body stores is that, of the blocks it loads. -/
theorem out_eq : out0_9 (F := Ideal) x0 x1 x2 x3 x4 x5 x6 x7 x8
    = mixBlock (View.ld x0 r0_0) (View.ld x1 r0_0) x2 x3 (View.ld x4 r0_0) (View.ld x5 r0_514) (View.ld x6 r0_515) (View.ld x7 r0_514) (View.ld x8 r0_1) (View.ld x8 r0_516) := by
  unfold out0_9
  refine (View.canon_unit_zero (by decide) _ _).trans ?_
  sl_kernel_rfl

theorem pay1_at (v y b sz : FVec Ideal S1024x512 .f32) (wg w2 : FVec Ideal S1024x1024 .bf16) (bg : FVec Ideal S1024x1 .f32) (l : Fin 512) (d : Fin 1024) :
    k0_pay1 (F := Ideal) v (k0_pay405 y b) (k0_pay406 y b wg) (k0_pay407 bg) sz w2 (ix2 d l) = mixedC v y b sz wg w2 bg l d := by
  pointwise [k0_pay1, k0_pay405, k0_pay406, k0_pay407, mixedC, gateC, actC, gelu, Ideal.logistic]
theorem pay2_at (x : FVec Ideal S1024x512 .f32) (y : FVec Ideal S1024x512 .bf16) (w : FVec Ideal S1024x1024 .bf16) (d : Fin 1024) (l : Fin 512) :
    k0_pay2 (F := Ideal) x w y (ix2 d l) = x (ix2 d l) + ∑ k : Fin 1024, w (ix2 d k) * y (ix2 k l) := by
  pointwise [k0_pay2]
theorem skip_at (d : FVec Ideal S1024x1 .f32) (t : FVec Ideal S1024x512 .f32) (k : Fin 1024) (l : Fin 512) :
    mulf (broadcastTo S1024x512 (k0_pay216 (F := Ideal) d) broadcasts_S1024x1_S1024x512) t (ix2 k l) = d (ix2 k (0 : Fin 1)) * t (ix2 k l) := by
  pointwise [k0_pay216]

variable {x0 x1 x2 x3 x4 x5 x6 x7 x8}

/-- The block's value at a channel and a column. -/
theorem out_at {x9 : Vec Ideal S1024x1 .f32} {K : Weights} {R : Rows} {l : Fin 512} (hK : IsWeights x5 x6 x7 x8 x9 K) (hR : IsRows x0 x1 x2 x3 x4 R l) (d : Fin 1024) :
    out0_9 (F := Ideal) x0 x1 x2 x3 x4 x5 x6 x7 x8 (ix2 d l) = mixed R K d := by
  rw [out_eq]
  unfold mixBlock
  refine (pay1_at _ _ _ _ _ _ _ _ _).trans (congrFun ?_ d)
  refine Eq.trans ?_ (mixedC_at hK hR (v := k0_pay2 x0 (View.ld x8 r0_1) x1) (b := mulf (broadcastTo S1024x512 (k0_pay216 x5) broadcasts_S1024x1_S1024x512) (untile x2))
    (fun d => pay2_at _ _ _ d l) (fun k => skip_at _ _ k l))
  rw [show View.ld x0 r0_0 = x0 from ld_block x0, show View.ld x1 r0_0 = x1 from ld_blockb x1, show View.ld x4 r0_0 = x4 from ld_block x4,
    show View.ld x5 r0_514 = x5 from ld_col x5, show View.ld x6 r0_515 = x6 from ld_square x6, show View.ld x7 r0_514 = x7 from ld_col x7]

end Body

variable (m : (ℓ : Loc nD τ sig) → Buf (Elt Ideal) ℓ) (c : Dev nD)

/-- The arguments the call is launched with; it has no last norm. -/
def args : Args where
  xP := m ((c : Thread nD τ).loc main_arg0)
  xS := m ((c : Thread nD τ).loc main_arg1)
  yaP := m ((c : Thread nD τ).loc main_arg2)
  yaS := m ((c : Thread nD τ).loc main_arg3)
  xbP := m ((c : Thread nD τ).loc main_arg4)
  xbS := m ((c : Thread nD τ).loc main_arg5)
  ysP := m ((c : Thread nD τ).loc main_arg6)
  ysS := m ((c : Thread nD τ).loc main_arg7)
  szP := m ((c : Thread nD τ).loc main_arg8)
  szS := m ((c : Thread nD τ).loc main_arg9)
  dsk := m ((c : Thread nD τ).loc main_arg10)
  wg := m ((c : Thread nD τ).loc main_arg11)
  bg := m ((c : Thread nD τ).loc main_arg12)
  wo := m ((c : Thread nD τ).loc main_arg13)
  fg := fun _ => 0

/-! ## The operands the host prepares -/

theorem opX : V m c main_v12 = columns (args m c).xP (args m c).xS := by
  simp only [V, hostOps0]
  after_results_simp
  rfl
theorem opYa : V m c main_v20 = (truncf .bf16 (columns (args m c).yaP (args m c).yaS) bitsLt_bf16_f32 : FVec Ideal S1024x98304 .bf16) := by
  simp only [V, hostOps0]
  after_results_simp
  rfl
theorem opXb : V m c main_v30 = tiles (args m c).xbP (args m c).xbS := by
  simp only [V, hostOps0]
  after_results_simp
  rfl
theorem opYs : V m c main_v40 = tiles (args m c).ysP (args m c).ysS := by
  simp only [V, hostOps0]
  after_results_simp
  rfl
theorem opSz : V m c main_v47 = columns (args m c).szP (args m c).szS := by
  simp only [V, hostOps0]
  after_results_simp
  rfl
theorem opDsk (k : Fin 1024) : V m c main_v0 (ix2 k (0 : Fin 1)) = (args m c).weights.dsk k := by
  simp only [V, hostOps0]
  after_results_simp
  pointwise [args, Args.weights]
theorem opWg (j k : Fin 1024) : V m c main_v2 (ix2 j k) = (args m c).weights.wg k j := by
  simp only [V, hostOps0]
  after_results_simp
  pointwise [args, Args.weights]
theorem opBg (k : Fin 1024) : V m c main_v3 (ix2 k (0 : Fin 1)) = (args m c).weights.bg k := by
  simp only [V, hostOps0]
  after_results_simp
  pointwise [args, Args.weights]
theorem opWo (d : Fin 1024) (k : Fin 2048) : V m c main_v5 (ix2 d k) = (args m c).weights.wo k d := by
  simp only [V, hostOps0]
  after_results_simp
  pointwise [args, Args.weights]

/-! ## The blocks the body is given -/

/-- The windows' index maps. -/
theorem idx : ∀ t : Fin cfg0.N, win0_0.index t = ![0, t.val] ∧ win0_1.index t = ![0, t.val] ∧ win0_2.index t = ![0, t.val, 0]
    ∧ win0_3.index t = ![0, t.val, 0] ∧ win0_4.index t = ![0, t.val] ∧ win0_5.index t = ![0, 0] ∧ win0_6.index t = ![0, 0]
    ∧ win0_7.index t = ![0, 0] ∧ win0_8.index t = ![0, 0] ∧ win0_9.index t = ![0, t.val] ∧ t.val < 192 :=
  (by decide +kernel : ∀ t : Fin grid0.N, _)

theorem pt (t : Fin cfg0.N) : t.val < 192 := (idx t).2.2.2.2.2.2.2.2.2.2

/-- The number of the block of columns a point works on. -/
abbrev tile (t : Fin cfg0.N) : Fin 192 := ⟨t.val, pt t⟩

theorem blk0 (t : Fin cfg0.N) (k : Fin 1024) (l : Fin 512) : (show FVec Ideal S1024x512 .f32 from iblk m c 0 t) (ix2 k l)
    = V m c main_v12 (ix2 k (⟨512 * (tile t).val + l.val, by omega⟩ : Fin 98304)) := by
  blk_ext [iblk, idx t]
theorem blk1 (t : Fin cfg0.N) (k : Fin 1024) (l : Fin 512) : (show FVec Ideal S1024x512 .bf16 from iblk m c 1 t) (ix2 k l)
    = V m c main_v20 (ix2 k (⟨512 * (tile t).val + l.val, by omega⟩ : Fin 98304)) := by
  blk_ext [iblk, idx t]
theorem read2 (W : (b : Ref sig .tc) → Buf (Elt Ideal) ((c : Thread nD τ).loc b)) (t : Fin cfg0.N) (r : Fin 128) (u : Fin 32) (q : Fin 128) :
    (show FVec Ideal S128x32x128 .f32 from ((cfg0.win 2).blk t).view.read (Elt Ideal) (W (Pipeline.arrRef spec0 2))) (ix3 r u q)
    = W main_v30 (ix3 r (⟨32 * (tile t).val + u.val, by omega⟩ : Fin 6144) q) := by
  blk_ext [idx t]
theorem blk2 (t : Fin cfg0.N) (r : Fin 128) (u : Fin 32) (q : Fin 128) : (show FVec Ideal S128x32x128 .f32 from iblk m c 2 t) (ix3 r u q)
    = V m c main_v30 (ix3 r (⟨32 * (tile t).val + u.val, by omega⟩ : Fin 6144) q) := by
  unfold iblk
  exact read2 c (V m c) t r u q
theorem read3 (W : (b : Ref sig .tc) → Buf (Elt Ideal) ((c : Thread nD τ).loc b)) (t : Fin cfg0.N) (r : Fin 128) (u : Fin 32) (q : Fin 128) :
    (show FVec Ideal S128x32x128 .f32 from ((cfg0.win 3).blk t).view.read (Elt Ideal) (W (Pipeline.arrRef spec0 3))) (ix3 r u q)
    = W main_v40 (ix3 r (⟨32 * (tile t).val + u.val, by omega⟩ : Fin 6144) q) := by
  blk_ext [idx t]
theorem blk3 (t : Fin cfg0.N) (r : Fin 128) (u : Fin 32) (q : Fin 128) : (show FVec Ideal S128x32x128 .f32 from iblk m c 3 t) (ix3 r u q)
    = V m c main_v40 (ix3 r (⟨32 * (tile t).val + u.val, by omega⟩ : Fin 6144) q) := by
  unfold iblk
  exact read3 c (V m c) t r u q
theorem blk4 (t : Fin cfg0.N) (k : Fin 1024) (l : Fin 512) : (show FVec Ideal S1024x512 .f32 from iblk m c 4 t) (ix2 k l)
    = V m c main_v47 (ix2 k (⟨512 * (tile t).val + l.val, by omega⟩ : Fin 98304)) := by
  blk_ext [iblk, idx t]
theorem blk5 (t : Fin cfg0.N) (k : Fin 1024) : (show FVec Ideal S1024x1 .f32 from iblk m c 5 t) (ix2 k (0 : Fin 1)) = V m c main_v0 (ix2 k (0 : Fin 1)) := by
  blk_ext [iblk, idx t]
theorem blk6 (t : Fin cfg0.N) (j k : Fin 1024) : (show FVec Ideal S1024x1024 .bf16 from iblk m c 6 t) (ix2 j k) = V m c main_v2 (ix2 j k) := by
  blk_ext [iblk, idx t]
theorem blk7 (t : Fin cfg0.N) (k : Fin 1024) : (show FVec Ideal S1024x1 .f32 from iblk m c 7 t) (ix2 k (0 : Fin 1)) = V m c main_v3 (ix2 k (0 : Fin 1)) := by
  blk_ext [iblk, idx t]
theorem blk8 (t : Fin cfg0.N) (d : Fin 1024) (k : Fin 2048) : (show FVec Ideal S1024x2048 .bf16 from iblk m c 8 t) (ix2 d k) = V m c main_v5 (ix2 d k) := by
  blk_ext [iblk, idx t]

/-! ## The result -/

theorem weights_at (t : Fin cfg0.N) : IsWeights (iblk m c 5 t) (iblk m c 6 t) (iblk m c 7 t) (iblk m c 8 t) (fun _ => (0 : EReal)) (args m c).weights where
  dsk k := (blk5 m c t k).trans (opDsk m c k)
  wg j k := (blk6 m c t j k).trans (opWg m c j k)
  bg k := (blk7 m c t k).trans (opBg m c k)
  wo d k := (blk8 m c t d k).trans (opWo m c d k)
  fg _ := rfl

theorem point (t : Fin cfg0.N) (d : Fin 1024) (l : Fin 512) :
    out0_9 (F := Ideal) (iblk m c 0 t) (iblk m c 1 t) (iblk m c 2 t) (iblk m c 3 t) (iblk m c 4 t) (iblk m c 5 t) (iblk m c 6 t) (iblk m c 7 t) (iblk m c 8 t)
      (ix2 d l)
    = (args m c).resM (ix2 d (⟨512 * t.val + l.val, by have := pt t; omega⟩ : Fin 98304)) := by
  refine (out_at (weights_at m c t) (rows_of (args m c) (tile t) (fun k l => (blk0 m c t k l).trans (congrFun (opX m c) _))
    (fun k l => (blk1 m c t k l).trans (congrFun (opYa m c) _)) (fun r u q => (blk2 m c t r u q).trans (congrFun (opXb m c) _))
    (fun r u q => (blk3 m c t r u q).trans (congrFun (opYs m c) _)) (fun k l => (blk4 m c t k l).trans (congrFun (opSz m c) _)) l) d).trans ?_
  have e1 : (512 * t.val + l.val) / 128 = 4 * t.val + l.val / 128 := by omega
  have e2 : (512 * t.val + l.val) % 128 = l.val % 128 := by omega
  unfold Args.resM
  dsimp only [ix2_0, ix2_1]
  simp only [e1, e2]

/-- The result array after the run. -/
theorem final : (dats m 0 c).arrAt 9 (cfgs 0).N = (args m c).resM := by
  refine (dats m 0 c).arrAt_eq_of_covers 9 _ (by decide +kernel) fun t _ y => ?_
  blk_simp
  rw [after0_9]
  obtain ⟨d, l, rfl⟩ : ∃ (d : Fin 1024) (l : Fin 512), y = ix2 d l := ⟨y 0, y 1, eq_ix2 y⟩
  refine (point m c t d l).trans ?_
  blk_ext [idx t]

end Cert.Out.Middle

end
-- ==== Proof.OutRefM.lean ====
module

public import proofs.«01_k».proof.Proof.Gen.Reference4Ideal.Run
public import proofs.«01_k».proof.Proof.OutArgs
public import proofs.«01_k».proof.Proof.MixRef
public import Idealize.ShloMosaic.Lib.Claim

/-! The result of the reference of the layer's closing step without its norm, entry by entry. -/

@[expose] public section

set_option maxRecDepth 16384
noncomputable section
open Idealize.ShloMosaic Idealize.ShloMosaic.TcCoe Idealize.SL.Sem
open Cert.Reference4Ideal Cert.Reference4Ideal.Gen Cert.Reference4Ideal.Value
open Cert.Mix
namespace Cert.Out.RefM

variable (m : (ℓ : Loc nD τ sig) → Buf (Elt Ideal) ℓ) (c : Dev nD)

/-- The arguments the reference is launched with; it has no last norm. -/
def args : Args where
  xP := m ((c.tc : Thread nD τ).loc main_arg0)
  xS := m ((c.tc : Thread nD τ).loc main_arg1)
  yaP := m ((c.tc : Thread nD τ).loc main_arg2)
  yaS := m ((c.tc : Thread nD τ).loc main_arg3)
  xbP := m ((c.tc : Thread nD τ).loc main_arg4)
  xbS := m ((c.tc : Thread nD τ).loc main_arg5)
  ysP := m ((c.tc : Thread nD τ).loc main_arg6)
  ysS := m ((c.tc : Thread nD τ).loc main_arg7)
  szP := m ((c.tc : Thread nD τ).loc main_arg8)
  szS := m ((c.tc : Thread nD τ).loc main_arg9)
  dsk := m ((c.tc : Thread nD τ).loc main_arg10)
  wg := m ((c.tc : Thread nD τ).loc main_arg11)
  bg := m ((c.tc : Thread nD τ).loc main_arg12)
  wo := m ((c.tc : Thread nD τ).loc main_arg13)
  fg := fun _ => 0

variable (A : Args)

/-! ## The prompts -/

namespace Prompt

/-- One number at every entry. -/
abbrev every (b : BitVec 32) : FVec Ideal S16x2048x1024 .f32 := broadcastInDim S16x2048x1024 ![] bcast_S_S16x2048x1024 (constant S_ .f32 b)
/-- One row at every position. -/
abbrev row (v : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 v)

/-- gelu of the mixed input with its skip, -/
def gy (y : FVec Ideal S16x2048x1024 .f32) : FVec Ideal S16x2048x1024 .f32 :=
  mulf y (mulf (every 0x3F000000#32) (addf (every 0x3F800000#32) (Host.tanh (mulf (every 0x3F4C422A#32)
    (addf y (mulf (every 0x3D372713#32) (mulf (mulf y y) y)))))))
/-- the second branch, -/
def br (g : FVec Ideal S16x2048x1024 .f32) : FVec Ideal S16x2048x1024 .f32 :=
  mulf (mulf g (Host.divf (every 0x3F800000#32) (addf (every 0x3F800000#32) (Host.exp (Host.negf
    (addf (Host.dotGeneral dot_S16x2048x1024_S1024x1024_S16x2048x1024_2_0_01_1_n_n none g A.wg) (row A.bg))))))) A.szP
/-- the residual with both branches, -/
def mx (b : FVec Ideal S16x2048x1024 .f32) : FVec Ideal S16x2048x1024 .f32 :=
  addf A.xP (Host.dotGeneral dot_S16x2048x2048_S2048x1024_S16x2048x1024_2_0_01_1_n_n none (concatenate S16x2048x2048 2
    [⟨S16x2048x1024, A.yaP⟩, ⟨S16x2048x1024, b⟩] concatenates_S16x2048x1024_S16x2048x1024_S16x2048x2048_d2) A.wo)

theorem gy_at (n : Fin 16) (l : Fin 2048) (k : Fin 1024) : gy (addf A.ysP (mulf (row A.dsk) A.xbP)) (ix3 n l k) = act (A.rowsP n l) A.weights k := by
  refine Eq.trans ?_ (gelu_cube _)
  pointwise [gy, Args.rowsP, Args.weights, prompt]

theorem br_at (g : FVec Ideal S16x2048x1024 .f32) (hg : ∀ n l k, g (ix3 n l k) = act (A.rowsP n l) A.weights k) (n : Fin 16) (l : Fin 2048)
    (k : Fin 1024) : br A g (ix3 n l k) = yb (A.rowsP n l) A.weights k := by
  pointwise [br, hg, yb, gate, Args.rowsP, Args.weights, prompt]

theorem mx_at (b : FVec Ideal S16x2048x1024 .f32) (hb : ∀ n l k, b (ix3 n l k) = yb (A.rowsP n l) A.weights k) (n : Fin 16) (l : Fin 2048)
    (d : Fin 1024) : mx A b (ix3 n l d) = Cert.Out.mixed (A.rowsP n l) A.weights d := by
  pointwise [mx, hb, Cert.Out.mixed]
  rfl

end Prompt

/-! ## The samples -/

namespace Sample

/-- One number at every entry. -/
abbrev every (b : BitVec 32) : FVec Ideal S16x4096x1024 .f32 := broadcastInDim S16x4096x1024 ![] bcast_S_S16x4096x1024 (constant S_ .f32 b)
/-- One row at every position. -/
abbrev row (v : FVec Ideal S1024 .f32) : FVec Ideal S16x4096x1024 .f32 :=
  broadcastInDim S16x4096x1024 ![0, 1, 2] bcast_S1x1x1024_S16x4096x1024_0_1_2 (broadcastInDim S1x1x1024 ![2] bcast_S1024_S1x1x1024_2 v)

/-- gelu of the mixed input with its skip, -/
def gy (y : FVec Ideal S16x4096x1024 .f32) : FVec Ideal S16x4096x1024 .f32 :=
  mulf y (mulf (every 0x3F000000#32) (addf (every 0x3F800000#32) (Host.tanh (mulf (every 0x3F4C422A#32)
    (addf y (mulf (every 0x3D372713#32) (mulf (mulf y y) y)))))))
/-- the second branch, -/
def br (g : FVec Ideal S16x4096x1024 .f32) : FVec Ideal S16x4096x1024 .f32 :=
  mulf (mulf g (Host.divf (every 0x3F800000#32) (addf (every 0x3F800000#32) (Host.exp (Host.negf
    (addf (Host.dotGeneral dot_S16x4096x1024_S1024x1024_S16x4096x1024_2_0_01_1_n_n none g A.wg) (row A.bg))))))) A.szS
/-- the residual with both branches, -/
def mx (b : FVec Ideal S16x4096x1024 .f32) : FVec Ideal S16x4096x1024 .f32 :=
  addf A.xS (Host.dotGeneral dot_S16x4096x2048_S2048x1024_S16x4096x1024_2_0_01_1_n_n none (concatenate S16x4096x2048 2
    [⟨S16x4096x1024, A.yaS⟩, ⟨S16x4096x1024, b⟩] concatenates_S16x4096x1024_S16x4096x1024_S16x4096x2048_d2) A.wo)

theorem gy_at (n : Fin 16) (l : Fin 4096) (k : Fin 1024) : gy (addf A.ysS (mulf (row A.dsk) A.xbS)) (ix3 n l k) = act (A.rowsS n l) A.weights k := by
  refine Eq.trans ?_ (gelu_cube _)
  pointwise [gy, Args.rowsS, Args.weights, sample]

theorem br_at (g : FVec Ideal S16x4096x1024 .f32) (hg : ∀ n l k, g (ix3 n l k) = act (A.rowsS n l) A.weights k) (n : Fin 16) (l : Fin 4096)
    (k : Fin 1024) : br A g (ix3 n l k) = yb (A.rowsS n l) A.weights k := by
  pointwise [br, hg, yb, gate, Args.rowsS, Args.weights, sample]

theorem mx_at (b : FVec Ideal S16x4096x1024 .f32) (hb : ∀ n l k, b (ix3 n l k) = yb (A.rowsS n l) A.weights k) (n : Fin 16) (l : Fin 4096)
    (d : Fin 1024) : mx A b (ix3 n l d) = Cert.Out.mixed (A.rowsS n l) A.weights d := by
  pointwise [mx, hb, Cert.Out.mixed]
  rfl

end Sample

/-! ## Both -/

/-- Both batches' rows of positions, turned into columns. -/
def turned (y0 : FVec Ideal S16x2048x1024 .f32) (y1 : FVec Ideal S16x4096x1024 .f32) : FVec Ideal S1024x98304 .f32 :=
  transpose S1024x98304 [1, 0] (concatenate S98304x1024 0 [
    ⟨S32768x1024, shapeCast S32768x1024 (transpose S16x16x128x1024 [1, 0, 2, 3] (shapeCast S16x16x128x1024 y0
      shapeCasts_S16x2048x1024_S16x16x128x1024) transposes_S16x16x128x1024_S16x16x128x1024_1_0_2_3) shapeCasts_S16x16x128x1024_S32768x1024⟩,
    ⟨S65536x1024, shapeCast S65536x1024 (transpose S32x16x128x1024 [1, 0, 2, 3] (shapeCast S16x32x128x1024 y1
      shapeCasts_S16x4096x1024_S16x32x128x1024) transposes_S16x32x128x1024_S32x16x128x1024_1_0_2_3) shapeCasts_S32x16x128x1024_S65536x1024⟩]
    concatenates_S32768x1024_S65536x1024_S98304x1024_d0) transposes_S98304x1024_S1024x98304_1_0

/-- The reference's term in these steps. -/
theorem term_eq : res_main_v71 m c = turned
    (Prompt.mx (args m c) (Prompt.br (args m c) (Prompt.gy (addf (args m c).ysP (mulf (Prompt.row (args m c).dsk) (args m c).xbP)))))
    (Sample.mx (args m c) (Sample.br (args m c) (Sample.gy (addf (args m c).ysS (mulf (Sample.row (args m c).dsk) (args m c).xbS))))) := rfl

theorem turned_at (y0 : FVec Ideal S16x2048x1024 .f32) (y1 : FVec Ideal S16x4096x1024 .f32)
    (h0 : ∀ n l d, y0 (ix3 n l d) = Cert.Out.mixed (A.rowsP n l) A.weights d) (h1 : ∀ n l d, y1 (ix3 n l d) = Cert.Out.mixed (A.rowsS n l) A.weights d)
    (d : Fin 1024) (r : Fin 98304) : turned y0 y1 (ix2 d r) = A.resM (ix2 d r) := by
  unfold turned
  refine Eq.trans (transpose_apply _ _ _ _ (ix2 r d) fun b => ?_) ((rows_at y0 y1 r d).trans ?_)
  · match b with
    | ⟨0, _⟩ => rfl
    | ⟨1, _⟩ => rfl
  unfold Args.resM
  dsimp only [ix2_0, ix2_1]
  split_ifs with h
  · rw [h0, rowsC_prompt _ _ _ (by dsimp only; omega)]
    have e : r.val / 2048 * 128 + r.val % 128 = r.val / 128 / 16 * 128 + r.val % 128 := by omega
    simp only [e]
  · rw [h1, rowsC_sample _ _ _ (by dsimp only; omega)]
    have e1 : (r.val - 32768) / 128 % 16 = (r.val / 128 - 256) % 16 := by omega
    have e2 : (r.val - 32768) / 2048 * 128 + r.val % 128 = (r.val / 128 - 256) / 16 * 128 + r.val % 128 := by omega
    simp only [e1, e2]

/-- The reference's result. -/
theorem final : res_main_v71 m c = (args m c).resM := by
  rw [term_eq]
  funext i
  obtain ⟨d, r, rfl⟩ : ∃ (d : Fin 1024) (r : Fin 98304), i = ix2 d r := ⟨i 0, i 1, eq_ix2 i⟩
  exact turned_at _ _ _ (Prompt.mx_at _ _ (Prompt.br_at _ _ (Prompt.gy_at _))) (Sample.mx_at _ _ (Sample.br_at _ _ (Sample.gy_at _))) d r

end Cert.Out.RefM

end
-- ==== Proof.OutClaim.lean ====
module

public import proofs.«01_k».proof.Defs
public import proofs.«01_k».proof.Proof.Gen.Kernel2
public import proofs.«01_k».proof.Proof.Gen.Kernel3
public import proofs.«01_k».proof.Proof.Gen.Reference2Ideal
public import proofs.«01_k».proof.Proof.Gen.Reference3Ideal
public import proofs.«01_k».proof.Proof.Gen.Kernel4
public import proofs.«01_k».proof.Proof.Gen.Reference4Ideal
public import proofs.«01_k».proof.Proof.OutSample
public import proofs.«01_k».proof.Proof.OutPrompt
public import proofs.«01_k».proof.Proof.OutRefS
public import proofs.«01_k».proof.Proof.OutRefP
public import proofs.«01_k».proof.Proof.OutMiddle
public import proofs.«01_k».proof.Proof.OutRefM
public import Idealize.ShloMosaic.Lib.Claim
public import Idealize.ShloMosaic.Lib.Tactic

/-! The claims about the layer's last call, on the samples and on the prompts, and about that of the layers before the last. -/

@[expose] public section

set_option maxRecDepth 16384

noncomputable section

namespace Cert.Out

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts

/-! ## The samples -/

/-- The kernel runs, leaves its arguments as they were and every counter at zero, -/
theorem frameK2 : Cert.quiescent_Kernel2 := by
  intro m ρ _
  have h := Cert.Kernel2Ideal.Gen.frame (F := Bits) m ρ
  refine Eq.mp ?_ h
  sl_kernel_rfl

/-- its idealization too, -/
theorem frameKI2 : Cert.quiescent_Kernel2Ideal := fun m ρ _ => Cert.Kernel2Ideal.Gen.frame (F := Ideal) m ρ

/-- and the reference too. -/
theorem frameRI2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's, as extended reals. -/
theorem algebraic2 : Cert.algebraic_Kernel2Ideal_Reference2Ideal := by
  intro m g m' g' _ hagree
  refine ⟨fun c => (Sample.args m c).resS, ?_, ?_⟩
  · refine (θ_run Cert.Kernel2Ideal.defs _ _).mono (fun r h c => ?_)
      (θ_run_and (Cert.Kernel2Ideal.Gen.unchanged (F := Ideal) m g) (Cert.Kernel2Ideal.Gen.run_main (F := Ideal) m g))
    exact ⟨((h.2 c).1 10).trans (Sample.final m c), h.1 c⟩
  · refine (θ_run Cert.Reference2Ideal.defs _ _).mono (fun r h c => ?_) (Cert.Reference2Ideal.Value.run (F := Ideal) m' g')
    have e : RefS.args m' c = Sample.args m c := (Args.mk.injEq ..).mpr (hagree c)
    exact ⟨(h c).1.trans ((RefS.final m' c).trans (congrArg Args.resS e)), (h c).2⟩

/-! ## The prompts -/

/-- The kernel runs, leaves its arguments as they were and every counter at zero, -/
theorem frameK3 : Cert.quiescent_Kernel3 := by
  intro m ρ _
  have h := Cert.Kernel3Ideal.Gen.frame (F := Bits) m ρ
  refine Eq.mp ?_ h
  sl_kernel_rfl

/-- its idealization too, -/
theorem frameKI3 : Cert.quiescent_Kernel3Ideal := fun m ρ _ => Cert.Kernel3Ideal.Gen.frame (F := Ideal) m ρ

/-- and the reference too. -/
theorem frameRI3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's, as extended reals. -/
theorem algebraic3 : Cert.algebraic_Kernel3Ideal_Reference3Ideal := by
  intro m g m' g' _ hagree
  refine ⟨fun c => (Prompt.args m c).resP, ?_, ?_⟩
  · refine (θ_run Cert.Kernel3Ideal.defs _ _).mono (fun r h c => ?_)
      (θ_run_and (Cert.Kernel3Ideal.Gen.unchanged (F := Ideal) m g) (Cert.Kernel3Ideal.Gen.run_main (F := Ideal) m g))
    exact ⟨((h.2 c).1 10).trans (Prompt.final m c), h.1 c⟩
  · refine (θ_run Cert.Reference3Ideal.defs _ _).mono (fun r h c => ?_) (Cert.Reference3Ideal.Value.run (F := Ideal) m' g')
    have e : RefP.args m' c = Prompt.args m c := (Args.mk.injEq ..).mpr (hagree c)
    exact ⟨(h c).1.trans ((RefP.final m' c).trans (congrArg Args.resP e)), (h c).2⟩

/-! ## The layers before the last -/

/-- The kernel runs, leaves its arguments as they were and every counter at zero, -/
theorem frameK4 : Cert.quiescent_Kernel4 := by
  intro m ρ _
  have h := Cert.Kernel4Ideal.Gen.frame (F := Bits) m ρ
  refine Eq.mp ?_ h
  sl_kernel_rfl

/-- its idealization too, -/
theorem frameKI4 : Cert.quiescent_Kernel4Ideal := fun m ρ _ => Cert.Kernel4Ideal.Gen.frame (F := Ideal) m ρ

/-- and the reference too. -/
theorem frameRI4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's, as extended reals. -/
theorem algebraic4 : Cert.algebraic_Kernel4Ideal_Reference4Ideal := by
  intro m g m' g' _ hagree
  refine ⟨fun c => (Middle.args m c).resM, ?_, ?_⟩
  · refine (θ_run Cert.Kernel4Ideal.defs _ _).mono (fun r h c => ?_)
      (θ_run_and (Cert.Kernel4Ideal.Gen.unchanged (F := Ideal) m g) (Cert.Kernel4Ideal.Gen.run_main (F := Ideal) m g))
    exact ⟨((h.2 c).1 9).trans (Middle.final m c), h.1 c⟩
  · refine (θ_run Cert.Reference4Ideal.defs _ _).mono (fun r h c => ?_) (Cert.Reference4Ideal.Value.run (F := Ideal) m' g')
    have e : RefM.args m' c = Middle.args m c := by
      obtain ⟨h0, h1, h2, h3, h4, h5, h6, h7, h8, h9, h10, h11, h12, h13⟩ := hagree c
      exact (Args.mk.injEq ..).mpr ⟨h0, h1, h2, h3, h4, h5, h6, h7, h8, h9, h10, h11, h12, h13, rfl⟩
    exact ⟨(h c).1.trans ((RefM.final m' c).trans (congrArg Args.resM e)), (h c).2⟩

end Cert.Out

end
-- ==== Proof.FirstSame.lean ====
module

public import proofs.«01_k».proof.Proof.Gen.Kernel5Ideal.Skeleton
public import Idealize.ShloMosaic.Lib.Tactic

/-! The two calls of the first layer run the same body: the second one's carried arrays are not read. -/

@[expose] public section

set_option maxRecDepth 16384

noncomputable section

namespace Cert.First

open Idealize.ShloMosaic Idealize.ShloMosaic.TcCoe Idealize.ShloMosaic.Tactic
open Idealize.SL.Sem
open Cert.Kernel5Ideal Cert.Kernel5Ideal.Gen

variable {F : FTy → Type} [FloatOps F]

/-- The second call's body is the first one's. -/
theorem same_body (i₀ : grid0.Coords) (i : grid1.Coords) (arg1 : Memref sig .tc .vmem S4x128x1024 .f32) (harg1 : arg1.IsWhole) (arg2 : Memref sig .tc .vmem S1024x1 .f32) (harg2 : arg2.IsWhole) (arg3 : Memref sig .tc .vmem S5120x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S2x256x256 .bf16) (harg6 : arg6.IsWhole) (arg7 : Memref sig .tc .vmem S2x1x256 .f32) (harg7 : arg7.IsWhole) (arg8 : Memref sig .tc .hbm S1024x98304 .bf16) (harg8 : arg8.IsWhole) (arg9 : Memref sig .tc .hbm S128x6144x128 .f32) (harg9 : arg9.IsWhole) (arg10 : Memref sig .tc .hbm S1024x98304 .f32) (harg10 : arg10.IsWhole) (arg11 : Memref sig .tc .hbm S1024x98304 .f32) (harg11 : arg11.IsWhole) (arg12 : Memref sig .tc .vmem S1024x512 .bf16) (harg12 : arg12.IsWhole) (arg13 : Memref sig .tc .vmem S128x32x128 .f32) (harg13 : arg13.IsWhole) (arg14 : Memref sig .tc .vmem S1024x512 .f32) (harg14 : arg14.IsWhole) (arg15 : Memref sig .tc .vmem S1024x512 .f32) (harg15 : arg15.IsWhole) :
    cc1_mix_in_natural (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = cc0_mix_in_natural (F := F) i₀ arg1 harg1 arg2 harg2 arg3 harg3 arg4 harg4 arg5 harg5 arg6 harg6 arg7 harg7 arg12 harg12 arg13 harg13 arg14 harg14 arg15 harg15 := by
  sl_kernel_rfl

end Cert.First

end
-- ==== Proof.FirstOut.lean ====
module

public import proofs.«01_k».proof.Proof.Gen.Kernel5Ideal.Skeleton
public import proofs.«01_k».proof.Proof.Gen.Kernel5Ideal.Points
public import proofs.«01_k».proof.Proof.FirstSame
public import proofs.«01_k».proof.Proof.MixOut
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Claim
public import Idealize.ShloMosaic.Lib.WordCmp

/-! What the body of the first layer's calls stores, over the blocks it is given. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Mix (rBlock rCol rWv rWx rWz rWu rWg rM0 rM1 rB0 rB1 xbTile tile_piece canon_tile cover_block)

variable {F : FTy → Type} [FloatOps F]

/-! ## What the body stores -/

/-- Slab `u` of the block of rows, -/
abbrev rSlab0 : Rect S4x128x1024 := Rect.unit (s := S4x128x1024) ![0, 0, 0] S1x128x1024.size inb_S4x128x1024_S1x128x1024_0_0_0
abbrev rSlab1 : Rect S4x128x1024 := Rect.unit (s := S4x128x1024) ![1, 0, 0] S1x128x1024.size inb_S4x128x1024_S1x128x1024_1_0_0
abbrev rSlab2 : Rect S4x128x1024 := Rect.unit (s := S4x128x1024) ![2, 0, 0] S1x128x1024.size inb_S4x128x1024_S1x128x1024_2_0_0
abbrev rSlab3 : Rect S4x128x1024 := Rect.unit (s := S4x128x1024) ![3, 0, 0] S1x128x1024.size inb_S4x128x1024_S1x128x1024_3_0_0

variable (x : Vec F S4x128x1024 .f32) (g : Vec F S1024x1 .f32) (w : Vec F S5120x1024 .bf16) (a b : Vec F S1024x1 .f32)
  (s : Vec F S2x256x256 .bf16) (d : Vec F S2x1x256 .f32)

/-- and the four slabs with channels first, one after another. -/
def rows : FVec F S1024x512 .f32 := k0_pay2 (View.ld x rSlab0) (View.ld x rSlab1) (View.ld x rSlab2) (View.ld x rSlab3)
/-- The normalised block, -/
abbrev norm : FVec F S1024x512 .bf16 :=
  k0_pay3 (View.ld x rSlab0) (View.ld x rSlab1) (View.ld x rSlab2) (View.ld x rSlab3) (View.ld g rCol)
/-- its projection to the mixed branch, -/
abbrev proj : FVec F S1024x512 .f32 :=
  k0_pay10 (k0_pay4 (View.ld x rSlab0) (View.ld x rSlab1) (View.ld x rSlab2) (View.ld x rSlab3) (View.ld g rCol) (View.ld w rWv))
/-- the mixed branch, -/
abbrev vBlock : FVec F S1024x512 .bf16 := k0_pay11 (proj x g w) (View.ld a rCol) (View.ld b rCol)
/-- The mixed product the body stores, -/
def outY : Vec F S1024x512 .bf16 :=
  View.canon [⟨rBlock, k0_pay1 (k0_pay593 (k0_pay8 (norm x g) (View.ld w rWu)) (k0_pay9 (norm x g) (View.ld w rWg)))
    (k0_pay600 (k0_pay594 (vBlock x g w a b)) (k0_pay595 (vBlock x g w a b)) (k0_pay596 (vBlock x g w a b)) (k0_pay597 (vBlock x g w a b)) (k0_pay598 (vBlock x g w a b)) (View.ld s rM0) (View.ld d rB0))
    (k0_pay601 (k0_pay594 (vBlock x g w a b)) (k0_pay595 (vBlock x g w a b)) (k0_pay596 (vBlock x g w a b)) (k0_pay597 (vBlock x g w a b)) (k0_pay598 (vBlock x g w a b)) (View.ld s rM0) (View.ld d rB0))
    (k0_pay602 (vBlock x g w a b) (View.ld s rM1)) (k0_pay603 (View.ld d rB1))⟩]
/-- its state-space input in tile-major order, -/
def outX : Vec F S128x32x128 .f32 := xbTile (k0_pay6 (norm x g) (k0_pay5 (View.ld w rWx)))
/-- the gate of the state-space output -/
def outZ : Vec F S1024x512 .f32 := View.canon [⟨rBlock, k0_pay592 (k0_pay7 (norm x g) (View.ld w rWz))⟩]
/-- and the rows with channels first. -/
def outT : Vec F S1024x512 .f32 := View.canon [⟨rBlock, rows x⟩]

/-! ## They are those of the second layer's body, at the rows with channels first -/

theorem norm_eq (p q r t : Vec F S1x128x1024 .f32) (e : Vec F S1024x1 .f32) :
    k0_pay3 p q r t e = Cert.KernelIdeal.Gen.k0_pay1 (k0_pay2 p q r t) e := by
  unfold Cert.KernelIdeal.Gen.k0_pay1 k0_pay3
  simp only [shapeCast_self]
theorem lift_eq (p q r t : Vec F S1x128x1024 .f32) (e : Vec F S1024x1 .f32) (f : Vec F S1024x1024 .bf16) :
    k0_pay4 p q r t e f = Cert.KernelIdeal.Gen.k0_pay2 (k0_pay2 p q r t) e f := by
  unfold Cert.KernelIdeal.Gen.k0_pay2 k0_pay4
  rw [norm_eq]
  rfl
theorem ld_rows (y : Vec F S1024x512 .f32) : View.ld y rBlock = y := View.ld_unit_lit _ _ (by decide)

theorem outY_eq : outY x g w a b s d = Mix.outY (rows x) g w a b s d := by
  unfold outY Mix.outY Mix.vBlock vBlock proj norm
  rw [norm_eq, lift_eq, ld_rows]
  unfold rows
  sl_kernel_rfl
theorem outX_eq : outX x g w = Mix.outX (rows x) g w := by
  unfold outX Mix.outX norm
  rw [norm_eq, ld_rows]
  unfold rows
  sl_kernel_rfl
theorem outZ_eq : outZ x g w = Mix.outZ (rows x) g w := by
  unfold outZ Mix.outZ norm
  rw [norm_eq, ld_rows]
  unfold rows
  sl_kernel_rfl
theorem outT_eq : outT x = rows x := by
  unfold outT
  exact View.canon_cons_unit_lit _ _ _ (by decide)

end Cert.First

end
-- ==== Proof.FirstBody.lean ====
module

public import proofs.«01_k».proof.Proof.Gen.Kernel5Ideal.Launch
public import proofs.«01_k».proof.Proof.Gen.Kernel5Ideal.Points
public import proofs.«01_k».proof.Proof.FirstSame
public import proofs.«01_k».proof.Proof.FirstOut
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Claim
public import Idealize.ShloMosaic.Lib.WordCmp

/-! The body of the first layer's first call: what it leaves for one block. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Mix (rBlock rCol rWv rWx rWz rWu rWg rM0 rM1 rB0 rB1 xbTile tile_piece canon_tile cover_block)

variable {F : FTy → Type} [FloatOps F]

local notation "𝕄" => MT nD τ sig Unit (Elt F) ℕ (UR sig nD τ) ℕ

set_option maxHeartbeats 8000000 in
/-- The body, from the blocks it is given to what it leaves in its four results. -/
theorem body_sound (c : Dev nD) (E : Set ℕ) (i : grid0.Coords)
    (arg1 : Memref sig .tc .vmem S4x128x1024 .f32) (h1 : arg1.IsWhole) (arg2 : Memref sig .tc .vmem S1024x1 .f32) (h2 : arg2.IsWhole) (arg3 : Memref sig .tc .vmem S5120x1024 .bf16) (h3 : arg3.IsWhole) (arg4 : Memref sig .tc .vmem S1024x1 .f32) (h4 : arg4.IsWhole) (arg5 : Memref sig .tc .vmem S1024x1 .f32) (h5 : arg5.IsWhole) (arg6 : Memref sig .tc .vmem S2x256x256 .bf16) (h6 : arg6.IsWhole) (arg7 : Memref sig .tc .vmem S2x1x256 .f32) (h7 : arg7.IsWhole) (arg8 : Memref sig .tc .vmem S1024x512 .bf16) (h8 : arg8.IsWhole) (arg9 : Memref sig .tc .vmem S128x32x128 .f32) (h9 : arg9.IsWhole) (arg10 : Memref sig .tc .vmem S1024x512 .f32) (h10 : arg10.IsWhole) (arg11 : Memref sig .tc .vmem S1024x512 .f32) (h11 : arg11.IsWhole)
    (x0 : Vec F S4x128x1024 .f32) (x1 : Vec F S1024x1 .f32) (x2 : Vec F S5120x1024 .bf16) (x3 : Vec F S1024x1 .f32) (x4 : Vec F S1024x1 .f32) (x5 : Vec F S2x256x256 .bf16) (x6 : Vec F S2x1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outY x0 x1 x2 x3 x4 x5 x6) ∗ owns (c : Thread nD τ) arg9 fullShare (outX x0 x1 x2) ∗ owns (c : Thread nD τ) arg10 fullShare (outZ x0 x1 x2) ∗ owns (c : Thread nD τ) arg11 fullShare (outT x0)) -∗ K ⟨⟩))
      ⊢ wp frame (wpE (defs₀ (F := F)) Variants.none c none) E (cc0_mix_in_natural i arg1 h1 arg2 h2 arg3 h3 arg4 h4 arg5 h5 arg6 h6 arg7 h7 arg8 h8 arg9 h9 arg10 h10 arg11 h11) K := by
  simp only [cc0_mix_in_natural_eq_skeleton]; unfold cc0_mix_in_natural_skel
  simp only [k0_part73_eq_skeleton, k0_part1_eq_skeleton, k0_part2_eq_skeleton, k0_part3_eq_skeleton,
    k0_part4_eq_skeleton, k0_part5_eq_skeleton, k0_part6_eq_skeleton, k0_part7_eq_skeleton,
    k0_part8_eq_skeleton, k0_part9_eq_skeleton, k0_part10_eq_skeleton, k0_part11_eq_skeleton,
    k0_part12_eq_skeleton, k0_part13_eq_skeleton, k0_part14_eq_skeleton, k0_part15_eq_skeleton,
    k0_part16_eq_skeleton, k0_part17_eq_skeleton, k0_part18_eq_skeleton, k0_part19_eq_skeleton,
    k0_part20_eq_skeleton, k0_part21_eq_skeleton, k0_part22_eq_skeleton, k0_part23_eq_skeleton,
    k0_part24_eq_skeleton, k0_part25_eq_skeleton, k0_part26_eq_skeleton, k0_part27_eq_skeleton,
    k0_part28_eq_skeleton, k0_part29_eq_skeleton, k0_part30_eq_skeleton, k0_part31_eq_skeleton,
    k0_part32_eq_skeleton, k0_part33_eq_skeleton, k0_part34_eq_skeleton, k0_part35_eq_skeleton,
    k0_part36_eq_skeleton, k0_part37_eq_skeleton, k0_part38_eq_skeleton, k0_part39_eq_skeleton,
    k0_part40_eq_skeleton, k0_part41_eq_skeleton, k0_part42_eq_skeleton, k0_part43_eq_skeleton,
    k0_part44_eq_skeleton, k0_part45_eq_skeleton, k0_part46_eq_skeleton, k0_part47_eq_skeleton,
    k0_part48_eq_skeleton, k0_part49_eq_skeleton, k0_part50_eq_skeleton, k0_part51_eq_skeleton,
    k0_part52_eq_skeleton, k0_part53_eq_skeleton, k0_part54_eq_skeleton, k0_part55_eq_skeleton,
    k0_part56_eq_skeleton, k0_part57_eq_skeleton, k0_part58_eq_skeleton, k0_part59_eq_skeleton,
    k0_part60_eq_skeleton, k0_part61_eq_skeleton, k0_part62_eq_skeleton, k0_part63_eq_skeleton,
    k0_part64_eq_skeleton, k0_part65_eq_skeleton, k0_part66_eq_skeleton, k0_part67_eq_skeleton,
    k0_part68_eq_skeleton, k0_part69_eq_skeleton, k0_part70_eq_skeleton, k0_part71_eq_skeleton,
    k0_part72_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_block _)).trans ?_
    rfl
  isplitl [H8]
  · iexists _; isplitr
    swap; · iexact H8
    ipureintro
    refine (View.read_writes_eq_canon _ _ _ ?_).trans ?_
    · exact View.cover_of_tiledL _ S1x8x128.size (by sl_kernel_rfl)
    sl_unfold_run_names
    generalize hv : k0_pay6 (F := F) _ _ = v
    refine (canon_tile v _ ?_ ?_).trans ?_
    · repeat' (first | exact trivial | refine ⟨fun x => tile_piece v _ _ (by decide) (by decide) (by decide) (by decide) x, ?_⟩)
    · exact View.cover_of_tiledL _ S1x8x128.size (by sl_kernel_rfl)
    · subst hv; rfl
  isplitl [H9]
  · iexists _; isplitr
    swap; · iexact H9
    ipureintro
    refine (View.read_writes_eq_canon _ _ _ (cover_block _)).trans ?_
    rfl
  iexists _; isplitr
  swap; · iexact H10
  ipureintro
  refine (View.read_writes_eq_canon _ _ _ (cover_block _)).trans ?_
  rfl

end Cert.First

end
-- ==== Proof.FirstDats.lean ====
module

public import proofs.«01_k».proof.Proof.Gen.Kernel5Ideal.Launch
public import proofs.«01_k».proof.Proof.Gen.Kernel5Ideal.Points
public import proofs.«01_k».proof.Proof.FirstSame
public import proofs.«01_k».proof.Proof.FirstBody
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Claim
public import Idealize.ShloMosaic.Lib.WordCmp

/-! What each window of the two calls' pipelines holds, over the contents a call is entered with. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Mix (rBlock rCol rWv rWx rWz rWu rWg rM0 rM1 rB0 rB1 xbTile tile_piece canon_tile cover_block)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- Window `w`'s block at point `t` of call 0. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of call 0: after the body at a point each input holds its block and each result what the body stores. -/
def data0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outY (iblk0 V c 0 t) (iblk0 V c 1 t) (iblk0 V c 2 t) (iblk0 V c 3 t) (iblk0 V c 4 t) (iblk0 V c 5 t) (iblk0 V c 6 t)
    | ⟨8, _⟩ => outX (iblk0 V c 0 t) (iblk0 V c 1 t) (iblk0 V c 2 t)
    | ⟨9, _⟩ => outZ (iblk0 V c 0 t) (iblk0 V c 1 t) (iblk0 V c 2 t)
    | ⟨10, _⟩ => outT (iblk0 V c 0 t)
  Φ _ := Pipeline.ΦA spec0 c
  q _ := fullShare
  owed _ := 0

theorem A_eq0 (c : Dev nD) (w : Fin cfg0.W) : (data0 V c).A w = V c (Pipeline.arrRef spec0 w) := by dsimp only [data0]
theorem after0_0 (c : Dev nD) (t : Fin cfg0.N) : (data0 V c).after 0 t = iblk0 V c 0 t := by dsimp only [data0]
theorem after0_1 (c : Dev nD) (t : Fin cfg0.N) : (data0 V c).after 1 t = iblk0 V c 1 t := by dsimp only [data0]
theorem after0_2 (c : Dev nD) (t : Fin cfg0.N) : (data0 V c).after 2 t = iblk0 V c 2 t := by dsimp only [data0]
theorem after0_3 (c : Dev nD) (t : Fin cfg0.N) : (data0 V c).after 3 t = iblk0 V c 3 t := by dsimp only [data0]
theorem after0_4 (c : Dev nD) (t : Fin cfg0.N) : (data0 V c).after 4 t = iblk0 V c 4 t := by dsimp only [data0]
theorem after0_5 (c : Dev nD) (t : Fin cfg0.N) : (data0 V c).after 5 t = iblk0 V c 5 t := by dsimp only [data0]
theorem after0_6 (c : Dev nD) (t : Fin cfg0.N) : (data0 V c).after 6 t = iblk0 V c 6 t := by dsimp only [data0]
theorem after0_7 (c : Dev nD) (t : Fin cfg0.N) : (data0 V c).after 7 t = outY (iblk0 V c 0 t) (iblk0 V c 1 t) (iblk0 V c 2 t) (iblk0 V c 3 t) (iblk0 V c 4 t) (iblk0 V c 5 t) (iblk0 V c 6 t) := by dsimp only [data0]
theorem after0_8 (c : Dev nD) (t : Fin cfg0.N) : (data0 V c).after 8 t = outX (iblk0 V c 0 t) (iblk0 V c 1 t) (iblk0 V c 2 t) := by dsimp only [data0]
theorem after0_9 (c : Dev nD) (t : Fin cfg0.N) : (data0 V c).after 9 t = outZ (iblk0 V c 0 t) (iblk0 V c 1 t) (iblk0 V c 2 t) := by dsimp only [data0]
theorem after0_10 (c : Dev nD) (t : Fin cfg0.N) : (data0 V c).after 10 t = outT (iblk0 V c 0 t) := by dsimp only [data0]
theorem before0_0 (c : Dev nD) (t : Fin cfg0.N) (d) : (data0 V c).before 0 t d = iblk0 V c 0 t :=
  ((data0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)
theorem before0_1 (c : Dev nD) (t : Fin cfg0.N) (d) : (data0 V c).before 1 t d = iblk0 V c 1 t :=
  ((data0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; rfl)
theorem before0_2 (c : Dev nD) (t : Fin cfg0.N) (d) : (data0 V c).before 2 t d = iblk0 V c 2 t :=
  ((data0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; rfl)
theorem before0_3 (c : Dev nD) (t : Fin cfg0.N) (d) : (data0 V c).before 3 t d = iblk0 V c 3 t :=
  ((data0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; rfl)
theorem before0_4 (c : Dev nD) (t : Fin cfg0.N) (d) : (data0 V c).before 4 t d = iblk0 V c 4 t :=
  ((data0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; rfl)
theorem before0_5 (c : Dev nD) (t : Fin cfg0.N) (d) : (data0 V c).before 5 t d = iblk0 V c 5 t :=
  ((data0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; rfl)
theorem before0_6 (c : Dev nD) (t : Fin cfg0.N) (d) : (data0 V c).before 6 t d = iblk0 V c 6 t :=
  ((data0 V c).before_in_eq_fetched 6 rfl (fun _ => rfl) (fun _ _ _ => rfl) (fun t => by rw [after0_6]; unfold Dat.blockOf iblk0; rw [A_eq0]) t d).trans
    (by unfold Dat.fetched Dat.blockOf iblk0; rw [A_eq0]; rfl)

/-- What the body of call 0 is called with at a point -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d))
    ∗ (∃ d, owns (c : Thread nD τ) (st0_9 t) fullShare ((data0 V c).before 9 t d))
    ∗ (∃ d, owns (c : Thread nD τ) (st0_10 t) fullShare ((data0 V c).before 10 t d)))
/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t)
    ∗ owns (c : Thread nD τ) (st0_9 t) fullShare ((data0 V c).after 9 t)
    ∗ owns (c : Thread nD τ) (st0_10 t) fullShare ((data0 V c).after 10 t))

theorem body_at0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6]
  rw [show (data0 V c).Φ t.succ = (data0 V c).Φ t.castSucc from rfl,
    show (data0 V c).owesAt () t.succ = (data0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_sound c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_at0 (t : Fin cfg0.N) : defs₀ (F := F) .tc cfg0.body (cfg0.bodyArgs t (cfg0.slots t)) = bodyAt0 t := by
  unfold defs₀; rw [Defs.onTc_tc]

/-- The obligation of call 0 on its body. -/
theorem obligation0 (c : Dev nD) : BodyObligation (data0 (F := F) V c) (defs₀ (F := F)) Variants.none () Set.univ := fun t => by
  rw [bigSep_W0, bigSep_W0, row_at0]
  exact triple_restated (body_at0 V c t) rfl .rfl fun _ => .rfl

/-! ## Call 1 -/

/-- Window `w`'s block at point `t` of call 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of call 1: after the body at a point each input holds its block and each result what the body stores. -/
def data1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outY (iblk1 V c 0 t) (iblk1 V c 1 t) (iblk1 V c 2 t) (iblk1 V c 3 t) (iblk1 V c 4 t) (iblk1 V c 5 t) (iblk1 V c 6 t)
    | ⟨8, _⟩ => outX (iblk1 V c 0 t) (iblk1 V c 1 t) (iblk1 V c 2 t)
    | ⟨9, _⟩ => outZ (iblk1 V c 0 t) (iblk1 V c 1 t) (iblk1 V c 2 t)
    | ⟨10, _⟩ => outT (iblk1 V c 0 t)
  Φ _ := Pipeline.ΦA spec1 c
  q _ := fullShare
  owed _ := 0

theorem A_eq1 (c : Dev nD) (w : Fin cfg1.W) : (data1 V c).A w = V c (Pipeline.arrRef spec1 w) := by dsimp only [data1]
theorem after1_0 (c : Dev nD) (t : Fin cfg1.N) : (data1 V c).after 0 t = iblk1 V c 0 t := by dsimp only [data1]
theorem after1_1 (c : Dev nD) (t : Fin cfg1.N) : (data1 V c).after 1 t = iblk1 V c 1 t := by dsimp only [data1]
theorem after1_2 (c : Dev nD) (t : Fin cfg1.N) : (data1 V c).after 2 t = iblk1 V c 2 t := by dsimp only [data1]
theorem after1_3 (c : Dev nD) (t : Fin cfg1.N) : (data1 V c).after 3 t = iblk1 V c 3 t := by dsimp only [data1]
theorem after1_4 (c : Dev nD) (t : Fin cfg1.N) : (data1 V c).after 4 t = iblk1 V c 4 t := by dsimp only [data1]
theorem after1_5 (c : Dev nD) (t : Fin cfg1.N) : (data1 V c).after 5 t = iblk1 V c 5 t := by dsimp only [data1]
theorem after1_6 (c : Dev nD) (t : Fin cfg1.N) : (data1 V c).after 6 t = iblk1 V c 6 t := by dsimp only [data1]
theorem after1_7 (c : Dev nD) (t : Fin cfg1.N) : (data1 V c).after 7 t = outY (iblk1 V c 0 t) (iblk1 V c 1 t) (iblk1 V c 2 t) (iblk1 V c 3 t) (iblk1 V c 4 t) (iblk1 V c 5 t) (iblk1 V c 6 t) := by dsimp only [data1]
theorem after1_8 (c : Dev nD) (t : Fin cfg1.N) : (data1 V c).after 8 t = outX (iblk1 V c 0 t) (iblk1 V c 1 t) (iblk1 V c 2 t) := by dsimp only [data1]
theorem after1_9 (c : Dev nD) (t : Fin cfg1.N) : (data1 V c).after 9 t = outZ (iblk1 V c 0 t) (iblk1 V c 1 t) (iblk1 V c 2 t) := by dsimp only [data1]
theorem after1_10 (c : Dev nD) (t : Fin cfg1.N) : (data1 V c).after 10 t = outT (iblk1 V c 0 t) := by dsimp only [data1]
theorem before1_0 (c : Dev nD) (t : Fin cfg1.N) (d) : (data1 V c).before 0 t d = iblk1 V c 0 t :=
  ((data1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (data1 V c).before 1 t d = iblk1 V c 1 t :=
  ((data1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (data1 V c).before 2 t d = iblk1 V c 2 t :=
  ((data1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)
theorem before1_3 (c : Dev nD) (t : Fin cfg1.N) (d) : (data1 V c).before 3 t d = iblk1 V c 3 t :=
  ((data1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; rfl)
theorem before1_4 (c : Dev nD) (t : Fin cfg1.N) (d) : (data1 V c).before 4 t d = iblk1 V c 4 t :=
  ((data1 V c).before_in_eq_fetched 4 rfl (fun _ => rfl) (fun _ _ _ => rfl) (fun t => by rw [after1_4]; unfold Dat.blockOf iblk1; rw [A_eq1]) t d).trans
    (by unfold Dat.fetched Dat.blockOf iblk1; rw [A_eq1]; rfl)
theorem before1_5 (c : Dev nD) (t : Fin cfg1.N) (d) : (data1 V c).before 5 t d = iblk1 V c 5 t :=
  ((data1 V c).before_in_eq_fetched 5 rfl (fun _ => rfl) (fun _ _ _ => rfl) (fun t => by rw [after1_5]; unfold Dat.blockOf iblk1; rw [A_eq1]) t d).trans
    (by unfold Dat.fetched Dat.blockOf iblk1; rw [A_eq1]; rfl)
theorem before1_6 (c : Dev nD) (t : Fin cfg1.N) (d) : (data1 V c).before 6 t d = iblk1 V c 6 t :=
  ((data1 V c).before_in_eq_fetched 6 rfl (fun _ => rfl) (fun _ _ _ => rfl) (fun t => by rw [after1_6]; unfold Dat.blockOf iblk1; rw [A_eq1]) t d).trans
    (by unfold Dat.fetched Dat.blockOf iblk1; rw [A_eq1]; rfl)

/-- What the body of call 1 is called with at a point -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d))
    ∗ (∃ d, owns (c : Thread nD τ) (st1_10 t) fullShare ((data1 V c).before 10 t d)))
/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t)
    ∗ owns (c : Thread nD τ) (st1_8 t) fullShare ((data1 V c).after 8 t)
    ∗ owns (c : Thread nD τ) (st1_9 t) fullShare ((data1 V c).after 9 t)
    ∗ owns (c : Thread nD τ) (st1_10 t) fullShare ((data1 V c).after 10 t))

/-- A grid point for the body, which reads none. -/
def start : grid0.Coords := grid0.coords ⟨0, by decide⟩

theorem body_at1 (c : Dev nD) (t : Fin cfg1.N) :
    pre1 V c t ⊢ wp frame (wpE (defs₀ (F := F)) Variants.none c none) Set.univ (bodyAt1 t) (fun _ => post1 V c t) := by
  unfold pre1 post1 bodyAt1
  rw [same_body start]
  simp only [before1_0, before1_1, before1_2, before1_3, before1_4, before1_5, before1_6]
  rw [show (data1 V c).Φ t.succ = (data1 V c).Φ t.castSucc from rfl,
    show (data1 V c).owesAt () t.succ = (data1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_sound c Set.univ start _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_at1 (t : Fin cfg1.N) : defs₀ (F := F) .tc cfg1.body (cfg1.bodyArgs t (cfg1.slots t)) = bodyAt1 t := by
  unfold defs₀; rw [Defs.onTc_tc]

/-- The obligation of call 1 on its body. -/
theorem obligation1 (c : Dev nD) : BodyObligation (data1 (F := F) V c) (defs₀ (F := F)) Variants.none () Set.univ := fun t => by
  rw [bigSep_W1, bigSep_W1, row_at1]
  exact triple_restated (body_at1 V c t) rfl .rfl fun _ => .rfl

end Cert.First

end
-- ==== Proof.FirstFold.lean ====
module

public import proofs.«01_k».proof.Proof.Gen.Kernel5Ideal.Launch
public import proofs.«01_k».proof.Proof.Gen.Kernel5Ideal.Points
public import proofs.«01_k».proof.Proof.Gen.Kernel5Ideal.Frame.Hosts0
public import proofs.«01_k».proof.Proof.FirstDats
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Claim
public import Idealize.ShloMosaic.Lib.WordCmp

/-! The buffers' contents at each boundary of the first layer's `main`: host operations, the first call, the copies the
    second one starts from, and the second call. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Mix (rBlock rCol rWv rWx rWz rWu rWg rM0 rM1 rB0 rB1 xbTile tile_piece canon_tile cover_block)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at launch -/
abbrev B0 : Dev nD → Valuation τ sig (Elt F) := fun c b => (s₀ m ρ).mem ((c : Dev nD), b)
/-- and after each stretch of host operations. -/
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
abbrev B4 : Dev nD → Valuation τ sig (Elt F) := fun c => StableHlo.after hostOps0_3 (B3 m ρ c)
abbrev B5 : Dev nD → Valuation τ sig (Elt F) := fun c => StableHlo.after hostOps0_4 (B4 m ρ c)
/-- What the first call is entered with. -/
abbrev E0 : (c : Dev nD) → (b : Ref sig .tc) → Buf (Elt F) ((c : Thread nD τ).loc b) := fun c b => B5 m ρ c b
/-- After the first call: its results at what the pipeline leaves, the rest as before. -/
def B6 (c : Dev nD) : Valuation τ sig (Elt F) := Pipeline.withArrays spec0 c (B5 m ρ c) fun w => (data0 (E0 m ρ) c).arrAt w cfg0.N
abbrev X0 : (c : Dev nD) → (b : Ref sig .tc) → Buf (Elt F) ((c : Thread nD τ).loc b) := fun c b => B6 m ρ c b
/-- After the copies. -/
abbrev B7 : Dev nD → Valuation τ sig (Elt F) := fun c => StableHlo.after hostOps1 (B6 m ρ c)
/-- What the second call is entered with. -/
abbrev E1 : (c : Dev nD) → (b : Ref sig .tc) → Buf (Elt F) ((c : Thread nD τ).loc b) := fun c b => B7 m ρ c b
/-- After the second call. -/
def B8 (c : Dev nD) : Valuation τ sig (Elt F) := Pipeline.withArrays spec1 c (B7 m ρ c) fun w => (data1 (E1 m ρ) c).arrAt w cfg1.N
abbrev X1 : (c : Dev nD) → (b : Ref sig .tc) → Buf (Elt F) ((c : Thread nD τ).loc b) := fun c b => B8 m ρ c b

theorem B6_arr (c : Dev nD) (w : Fin cfg0.W) :
    B6 m ρ c (Proc.devRef .tc (Pipeline.arrRef spec0 w)) = (data0 (E0 m ρ) c).arrAt w cfg0.N := by
  unfold B6; exact Pipeline.withArrays_arr spec0 launch0.win.arr_inj c _ _ w
theorem B6_ne (c : Dev nD) (r : Ref sig .tc) (h : ∀ w, Pipeline.arrRef spec0 w ≠ r) :
    B6 m ρ c (Proc.devRef .tc r) = B5 m ρ c (Proc.devRef .tc r) := by
  unfold B6; exact Pipeline.withArrays_of_ne spec0 c _ _ r h
/-- A buffer that call 0 writes no block of is left as it was. -/
theorem B6_of (c : Dev nD) (r : Ref sig .tc) (h : ∀ w : Fin cfg0.W, Pipeline.arrRef spec0 w = r → (cfg0.win w).isOut = false) :
    B6 m ρ c (Proc.devRef .tc r) = B5 m ρ c (Proc.devRef .tc r) := by
  by_cases hw : ∃ w : Fin cfg0.W, Pipeline.arrRef spec0 w = r
  · obtain ⟨w, rfl⟩ := hw
    exact (B6_arr m ρ c w).trans (((data0 (E0 m ρ) c).arrAt_in w (h w rfl) _).trans (A_eq0 (E0 m ρ) c w))
  · exact B6_ne m ρ c r fun w e => hw ⟨w, e⟩
theorem arg_in0 : ∀ a ∈ argRefs, ∀ w : Fin cfg0.W, Pipeline.arrRef spec0 w = a → (cfg0.win w).isOut = false :=
  ListAll.forall_mem_of_all_decide (by decide +kernel)
theorem exit_arr0 (c : Dev nD) (w : Fin cfg0.W) : (data0 (E0 m ρ) c).arrAt w cfg0.N = X0 m ρ c (Pipeline.arrRef spec0 w) :=
  (B6_arr m ρ c w).symm
theorem exit_rest0 (c : Dev nD) : ∀ r, r ∉ Finset.univ.image (Pipeline.arrRef spec0) → X0 m ρ c r = E0 m ρ c r :=
  fun r hr => B6_ne m ρ c r fun w e => hr (Finset.mem_image.mpr ⟨w, Finset.mem_univ _, e⟩)

theorem B8_arr (c : Dev nD) (w : Fin cfg1.W) :
    B8 m ρ c (Proc.devRef .tc (Pipeline.arrRef spec1 w)) = (data1 (E1 m ρ) c).arrAt w cfg1.N := by
  unfold B8; exact Pipeline.withArrays_arr spec1 launch1.win.arr_inj c _ _ w
theorem B8_ne (c : Dev nD) (r : Ref sig .tc) (h : ∀ w, Pipeline.arrRef spec1 w ≠ r) :
    B8 m ρ c (Proc.devRef .tc r) = B7 m ρ c (Proc.devRef .tc r) := by
  unfold B8; exact Pipeline.withArrays_of_ne spec1 c _ _ r h
/-- A buffer that call 1 writes no block of is left as it was. -/
theorem B8_of (c : Dev nD) (r : Ref sig .tc) (h : ∀ w : Fin cfg1.W, Pipeline.arrRef spec1 w = r → (cfg1.win w).isOut = false) :
    B8 m ρ c (Proc.devRef .tc r) = B7 m ρ c (Proc.devRef .tc r) := by
  by_cases hw : ∃ w : Fin cfg1.W, Pipeline.arrRef spec1 w = r
  · obtain ⟨w, rfl⟩ := hw
    exact (B8_arr m ρ c w).trans (((data1 (E1 m ρ) c).arrAt_in w (h w rfl) _).trans (A_eq1 (E1 m ρ) c w))
  · exact B8_ne m ρ c r fun w e => hw ⟨w, e⟩
theorem arg_in1 : ∀ a ∈ argRefs, ∀ w : Fin cfg1.W, Pipeline.arrRef spec1 w = a → (cfg1.win w).isOut = false :=
  ListAll.forall_mem_of_all_decide (by decide +kernel)
theorem exit_arr1 (c : Dev nD) (w : Fin cfg1.W) : (data1 (E1 m ρ) c).arrAt w cfg1.N = X1 m ρ c (Pipeline.arrRef spec1 w) :=
  (B8_arr m ρ c w).symm
theorem exit_rest1 (c : Dev nD) : ∀ r, r ∉ Finset.univ.image (Pipeline.arrRef spec1) → X1 m ρ c r = E1 m ρ c r :=
  fun r hr => B8_ne m ρ c r fun w e => hr (Finset.mem_image.mpr ⟨w, Finset.mem_univ _, e⟩)

/-- The copies write nothing but the second call's results. -/
theorem B7_of (c : Dev nD) (r : Ref sig .tc) (h : r ∉ hostOps1_W) : B7 m ρ c (Proc.devRef .tc r) = B6 m ρ c (Proc.devRef .tc r) :=
  StableHlo.after_of_writes_sub hostOps1 _ hostOps1_writes h

/-- Every argument array ends as it was at launch. -/
theorem arg_kept (c : Dev nD) (a : Ref sig .tc) (ha : a ∈ argRefs) : B8 m ρ c (Proc.devRef .tc a) = m ((c : Thread nD τ).loc a) :=
  (B8_of m ρ c a (arg_in1 a ha)).trans ((B7_of m ρ c a (hostOps1_args a ha)).trans ((B6_of m ρ c a (arg_in0 a ha)).trans
    ((StableHlo.after_of_writes_sub hostOps0_4 _ hostOps0_4_writes (hostOps0_4_args a ha)).trans
    ((StableHlo.after_of_writes_sub hostOps0_3 _ hostOps0_3_writes (hostOps0_3_args a ha)).trans
    ((StableHlo.after_of_writes_sub hostOps0_2 _ hostOps0_2_writes (hostOps0_2_args a ha)).trans
    ((StableHlo.after_of_writes_sub hostOps0_1 _ hostOps0_1_writes (hostOps0_1_args a ha)).trans
    (StableHlo.after_of_writes_sub hostOps0 _ hostOps0_writes (hostOps0_args a ha))))))))

end Cert.First

end
-- ==== Proof.FirstRun.lean ====
module

public import proofs.«01_k».proof.Proof.Gen.Kernel5Ideal.Launch
public import proofs.«01_k».proof.Proof.Gen.Kernel5Ideal.Points
public import proofs.«01_k».proof.Proof.FirstFold
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Claim
public import Idealize.ShloMosaic.Lib.WordCmp

/-! The run of the first layer's two calls: every execution ends with the results as the second call's pipeline leaves them,
    the argument arrays as they were and every counter at zero. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Mix (rBlock rCol rWv rWx rWz rWu rWg rM0 rM1 rB0 rB1 xbTile tile_piece canon_tile cover_block)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call reads a table ahead of its grid. -/
abbrev admits : (p : Fin 2) → (pcfgs (F := F) p).Adm := fun p => (cfgs p).toPCfg_adm
/-- The two calls' proof data. -/
def datas : (p : Fin 2) → (c : Dev nD) → Dat τ (Elt F) Unit ℕ (UR sig nD τ) ℕ (Pipeline.pin (pcfgs (F := F)) admits p) c
  | ⟨0, _⟩ => fun c => data0 (E0 m ρ) c
  | ⟨1, _⟩ => fun c => data1 (E1 m ρ) c
/-- No thread owes another anything. -/
abbrev lvls : GSem nD τ sig → Finset Unit := fun _ => ∅
abbrev lvl : GSem nD τ sig → Unit → ℕ := fun _ _ => 0
/-- What is held beside the buffers. -/
abbrev side (c : Dev nD) : sProp 𝕄 := iprop((∃ r, prngReg c r) ∗ ∃ W, owes (c : Thread nD τ) (0 : CellTallies nD τ sig Unit) W)
/-- A stretch of host operations between two boundaries. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none lvls lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B side
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev last (c : Dev nD) : sProp 𝕄 := iprop(StableHlo.held (c : Thread nD τ) (Pipeline.ucRefs τ sig) (B8 m ρ c) ∗ ∃ r, prngReg c r)

set_option backward.isDefEq.respectTransparency.types false in
/-- Call 0 between its two boundaries. -/
def region0 : Pipeline.RegionSeg (pcfgs (F := F)) admits (datas m ρ) () defs₀ Variants.none lvls lvl 0 where
  win := launch0.win.to₀
  block_pos := launch0.block_pos
  stage_whole := launch0.stage_whole
  K := PEmpty
  osem k := k.elim
  ho := Pipeline.OwnSemFacts.none _
  hbody c := (obligation0 (E0 m ρ) c).loose
  hwaits := Pipeline.hwaits_of_owed_zero _ _ _ _ lvls lvl 0 fun _ _ => rfl
  pre c := iprop(StableHlo.held (c : Thread nD τ) (Pipeline.ucRefs τ sig) (B5 m ρ c) ∗ side c)
  post c := iprop(StableHlo.held (c : Thread nD τ) (Pipeline.ucRefs τ sig) (B6 m ρ c) ∗ side c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admits (datas m ρ) launch0.win launch0.arr_whole c
      ((datas m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datas m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admits (Ix := Unit) (Name := ℕ) (U := UR sig nD τ) (Lvl := ℕ)
      launch0.win launch0.arr_whole c (datas m ρ) ((datas m ρ 0 c).share_full fun _ => rfl)
      (E0 m ρ c) (X0 m ρ c) ((datas m ρ 0 c).arrAt · cfg0.N) (exit_arr0 m ρ c) (exit_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 between its two boundaries. -/
def region1 : Pipeline.RegionSeg (pcfgs (F := F)) admits (datas m ρ) () defs₀ Variants.none lvls lvl 1 where
  win := launch1.win.to₀
  block_pos := launch1.block_pos
  stage_whole := launch1.stage_whole
  K := PEmpty
  osem k := k.elim
  ho := Pipeline.OwnSemFacts.none _
  hbody c := (obligation1 (E1 m ρ) c).loose
  hwaits := Pipeline.hwaits_of_owed_zero _ _ _ _ lvls lvl 1 fun _ _ => rfl
  pre c := iprop(StableHlo.held (c : Thread nD τ) (Pipeline.ucRefs τ sig) (B7 m ρ c) ∗ side c)
  post c := iprop(last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) admits (datas m ρ) launch1.win launch1.arr_whole c
      ((datas m ρ 1 c).share_full fun _ => rfl) (E1 m ρ c) (A_eq1 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admits (Ix := Unit) (Name := ℕ) (U := UR sig nD τ) (Lvl := ℕ)
      launch1.win launch1.arr_whole c (datas m ρ) ((datas m ρ 1 c).share_full fun _ => rfl)
      (E1 m ρ c) (X1 m ρ c) ((datas m ρ 1 c).arrAt · cfg1.N) (exit_arr1 m ρ c) (exit_rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- `main` as its stretches of host operations and its two calls. -/
abbrev pieces : List (Pipeline.Seg (pcfgs (F := F)) admits (datas m ρ) () defs₀ Variants.none lvls lvl) :=
  [ .host (stretch hostOps0 hostOps0_sub hostOps0_fresh (B0 m ρ)),
    .host (stretch hostOps0_1 hostOps0_1_sub hostOps0_1_fresh (B1 m ρ)),
    .host (stretch hostOps0_2 hostOps0_2_sub hostOps0_2_fresh (B2 m ρ)),
    .host (stretch hostOps0_3 hostOps0_3_sub hostOps0_3_fresh (B3 m ρ)),
    .host (stretch hostOps0_4 hostOps0_4_sub hostOps0_4_fresh (B4 m ρ)),
    .region (region0 m ρ),
    .host (stretch hostOps1 hostOps1_sub hostOps1_fresh (B6 m ρ)),
    .region (region1 m ρ) ]
theorem main_pieces (c : Dev nD) : main (F := F) c = Pipeline.Seg.run (pieces m ρ) := (main_chain c).trans (by chain_rfl)

theorem scoped_sems : ∀ sm : SemLoc sig, sm.isScoped .tc = true := by decide

set_option backward.isDefEq.respectTransparency.types false in
/-- The run. -/
theorem run_kept : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
      ∧ ∀ c : Dev nD, r.2.mem ((c.tc : Thread nD τ).loc main_v25_0) = (data1 (E1 m ρ) c).arrAt 7 cfg1.N
        ∧ r.2.mem ((c.tc : Thread nD τ).loc main_v25_1) = (data1 (E1 m ρ) c).arrAt 8 cfg1.N
        ∧ r.2.mem ((c.tc : Thread nD τ).loc main_v25_2) = (data1 (E1 m ρ) c).arrAt 9 cfg1.N
        ∧ r.2.mem ((c.tc : Thread nD τ).loc main_v25_3) = (data1 (E1 m ρ) c).arrAt 10 cfg1.N) :=
  Pipeline.θ_run_regions_kit_sems (pcfgs (F := F)) admits (datas m ρ) () cellOf_inj emb₁ defs₀ Variants.none lvls lvl m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ side c)) (Tₙ := last m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach lvls lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h hz => ⟨⟨fun c =>
      ⟨(h c _ (mem_held main_arg0 (by decide))).trans (arg_kept m ρ c main_arg0 (by decide)),
       (h c _ (mem_held main_arg1 (by decide))).trans (arg_kept m ρ c main_arg1 (by decide)),
       (h c _ (mem_held main_arg2 (by decide))).trans (arg_kept m ρ c main_arg2 (by decide)),
       (h c _ (mem_held main_arg3 (by decide))).trans (arg_kept m ρ c main_arg3 (by decide)),
       (h c _ (mem_held main_arg4 (by decide))).trans (arg_kept m ρ c main_arg4 (by decide)),
       (h c _ (mem_held main_arg5 (by decide))).trans (arg_kept m ρ c main_arg5 (by decide)),
       (h c _ (mem_held main_arg6 (by decide))).trans (arg_kept m ρ c main_arg6 (by decide)),
       (h c _ (mem_held main_arg7 (by decide))).trans (arg_kept m ρ c main_arg7 (by decide))⟩, funext fun g => hz g (.inr (scoped_sems g.2))⟩, fun c =>
      ⟨(h c _ (mem_held main_v25_0 (by decide))).trans (B8_arr m ρ c 7),
       (h c _ (mem_held main_v25_1 (by decide))).trans (B8_arr m ρ c 8),
       (h c _ (mem_held main_v25_2 (by decide))).trans (B8_arr m ρ c 9),
       (h c _ (mem_held main_v25_3 (by decide))).trans (B8_arr m ρ c 10)⟩⟩)

end Cert.First

end
-- ==== Proof.FirstOperand.lean ====
module

public import proofs.«01_k».proof.Proof.FirstFold
public import proofs.«01_k».proof.Proof.MixOperand
public import Idealize.ShloMosaic.Lib.Pipeline.ValueKit
public import Idealize.ShloMosaic.Lib.Tactic.CleanTypes

/-! What the first call is entered with, by the kernel's arguments; the second is entered with the same. -/

@[expose] public section

set_option maxRecDepth 16384
noncomputable section
open Idealize.ShloMosaic Idealize.ShloMosaic.TcCoe Idealize.SL.Sem
open Cert.Kernel5Ideal Cert.Kernel5Ideal.Gen
open Cert.Mix (diag diag_at head zeros zeros_at)
namespace Cert.First

variable (m : (ℓ : Loc nD τ sig) → Buf (Elt Ideal) ℓ) (ρ : Dev nD → PrngReg) (c : Dev nD)

/-- The arguments of the kernel, as plain functions. -/
def kP (n : Fin 16) (l : Fin 2048) (d : Fin 1024) : EReal := m ((c : Thread nD τ).loc main_arg0) (ix3 n l d)
def kS (n : Fin 16) (l : Fin 4096) (d : Fin 1024) : EReal := m ((c : Thread nD τ).loc main_arg1) (ix3 n l d)
def kG (d : Fin 1024) : EReal := m ((c : Thread nD τ).loc main_arg2) (ix1 d)
def kW (d : Fin 1024) (j : Fin 5120) : EReal := m ((c : Thread nD τ).loc main_arg3) (ix2 d j)
def kLg (d : Fin 1024) : EReal := m ((c : Thread nD τ).loc main_arg4) (ix1 d)
def kLb (d : Fin 1024) : EReal := m ((c : Thread nD τ).loc main_arg5) (ix1 d)
def kWs (h : Fin 4) (p q : Fin 128) : EReal := m ((c : Thread nD τ).loc main_arg6) (ix3 h p q)
def kBs (h : Fin 4) (p : Fin 128) : EReal := m ((c : Thread nD τ).loc main_arg7) (ix2 h p)

/-- The calls' copy of the rmsnorm scale, -/
theorem opG (d : Fin 1024) : E0 m ρ c main_v0 (ix2 d (0 : Fin 1)) = kG m c d := by
  simp only [E0, B5, B4, B3, B2, B1, hostOps0, hostOps0_1, hostOps0_2, hostOps0_3, hostOps0_4]
  after_results_simp
  after_results_loop
  pointwise [kG]

/-- of the layernorm scale -/
theorem opLg (d : Fin 1024) : E0 m ρ c main_v3 (ix2 d (0 : Fin 1)) = kLg m c d := by
  simp only [E0, B5, B4, B3, B2, B1, hostOps0, hostOps0_1, hostOps0_2, hostOps0_3, hostOps0_4]
  after_results_simp
  after_results_loop
  pointwise [kLg]

/-- and bias, -/
theorem opLb (d : Fin 1024) : E0 m ρ c main_v4 (ix2 d (0 : Fin 1)) = kLb m c d := by
  simp only [E0, B5, B4, B3, B2, B1, hostOps0, hostOps0_1, hostOps0_2, hostOps0_3, hostOps0_4]
  after_results_simp
  after_results_loop
  pointwise [kLb]

/-- of the input weights, transposed, -/
theorem opW (j : Fin 5120) (d : Fin 1024) : E0 m ρ c main_v2 (ix2 j d) = kW m c d j := by
  simp only [E0, B5, B4, B3, B2, B1, hostOps0, hostOps0_1, hostOps0_2, hostOps0_3, hostOps0_4]
  after_results_simp
  after_results_loop
  pointwise [kW]

/-- of the spatial bias, two heads to a row, -/
theorem opBs (e s : Fin 2) (p : Fin 128) :
    E0 m ρ c main_v23 (ix3 e (0 : Fin 1) (⟨128 * s.val + p.val, by omega⟩ : Fin 256)) = kBs m c ⟨2 * e.val + s.val, by omega⟩ p := by
  simp only [E0, B5, B4, B3, B2, B1, hostOps0, hostOps0_1, hostOps0_2, hostOps0_3, hostOps0_4]
  after_results_simp
  after_results_loop
  pointwise [kBs]
  exact congrArg (m (c, Proc.tc.devRef main_arg7)) ((ix2_inj ..).2 ⟨Fin.ext (by dsimp only; omega), rfl⟩)

/-- The calls' copy of the spatial matrices is two such matrices. -/
theorem opPairs : E0 m ρ c main_v22 = truncf .bf16 (concatenate S2x256x256 0
    [⟨S1x256x256, broadcastInDim S1x256x256 ![1, 2] bcast_S256x256_S1x256x256_1_2 (diag
      (head (m ((c : Thread nD τ).loc main_arg6)) ![0, 0, 0] slices_S4x128x128_S1x128x128_0_0_0)
      (head (m ((c : Thread nD τ).loc main_arg6)) ![1, 0, 0] slices_S4x128x128_S1x128x128_1_0_0) zeros)⟩,
     ⟨S1x256x256, broadcastInDim S1x256x256 ![1, 2] bcast_S256x256_S1x256x256_1_2 (diag
      (head (m ((c : Thread nD τ).loc main_arg6)) ![2, 0, 0] slices_S4x128x128_S1x128x128_2_0_0)
      (head (m ((c : Thread nD τ).loc main_arg6)) ![3, 0, 0] slices_S4x128x128_S1x128x128_3_0_0) zeros)⟩]
    concatenates_S1x256x256_S1x256x256_S2x256x256_d0) bitsLt_bf16_f32 := by
  simp only [E0, B5, B4, B3, B2, B1, hostOps0, hostOps0_1, hostOps0_2, hostOps0_3, hostOps0_4]
  after_results_simp
  after_results_loop
  rfl

/-- so, entry by entry, two heads to a block-diagonal matrix, -/
theorem opWs (e s s' : Fin 2) (q p : Fin 128) :
    E0 m ρ c main_v22 (ix3 e (⟨128 * s.val + q.val, by omega⟩ : Fin 256) (⟨128 * s'.val + p.val, by omega⟩ : Fin 256))
      = if s = s' then kWs m c ⟨2 * e.val + s.val, by omega⟩ p q else 0 := by
  rw [opPairs m ρ c]
  match e with
  | 0 =>
    refine Eq.trans ?_ ((diag_at (head (m ((c : Thread nD τ).loc main_arg6)) ![0, 0, 0] slices_S4x128x128_S1x128x128_0_0_0)
      (head (m ((c : Thread nD τ).loc main_arg6)) ![1, 0, 0] slices_S4x128x128_S1x128x128_1_0_0) _ zeros_at s s' q p).trans (if_congr Iff.rfl ?_ rfl))
    · pointwise
    · match s with
      | 0 => pointwise [head, kWs]
      | 1 => pointwise [head, kWs]
  | 1 =>
    refine Eq.trans ?_ ((diag_at (head (m ((c : Thread nD τ).loc main_arg6)) ![2, 0, 0] slices_S4x128x128_S1x128x128_2_0_0)
      (head (m ((c : Thread nD τ).loc main_arg6)) ![3, 0, 0] slices_S4x128x128_S1x128x128_3_0_0) _ zeros_at s s' q p).trans (if_congr Iff.rfl ?_ rfl))
    · pointwise
    · match s with
      | 0 => pointwise [head, kWs]
      | 1 => pointwise [head, kWs]

/-- The sequences are the arguments. -/
theorem arg_E0 (a : Ref sig .tc) (ha : a ∈ argRefs) : E0 m ρ c a = m ((c : Thread nD τ).loc a) :=
  ((StableHlo.after_of_writes_sub hostOps0_4 _ hostOps0_4_writes (hostOps0_4_args a ha)).trans
    ((StableHlo.after_of_writes_sub hostOps0_3 _ hostOps0_3_writes (hostOps0_3_args a ha)).trans
    ((StableHlo.after_of_writes_sub hostOps0_2 _ hostOps0_2_writes (hostOps0_2_args a ha)).trans
    ((StableHlo.after_of_writes_sub hostOps0_1 _ hostOps0_1_writes (hostOps0_1_args a ha)).trans
    (StableHlo.after_of_writes_sub hostOps0 _ hostOps0_writes (hostOps0_args a ha))))))

/-- The second call is entered with what the first read, -/
theorem same_E1 (r : Ref sig .tc) (h : r ∉ hostOps1_W) (h' : ∀ w : Fin cfg0.W, Pipeline.arrRef spec0 w = r → (cfg0.win w).isOut = false) :
    E1 m ρ c r = E0 m ρ c r := (B7_of m ρ c r h).trans (B6_of m ρ c r h')
theorem same_0 : E1 m ρ c main_v0 = E0 m ρ c main_v0 := same_E1 m ρ c _ (by decide) (by decide +kernel)
theorem same_1 : E1 m ρ c main_v2 = E0 m ρ c main_v2 := same_E1 m ρ c _ (by decide) (by decide +kernel)
theorem same_2 : E1 m ρ c main_v3 = E0 m ρ c main_v3 := same_E1 m ρ c _ (by decide) (by decide +kernel)
theorem same_3 : E1 m ρ c main_v4 = E0 m ρ c main_v4 := same_E1 m ρ c _ (by decide) (by decide +kernel)
theorem same_4 : E1 m ρ c main_v22 = E0 m ρ c main_v22 := same_E1 m ρ c _ (by decide) (by decide +kernel)
theorem same_5 : E1 m ρ c main_v23 = E0 m ρ c main_v23 := same_E1 m ρ c _ (by decide) (by decide +kernel)
theorem same_6 : E1 m ρ c main_arg1 = m ((c : Thread nD τ).loc main_arg1) :=
  (same_E1 m ρ c _ (by decide) (by decide +kernel)).trans (arg_E0 m ρ c _ (by decide))

/-- and with what the first left of its results. -/
theorem copy_0 : E1 m ρ c main_v25_0 = (data0 (E0 m ρ) c).arrAt 7 cfg0.N := by
  refine Eq.trans ?_ (B6_arr m ρ c 7)
  simp only [E1, B7, hostOps1]
  after_results_simp
  rfl
theorem copy_1 : E1 m ρ c main_v25_1 = (data0 (E0 m ρ) c).arrAt 8 cfg0.N := by
  refine Eq.trans ?_ (B6_arr m ρ c 8)
  simp only [E1, B7, hostOps1]
  after_results_simp
  rfl
theorem copy_2 : E1 m ρ c main_v25_2 = (data0 (E0 m ρ) c).arrAt 9 cfg0.N := by
  refine Eq.trans ?_ (B6_arr m ρ c 9)
  simp only [E1, B7, hostOps1]
  after_results_simp
  rfl
theorem copy_3 : E1 m ρ c main_v25_3 = (data0 (E0 m ρ) c).arrAt 10 cfg0.N := by
  refine Eq.trans ?_ (B6_arr m ρ c 10)
  simp only [E1, B7, hostOps1]
  after_results_simp
  rfl

end Cert.First
-- ==== Proof.FirstValue.lean ====
module

public import proofs.«01_k».proof.Proof.FirstOperand
public import proofs.«01_k».proof.Proof.MixValue

/-! What the first layer's two calls leave in the results: the first call the prompts' tiles, the second the samples'. -/

@[expose] public section

set_option maxRecDepth 16384
noncomputable section
open Idealize.ShloMosaic Idealize.ShloMosaic.TcCoe Idealize.SL.Sem
open Idealize.ShloMosaic.Pipeline (Dat)
open Cert.Kernel5Ideal Cert.Kernel5Ideal.Gen
open Cert.Mix (chunkX chunkX_apply ya silu col wcol)
namespace Cert.First

/-! ## The rows of a block, channels first -/

/-- A slab of the rows. -/
theorem ld_slab (x : Vec Ideal S4x128x1024 .f32) (u : Fin 4) (inb) (p : Fin 128) (d : Fin 1024) :
    View.ld x (Rect.unit (s := S4x128x1024) ![u.val, 0, 0] S1x128x1024.size inb) (ix3 (0 : Fin 1) p d) = x (ix3 u p d) :=
  View.ld_unit_apply_of _ _ _ _ _ _ fun a => match a with
    | ⟨0, _⟩ => rfl
    | ⟨1, _⟩ => (Nat.zero_add _).symm
    | ⟨2, _⟩ => (Nat.zero_add _).symm

/-- Four slabs one after another, channels first. -/
theorem pay2_at (f : Fin 4 → Fin 128 → Fin 1024 → EReal) (x0 x1 x2 x3 : Vec Ideal S1x128x1024 .f32)
    (h0 : ∀ p d, x0 (ix3 (0 : Fin 1) p d) = f 0 p d) (h1 : ∀ p d, x1 (ix3 (0 : Fin 1) p d) = f 1 p d)
    (h2 : ∀ p d, x2 (ix3 (0 : Fin 1) p d) = f 2 p d) (h3 : ∀ p d, x3 (ix3 (0 : Fin 1) p d) = f 3 p d)
    (u : Fin 4) (p : Fin 128) (d : Fin 1024) :
    k0_pay2 x0 x1 x2 x3 (ix2 d (⟨128 * u.val + p.val, by omega⟩ : Fin 512)) = f u p d := by
  match u with
  | 0 => refine Eq.trans ?_ (h0 p d); pointwise [k0_pay2]
  | 1 => refine Eq.trans ?_ (h1 p d); pointwise [k0_pay2]
  | 2 => refine Eq.trans ?_ (h2 p d); pointwise [k0_pay2]
         rw [dif_neg (show ¬ 256 + p.val < 128 by omega), dif_neg (show ¬ 256 + p.val - 128 < 128 by omega),
           dif_pos (show 256 + p.val - 128 - 128 < 128 by omega)]
         exact congrArg (fun q => x2 (ix3 (0 : Fin 1) q d)) (Fin.ext (by dsimp only; omega))
  | 3 => refine Eq.trans ?_ (h3 p d); pointwise [k0_pay2]
         rw [dif_neg (show ¬ 384 + p.val < 128 by omega), dif_neg (show ¬ 384 + p.val - 128 < 128 by omega),
           dif_neg (show ¬ 384 + p.val - 128 - 128 < 128 by omega)]
         exact congrArg (fun q => x3 (ix3 (0 : Fin 1) q d)) (Fin.ext (by dsimp only; omega))

theorem rows_at (x : Vec Ideal S4x128x1024 .f32) (u : Fin 4) (p : Fin 128) (d : Fin 1024) :
    rows x (ix2 d (⟨128 * u.val + p.val, by omega⟩ : Fin 512)) = x (ix3 u p d) := by
  unfold rows
  exact pay2_at (fun u p d => x (ix3 u p d)) _ _ _ _ (ld_slab x 0 _) (ld_slab x 1 _) (ld_slab x 2 _) (ld_slab x 3 _) u p d

/-! ## The blocks the body is given -/

variable (m : (ℓ : Loc nD τ sig) → Buf (Elt Ideal) ℓ) (ρ : Dev nD → PrngReg) (c : Dev nD)

/-- The chunks of the kernel's arguments. -/
abbrev kX : Fin 768 → Fin 128 → Fin 1024 → EReal := chunkX (kP m c) (kS m c)

/-- The body is given the four chunks of tile `T` and the other arguments. -/
structure Fed (T : Fin 192) (x : Vec Ideal S4x128x1024 .f32) (g : Vec Ideal S1024x1 .f32) (w : Vec Ideal S5120x1024 .bf16)
    (a b : Vec Ideal S1024x1 .f32) (s : Vec Ideal S2x256x256 .bf16) (d : Vec Ideal S2x1x256 .f32) : Prop where
  hx : ∀ (u : Fin 4) (p : Fin 128) (k : Fin 1024), x (ix3 u p k) = kX m c ⟨4 * T.val + u.val, by omega⟩ p k
  hg : ∀ k : Fin 1024, g (ix2 k (0 : Fin 1)) = kG m c k
  hw : ∀ (j : Fin 5120) (k : Fin 1024), w (ix2 j k) = kW m c k j
  ha : ∀ k : Fin 1024, a (ix2 k (0 : Fin 1)) = kLg m c k
  hb : ∀ k : Fin 1024, b (ix2 k (0 : Fin 1)) = kLb m c k
  hs : ∀ (e i i' : Fin 2) (q p : Fin 128), s (ix3 e (⟨128 * i.val + q.val, by omega⟩ : Fin 256) (⟨128 * i'.val + p.val, by omega⟩ : Fin 256))
      = if i = i' then kWs m c ⟨2 * e.val + i.val, by omega⟩ p q else 0
  hd : ∀ (e i : Fin 2) (p : Fin 128), d (ix3 e (0 : Fin 1) (⟨128 * i.val + p.val, by omega⟩ : Fin 256)) = kBs m c ⟨2 * e.val + i.val, by omega⟩ p

/-! ## The results -/

/-- The first result: the mixed product, one column to a position. -/
def resY : FVec Ideal S1024x98304 .bf16 := fun i =>
  ya (kX m c ⟨(i 1).val / 128, by have := (i 1).isLt; change (i 1).val < 98304 at this; omega⟩) (kG m c) (kW m c) (kLg m c) (kLb m c) (kWs m c) (kBs m c)
    ⟨(i 1).val % 128, by omega⟩ ⟨(i 0).val, (i 0).isLt⟩
/-- The second: the state-space input in tile-major order. -/
def resX : FVec Ideal S128x6144x128 .f32 := fun i =>
  Mix.proj (kX m c ⟨(i 1).val / 8, by have := (i 1).isLt; change (i 1).val < 6144 at this; omega⟩ ⟨(i 2).val, (i 2).isLt⟩) (kG m c) (kW m c)
    ⟨3072 + (8 * (i 0).val + (i 1).val % 8), by have := (i 0).isLt; change (i 0).val < 128 at this; omega⟩
/-- The third: the gate of the state-space output. -/
def resZ : FVec Ideal S1024x98304 .f32 := fun i =>
  silu (Mix.proj (kX m c ⟨(i 1).val / 128, by have := (i 1).isLt; change (i 1).val < 98304 at this; omega⟩ ⟨(i 1).val % 128, by omega⟩) (kG m c) (kW m c)
    ⟨4096 + (i 0).val, by have := (i 0).isLt; change (i 0).val < 1024 at this; omega⟩)
/-- The fourth: the positions' own rows. -/
def resT : FVec Ideal S1024x98304 .f32 := fun i =>
  kX m c ⟨(i 1).val / 128, by have := (i 1).isLt; change (i 1).val < 98304 at this; omega⟩ ⟨(i 1).val % 128, by omega⟩ ⟨(i 0).val, (i 0).isLt⟩

section Point

variable {T : Fin 192} {x : Vec Ideal S4x128x1024 .f32} {g : Vec Ideal S1024x1 .f32} {w : Vec Ideal S5120x1024 .bf16}
  {a b : Vec Ideal S1024x1 .f32} {s : Vec Ideal S2x256x256 .bf16} {d : Vec Ideal S2x1x256 .f32} (h : Fed m c T x g w a b s d)
include h

theorem row_of (ch : Fin 1024) (l : Fin 512) : rows x (ix2 ch l) = kX m c ⟨4 * T.val + l.val / 128, by omega⟩ ⟨l.val % 128, by omega⟩ ch := by
  have e : l = ⟨128 * (l.val / 128) + l.val % 128, by omega⟩ := Fin.ext (by dsimp only; omega)
  refine (congrArg (fun l => rows x (ix2 ch l)) e).trans ((rows_at x ⟨l.val / 128, by omega⟩ ⟨l.val % 128, by omega⟩ ch).trans ?_)
  exact h.hx _ _ _
theorem col_of (l : Fin 512) : col (rows x) l = kX m c ⟨4 * T.val + l.val / 128, by omega⟩ ⟨l.val % 128, by omega⟩ :=
  funext fun ch => row_of m c h ch l
theorem wG : wcol g = kG m c := funext h.hg
theorem wLg : wcol a = kLg m c := funext h.ha
theorem wLb : wcol b = kLb m c := funext h.hb

theorem pointY (ch : Fin 1024) (l : Fin 512) :
    outY x g w a b s d (ix2 ch l) = resY m c (ix2 ch (⟨512 * T.val + l.val, by omega⟩ : Fin 98304)) := by
  rw [outY_eq]
  refine (Mix.outY_at _ _ _ _ _ _ _ (kW m c) (kWs m c) (kBs m c) h.hw h.hs h.hd ch l).trans ?_
  rw [wG m c h, wLg m c h, wLb m c h]
  have e1 : (512 * T.val + l.val) / 128 = 4 * T.val + l.val / 128 := by omega
  have e2 : (512 * T.val + l.val) % 128 = l.val % 128 := by omega
  unfold resY
  dsimp only [ix2_0, ix2_1]
  simp only [e1, e2]
  refine congrArg (fun X => ya X _ _ _ _ _ _ _ _) (funext fun q => (col_of m c h _).trans ?_)
  have e3 : (128 * (l.val / 128) + q.val) / 128 = l.val / 128 := by omega
  have e4 : (128 * (l.val / 128) + q.val) % 128 = q.val := by omega
  simp only [e3, e4]

theorem pointX (k : Fin 128) (u : Fin 32) (p : Fin 128) :
    outX x g w (ix3 k u p) = resX m c (ix3 k (⟨32 * T.val + u.val, by omega⟩ : Fin 6144) p) := by
  rw [outX_eq]
  refine (Mix.outX_at _ _ _ (kW m c) h.hw k u p).trans ?_
  rw [wG m c h]
  unfold resX
  refine (congrArg (Mix.proj · _ _ _) (col_of m c h _)).trans ?_
  have e1 : (32 * T.val + u.val) / 8 = 4 * T.val + u.val / 8 := by omega
  have e2 : (32 * T.val + u.val) % 8 = u.val % 8 := by omega
  have e3 : (128 * (u.val / 8) + p.val) / 128 = u.val / 8 := by omega
  have e4 : (128 * (u.val / 8) + p.val) % 128 = p.val := by omega
  dsimp only [ix3_0, ix3_1, ix3_2]
  simp only [e1, e2, e3, e4]

theorem pointZ (ch : Fin 1024) (l : Fin 512) :
    outZ x g w (ix2 ch l) = resZ m c (ix2 ch (⟨512 * T.val + l.val, by omega⟩ : Fin 98304)) := by
  rw [outZ_eq]
  refine (Mix.outZ_at _ _ _ (kW m c) h.hw ch l).trans ?_
  rw [wG m c h]
  unfold resZ
  refine (congrArg (fun X => silu (Mix.proj X _ _ _)) (col_of m c h _)).trans ?_
  have e1 : (512 * T.val + l.val) / 128 = 4 * T.val + l.val / 128 := by omega
  have e2 : (512 * T.val + l.val) % 128 = l.val % 128 := by omega
  dsimp only [ix2_0, ix2_1]
  simp only [e1, e2]

theorem pointT (ch : Fin 1024) (l : Fin 512) :
    outT x (ix2 ch l) = resT m c (ix2 ch (⟨512 * T.val + l.val, by omega⟩ : Fin 98304)) := by
  rw [outT_eq]
  refine (row_of m c h ch l).trans ?_
  unfold resT
  have e1 : (512 * T.val + l.val) / 128 = 4 * T.val + l.val / 128 := by omega
  have e2 : (512 * T.val + l.val) % 128 = l.val % 128 := by omega
  dsimp only [ix2_0, ix2_1]
  simp only [e1, e2]

end Point

/-! ## Call 0 -/

/-- The windows' index maps. -/
theorem idx0 : ∀ t : Fin cfg0.N, win0_0.index t = ![t.val % 4, t.val / 4, 0] ∧ win0_1.index t = ![0, 0] ∧ win0_2.index t = ![0, 0] ∧ win0_3.index t = ![0, 0]
    ∧ win0_4.index t = ![0, 0] ∧ win0_5.index t = ![0, 0, 0] ∧ win0_6.index t = ![0, 0, 0] ∧ win0_7.index t = ![0, t.val]
    ∧ win0_8.index t = ![0, t.val, 0] ∧ win0_9.index t = ![0, t.val] ∧ win0_10.index t = ![0, t.val] ∧ t.val < 64 :=
  (by decide +kernel : ∀ t : Fin grid0.N, _)
theorem pt0 (t : Fin cfg0.N) : t.val < 64 := (idx0 t).2.2.2.2.2.2.2.2.2.2.2

section

variable (V : (c : Dev nD) → (b : Ref sig .tc) → Buf (Elt Ideal) ((c : Thread nD τ).loc b))

theorem blk0_0 (t : Fin cfg0.N) (u : Fin 4) (q : Fin 128) (k : Fin 1024) : (show FVec Ideal S4x128x1024 .f32 from iblk0 V c 0 t) (ix3 u q k)
    = V c main_arg0 (ix3 (⟨4 * (t.val % 4) + u.val, by omega⟩ : Fin 16) (⟨128 * (t.val / 4) + q.val, by have := pt0 t; omega⟩ : Fin 2048) k) := by
  blk_ext [iblk0, idx0 t]
theorem blk0_1 (t : Fin cfg0.N) (k : Fin 1024) : (show FVec Ideal S1024x1 .f32 from iblk0 V c 1 t) (ix2 k (0 : Fin 1)) = V c main_v0 (ix2 k (0 : Fin 1)) := by
  blk_ext [iblk0, idx0 t]
theorem blk0_2 (t : Fin cfg0.N) (j : Fin 5120) (k : Fin 1024) : (show FVec Ideal S5120x1024 .bf16 from iblk0 V c 2 t) (ix2 j k) = V c main_v2 (ix2 j k) := by
  blk_ext [iblk0, idx0 t]
theorem blk0_3 (t : Fin cfg0.N) (k : Fin 1024) : (show FVec Ideal S1024x1 .f32 from iblk0 V c 3 t) (ix2 k (0 : Fin 1)) = V c main_v3 (ix2 k (0 : Fin 1)) := by
  blk_ext [iblk0, idx0 t]
theorem blk0_4 (t : Fin cfg0.N) (k : Fin 1024) : (show FVec Ideal S1024x1 .f32 from iblk0 V c 4 t) (ix2 k (0 : Fin 1)) = V c main_v4 (ix2 k (0 : Fin 1)) := by
  blk_ext [iblk0, idx0 t]
theorem blk0_5 (t : Fin cfg0.N) (e : Fin 2) (j k : Fin 256) : (show FVec Ideal S2x256x256 .bf16 from iblk0 V c 5 t) (ix3 e j k) = V c main_v22 (ix3 e j k) := by
  blk_ext [iblk0, idx0 t]
theorem blk0_6 (t : Fin cfg0.N) (e : Fin 2) (k : Fin 256) : (show FVec Ideal S2x1x256 .f32 from iblk0 V c 6 t) (ix3 e (0 : Fin 1) k) = V c main_v23 (ix3 e (0 : Fin 1) k) := by
  blk_ext [iblk0, idx0 t]

end

/-- The point's tile. -/
def tile0 (t : Fin cfg0.N) : Fin 192 := ⟨t.val, by have := pt0 t; omega⟩

theorem fed0 (t : Fin cfg0.N) : Fed m c (tile0 t) (iblk0 (E0 m ρ) c 0 t) (iblk0 (E0 m ρ) c 1 t) (iblk0 (E0 m ρ) c 2 t) (iblk0 (E0 m ρ) c 3 t)
    (iblk0 (E0 m ρ) c 4 t) (iblk0 (E0 m ρ) c 5 t) (iblk0 (E0 m ρ) c 6 t) where
  hx u q k := by
    refine (blk0_0 c (E0 m ρ) t u q k).trans ((congrFun (arg_E0 m ρ c main_arg0 (by decide)) _).trans ?_)
    rw [kX, chunkX_apply, dif_pos (show 4 * (tile0 t).val + u.val < 256 by have := pt0 t; dsimp only [tile0]; omega)]
    unfold kP
    refine congrArg (m ((c : Thread nD τ).loc main_arg0)) ((ix3_inj ..).2 ⟨Fin.ext ?_, Fin.ext ?_, rfl⟩)
    all_goals dsimp only [tile0]; omega
  hg k := (blk0_1 c (E0 m ρ) t k).trans (opG m ρ c k)
  hw j k := (blk0_2 c (E0 m ρ) t j k).trans (opW m ρ c j k)
  ha k := (blk0_3 c (E0 m ρ) t k).trans (opLg m ρ c k)
  hb k := (blk0_4 c (E0 m ρ) t k).trans (opLb m ρ c k)
  hs e i i' q p := (blk0_5 c (E0 m ρ) t e _ _).trans (opWs m ρ c e i i' q p)
  hd e i p := (blk0_6 c (E0 m ρ) t e _).trans (opBs m ρ c e i p)

theorem halfY (i : S1024x98304.Idx) (hi : (i 1).val < 32768) : (data0 (E0 m ρ) c).arrAt 7 cfg0.N i = resY m c i := by
  refine ((data0 (E0 m ρ) c).arrAt_apply_of_coversWhere 7 (resY m c) (P := fun i : S1024x98304.Idx => (i 1).val < 32768) (fun β => β (1 : Fin _) < 64) (by decide +kernel)
    (fun t hf y => ?_) (fun j => ?_) i).trans (if_pos hi)
  · blk_simp
    rw [after0_7]
    obtain ⟨ch, l, rfl⟩ : ∃ (ch : Fin 1024) (l : Fin 512), y = ix2 ch l := ⟨y 0, y 1, eq_ix2 y⟩
    refine (pointY m c (fed0 m ρ c t) ch l).trans ?_
    unfold tile0
    blk_ext [idx0 t]
  · blk_simp [Pipeline.Window.cell_apply]
    omega

theorem halfX (i : S128x6144x128.Idx) (hi : (i 1).val < 2048) : (data0 (E0 m ρ) c).arrAt 8 cfg0.N i = resX m c i := by
  refine ((data0 (E0 m ρ) c).arrAt_apply_of_coversWhere 8 (resX m c) (P := fun i : S128x6144x128.Idx => (i 1).val < 2048) (fun β => β (1 : Fin _) < 64) (by decide +kernel)
    (fun t hf y => ?_) (fun j => ?_) i).trans (if_pos hi)
  · blk_simp
    rw [after0_8]
    obtain ⟨k, u, p, rfl⟩ : ∃ (k : Fin 128) (u : Fin 32) (p : Fin 128), y = ix3 k u p := ⟨y 0, y 1, y 2, eq_ix3 y⟩
    refine (pointX m c (fed0 m ρ c t) k u p).trans ?_
    unfold tile0
    blk_ext [idx0 t]
  · blk_simp [Pipeline.Window.cell_apply]
    omega

theorem halfZ (i : S1024x98304.Idx) (hi : (i 1).val < 32768) : (data0 (E0 m ρ) c).arrAt 9 cfg0.N i = resZ m c i := by
  refine ((data0 (E0 m ρ) c).arrAt_apply_of_coversWhere 9 (resZ m c) (P := fun i : S1024x98304.Idx => (i 1).val < 32768) (fun β => β (1 : Fin _) < 64) (by decide +kernel)
    (fun t hf y => ?_) (fun j => ?_) i).trans (if_pos hi)
  · blk_simp
    rw [after0_9]
    obtain ⟨ch, l, rfl⟩ : ∃ (ch : Fin 1024) (l : Fin 512), y = ix2 ch l := ⟨y 0, y 1, eq_ix2 y⟩
    refine (pointZ m c (fed0 m ρ c t) ch l).trans ?_
    unfold tile0
    blk_ext [idx0 t]
  · blk_simp [Pipeline.Window.cell_apply]
    omega

theorem halfT (i : S1024x98304.Idx) (hi : (i 1).val < 32768) : (data0 (E0 m ρ) c).arrAt 10 cfg0.N i = resT m c i := by
  refine ((data0 (E0 m ρ) c).arrAt_apply_of_coversWhere 10 (resT m c) (P := fun i : S1024x98304.Idx => (i 1).val < 32768) (fun β => β (1 : Fin _) < 64) (by decide +kernel)
    (fun t hf y => ?_) (fun j => ?_) i).trans (if_pos hi)
  · blk_simp
    rw [after0_10]
    obtain ⟨ch, l, rfl⟩ : ∃ (ch : Fin 1024) (l : Fin 512), y = ix2 ch l := ⟨y 0, y 1, eq_ix2 y⟩
    refine (pointT m c (fed0 m ρ c t) ch l).trans ?_
    unfold tile0
    blk_ext [idx0 t]
  · blk_simp [Pipeline.Window.cell_apply]
    omega

/-! ## Call 1 -/

/-- The windows' index maps. -/
theorem idx1 : ∀ t : Fin cfg1.N, win1_0.index t = ![t.val % 4, t.val / 4, 0] ∧ win1_1.index t = ![0, 0] ∧ win1_2.index t = ![0, 0] ∧ win1_3.index t = ![0, 0]
    ∧ win1_4.index t = ![0, 0] ∧ win1_5.index t = ![0, 0, 0] ∧ win1_6.index t = ![0, 0, 0] ∧ win1_7.index t = ![0, 64 + t.val]
    ∧ win1_8.index t = ![0, 64 + t.val, 0] ∧ win1_9.index t = ![0, 64 + t.val] ∧ win1_10.index t = ![0, 64 + t.val] ∧ t.val < 128 :=
  (by decide +kernel : ∀ t : Fin grid1.N, _)
theorem pt1 (t : Fin cfg1.N) : t.val < 128 := (idx1 t).2.2.2.2.2.2.2.2.2.2.2

section

variable (V : (c : Dev nD) → (b : Ref sig .tc) → Buf (Elt Ideal) ((c : Thread nD τ).loc b))

theorem blk1_0 (t : Fin cfg1.N) (u : Fin 4) (q : Fin 128) (k : Fin 1024) : (show FVec Ideal S4x128x1024 .f32 from iblk1 V c 0 t) (ix3 u q k)
    = V c main_arg1 (ix3 (⟨4 * (t.val % 4) + u.val, by omega⟩ : Fin 16) (⟨128 * (t.val / 4) + q.val, by have := pt1 t; omega⟩ : Fin 4096) k) := by
  blk_ext [iblk1, idx1 t]
theorem blk1_1 (t : Fin cfg1.N) (k : Fin 1024) : (show FVec Ideal S1024x1 .f32 from iblk1 V c 1 t) (ix2 k (0 : Fin 1)) = V c main_v0 (ix2 k (0 : Fin 1)) := by
  blk_ext [iblk1, idx1 t]
theorem blk1_2 (t : Fin cfg1.N) (j : Fin 5120) (k : Fin 1024) : (show FVec Ideal S5120x1024 .bf16 from iblk1 V c 2 t) (ix2 j k) = V c main_v2 (ix2 j k) := by
  blk_ext [iblk1, idx1 t]
theorem blk1_3 (t : Fin cfg1.N) (k : Fin 1024) : (show FVec Ideal S1024x1 .f32 from iblk1 V c 3 t) (ix2 k (0 : Fin 1)) = V c main_v3 (ix2 k (0 : Fin 1)) := by
  blk_ext [iblk1, idx1 t]
theorem blk1_4 (t : Fin cfg1.N) (k : Fin 1024) : (show FVec Ideal S1024x1 .f32 from iblk1 V c 4 t) (ix2 k (0 : Fin 1)) = V c main_v4 (ix2 k (0 : Fin 1)) := by
  blk_ext [iblk1, idx1 t]
theorem blk1_5 (t : Fin cfg1.N) (e : Fin 2) (j k : Fin 256) : (show FVec Ideal S2x256x256 .bf16 from iblk1 V c 5 t) (ix3 e j k) = V c main_v22 (ix3 e j k) := by
  blk_ext [iblk1, idx1 t]
theorem blk1_6 (t : Fin cfg1.N) (e : Fin 2) (k : Fin 256) : (show FVec Ideal S2x1x256 .f32 from iblk1 V c 6 t) (ix3 e (0 : Fin 1) k) = V c main_v23 (ix3 e (0 : Fin 1) k) := by
  blk_ext [iblk1, idx1 t]

end

/-- The point's tile. -/
def tile1 (t : Fin cfg1.N) : Fin 192 := ⟨64 + t.val, by have := pt1 t; omega⟩

theorem fed1 (t : Fin cfg1.N) : Fed m c (tile1 t) (iblk1 (E1 m ρ) c 0 t) (iblk1 (E1 m ρ) c 1 t) (iblk1 (E1 m ρ) c 2 t) (iblk1 (E1 m ρ) c 3 t)
    (iblk1 (E1 m ρ) c 4 t) (iblk1 (E1 m ρ) c 5 t) (iblk1 (E1 m ρ) c 6 t) where
  hx u q k := by
    refine (blk1_0 c (E1 m ρ) t u q k).trans ((congrFun (same_6 m ρ c) _).trans ?_)
    rw [kX, chunkX_apply, dif_neg (show ¬ 4 * (tile1 t).val + u.val < 256 by dsimp only [tile1]; omega)]
    unfold kS
    refine congrArg (m ((c : Thread nD τ).loc main_arg1)) ((ix3_inj ..).2 ⟨Fin.ext ?_, Fin.ext ?_, rfl⟩)
    all_goals dsimp only [tile1]; omega
  hg k := (blk1_1 c (E1 m ρ) t k).trans ((congrFun (same_0 m ρ c) _).trans (opG m ρ c k))
  hw j k := (blk1_2 c (E1 m ρ) t j k).trans ((congrFun (same_1 m ρ c) _).trans (opW m ρ c j k))
  ha k := (blk1_3 c (E1 m ρ) t k).trans ((congrFun (same_2 m ρ c) _).trans (opLg m ρ c k))
  hb k := (blk1_4 c (E1 m ρ) t k).trans ((congrFun (same_3 m ρ c) _).trans (opLb m ρ c k))
  hs e i i' q p := (blk1_5 c (E1 m ρ) t e _ _).trans ((congrFun (same_4 m ρ c) _).trans (opWs m ρ c e i i' q p))
  hd e i p := (blk1_6 c (E1 m ρ) t e _).trans ((congrFun (same_5 m ρ c) _).trans (opBs m ρ c e i p))

theorem finalY : (data1 (E1 m ρ) c).arrAt 7 cfg1.N = resY m c := by
  refine (data1 (E1 m ρ) c).arrAt_eq_of_coversWhere_of_agree 7 (resY m c) (fun β => 64 ≤ β (1 : Fin _)) (by decide +kernel)
    (fun t hf y => ?_) (fun j hj => ?_)
  · blk_simp
    rw [after1_7]
    obtain ⟨ch, l, rfl⟩ : ∃ (ch : Fin 1024) (l : Fin 512), y = ix2 ch l := ⟨y 0, y 1, eq_ix2 y⟩
    refine (pointY m c (fed1 m ρ c t) ch l).trans ?_
    unfold tile1
    blk_ext [idx1 t]
  · refine (congrFun ((A_eq1 (E1 m ρ) c 7).trans (copy_0 m ρ c)) _).trans (halfY m ρ c _ ?_)
    blk_simp [Pipeline.Window.cell_apply] at hj
    blk_simp
    omega

theorem finalX : (data1 (E1 m ρ) c).arrAt 8 cfg1.N = resX m c := by
  refine (data1 (E1 m ρ) c).arrAt_eq_of_coversWhere_of_agree 8 (resX m c) (fun β => 64 ≤ β (1 : Fin _)) (by decide +kernel)
    (fun t hf y => ?_) (fun j hj => ?_)
  · blk_simp
    rw [after1_8]
    obtain ⟨k, u, p, rfl⟩ : ∃ (k : Fin 128) (u : Fin 32) (p : Fin 128), y = ix3 k u p := ⟨y 0, y 1, y 2, eq_ix3 y⟩
    refine (pointX m c (fed1 m ρ c t) k u p).trans ?_
    unfold tile1
    blk_ext [idx1 t]
  · refine (congrFun ((A_eq1 (E1 m ρ) c 8).trans (copy_1 m ρ c)) _).trans (halfX m ρ c _ ?_)
    blk_simp [Pipeline.Window.cell_apply] at hj
    blk_simp
    omega

theorem finalZ : (data1 (E1 m ρ) c).arrAt 9 cfg1.N = resZ m c := by
  refine (data1 (E1 m ρ) c).arrAt_eq_of_coversWhere_of_agree 9 (resZ m c) (fun β => 64 ≤ β (1 : Fin _)) (by decide +kernel)
    (fun t hf y => ?_) (fun j hj => ?_)
  · blk_simp
    rw [after1_9]
    obtain ⟨ch, l, rfl⟩ : ∃ (ch : Fin 1024) (l : Fin 512), y = ix2 ch l := ⟨y 0, y 1, eq_ix2 y⟩
    refine (pointZ m c (fed1 m ρ c t) ch l).trans ?_
    unfold tile1
    blk_ext [idx1 t]
  · refine (congrFun ((A_eq1 (E1 m ρ) c 9).trans (copy_2 m ρ c)) _).trans (halfZ m ρ c _ ?_)
    blk_simp [Pipeline.Window.cell_apply] at hj
    blk_simp
    omega

theorem finalT : (data1 (E1 m ρ) c).arrAt 10 cfg1.N = resT m c := by
  refine (data1 (E1 m ρ) c).arrAt_eq_of_coversWhere_of_agree 10 (resT m c) (fun β => 64 ≤ β (1 : Fin _)) (by decide +kernel)
    (fun t hf y => ?_) (fun j hj => ?_)
  · blk_simp
    rw [after1_10]
    obtain ⟨ch, l, rfl⟩ : ∃ (ch : Fin 1024) (l : Fin 512), y = ix2 ch l := ⟨y 0, y 1, eq_ix2 y⟩
    refine (pointT m c (fed1 m ρ c t) ch l).trans ?_
    unfold tile1
    blk_ext [idx1 t]
  · refine (congrFun ((A_eq1 (E1 m ρ) c 10).trans (copy_3 m ρ c)) _).trans (halfT m ρ c _ ?_)
    blk_simp [Pipeline.Window.cell_apply] at hj
    blk_simp
    omega

end Cert.First
-- ==== Proof.FirstRef.lean ====
module

public import proofs.«01_k».proof.Proof.Gen.Reference5Ideal.Run
public import proofs.«01_k».proof.Proof.MixRef
public import Idealize.ShloMosaic.Lib.Claim
public import Idealize.ShloMosaic.Lib.Tactic.CleanTypes

@[expose] public section

set_option maxRecDepth 16384
noncomputable section
open Idealize.ShloMosaic Idealize.ShloMosaic.TcCoe Idealize.SL.Sem
open Cert.Reference5Ideal Cert.Reference5Ideal.Gen Cert.Reference5Ideal.Value
open Cert.Mix (proj rms rstd mean gelu gelu_cube chunkX ya mixed vrow lnorm silu chunkX_row chunkX_self rows_at tile_rows)
namespace Cert.First

variable (V0 : Valuation τ sig (Elt Ideal))

/-! The reference of the first layer's calls is the one of the second layer's first call, with the sequences themselves
    as a fourth result. -/

/-- Its arguments, as plain functions. -/
def refP (n : Fin 16) (l : Fin 2048) (d : Fin 1024) : EReal := V0 (Proc.devRef .tc main_arg0) (ix3 n l d)
def refS (n : Fin 16) (l : Fin 4096) (d : Fin 1024) : EReal := V0 (Proc.devRef .tc main_arg1) (ix3 n l d)
def refG (d : Fin 1024) : EReal := V0 (Proc.devRef .tc main_arg2) (ix1 d)
def refW (d : Fin 1024) (j : Fin 5120) : EReal := V0 (Proc.devRef .tc main_arg3) (ix2 d j)
def refLg (d : Fin 1024) : EReal := V0 (Proc.devRef .tc main_arg4) (ix1 d)
def refLb (d : Fin 1024) : EReal := V0 (Proc.devRef .tc main_arg5) (ix1 d)
def refWs (h : Fin 4) (p q : Fin 128) : EReal := V0 (Proc.devRef .tc main_arg6) (ix3 h p q)
def refBs (h : Fin 4) (p : Fin 128) : EReal := V0 (Proc.devRef .tc main_arg7) (ix2 h p)

/-- The projection of the prompt, -/
theorem proj_prompt (n : Fin 16) (l : Fin 2048) (j : Fin 5120) :
    res_main_v13 V0 (ix3 n l j) = proj (refP V0 n l) (refG V0) (refW V0) j := by
  unfold res_main_v13
  clean_types
  pointwise [proj, rms, rstd, mean, refP, refG, refW]

/-- and of the sample. -/
theorem proj_sample (n : Fin 16) (l : Fin 4096) (j : Fin 5120) :
    res_main_v92 V0 (ix3 n l j) = proj (refS V0 n l) (refG V0) (refW V0) j := by
  unfold res_main_v92
  clean_types
  pointwise [proj, rms, rstd, mean, refS, refG, refW]

/-- gelu of the prompt's second quarter. -/
theorem gelu_prompt (n : Fin 16) (l : Fin 2048) (k : Fin 1024) :
    res_main_v44 V0 (ix3 n l k) = gelu (proj (refP V0 n l) (refG V0) (refW V0) ⟨1024 + k.val, by omega⟩) := by
  unfold res_main_v44 res_main_v15
  clean_types
  pointwise [proj_prompt]
  exact gelu_cube _

/-- The sample's. -/
theorem gelu_sample (n : Fin 16) (l : Fin 4096) (k : Fin 1024) :
    res_main_v123 V0 (ix3 n l k) = gelu (proj (refS V0 n l) (refG V0) (refW V0) ⟨1024 + k.val, by omega⟩) := by
  unfold res_main_v123 res_main_v94
  clean_types
  pointwise [proj_sample]
  exact gelu_cube _

/-- The prompt's centred row. -/
theorem centre_prompt (n : Fin 16) (l : Fin 2048) (k : Fin 1024) :
    res_main_v50 V0 (ix3 n l k) = gelu (proj (refP V0 n l) (refG V0) (refW V0) ⟨1024 + k.val, by omega⟩)
      - mean (fun k => gelu (proj (refP V0 n l) (refG V0) (refW V0) ⟨1024 + k.val, by omega⟩)) := by
  unfold res_main_v50
  clean_types
  pointwise [gelu_prompt, mean]

/-- The sample's. -/
theorem centre_sample (n : Fin 16) (l : Fin 4096) (k : Fin 1024) :
    res_main_v129 V0 (ix3 n l k) = gelu (proj (refS V0 n l) (refG V0) (refW V0) ⟨1024 + k.val, by omega⟩)
      - mean (fun k => gelu (proj (refS V0 n l) (refG V0) (refW V0) ⟨1024 + k.val, by omega⟩)) := by
  unfold res_main_v129
  clean_types
  pointwise [gelu_sample, mean]

/-- The chunk that column `r` belongs to, of the reference's arguments. -/
abbrev refX (c : Fin 768) (q : Fin 128) : Fin 1024 → EReal := chunkX (refP V0) (refS V0) c q

set_option maxRecDepth 200000 in
/-- The reference's first result before its last transpose. -/
theorem ya_ref (r : Fin 98304) (ch : Fin 1024) :
    res_main_v164 V0 (ix2 r ch) = ya (refX V0 ⟨r.val / 128, by omega⟩) (refG V0) (refW V0) (refLg V0) (refLb V0) (refWs V0) (refBs V0) ⟨r.val % 128, by omega⟩ ch := by
  unfold res_main_v164
  clean_types
  refine (rows_at _ _ r ch).trans ?_
  split_ifs with h
  · pointwise [res_main_v14, res_main_v16, proj_prompt, centre_prompt]
    have e1 : (r.val / 2048 * 128 + r.val % 128) / 128 = r.val / 2048 := by omega
    have e2 : (r.val / 2048 * 128 + r.val % 128) % 128 = r.val % 128 := by omega
    simp only [gelu_cube, refX, ya, mixed, vrow, lnorm, rstd, mean, silu, chunkX_self, chunkX_row, dif_pos h, e1, e2, refLg, refLb, refWs, refBs]
  · pointwise [res_main_v93, res_main_v95, proj_sample, centre_sample]
    have e1 : ((r.val - 32768) / 2048 * 128 + r.val % 128) / 128 = (r.val - 32768) / 2048 := by omega
    have e2 : ((r.val - 32768) / 2048 * 128 + r.val % 128) % 128 = r.val % 128 := by omega
    simp only [gelu_cube, refX, ya, mixed, vrow, lnorm, rstd, mean, silu, chunkX_self, chunkX_row, dif_neg h, e1, e2, refLg, refLb, refWs, refBs]

/-- A function of a position's own row, laid out by rows. -/
theorem own_ref (f : (Fin 1024 → EReal) → EReal) (r : Fin 98304) (ch : Fin 1024) (y0 : FVec Ideal S16x2048x1024 .f32) (y1 : FVec Ideal S16x4096x1024 .f32)
    (h0 : ∀ n l, y0 (ix3 n l ch) = f (refP V0 n l)) (h1 : ∀ n l, y1 (ix3 n l ch) = f (refS V0 n l)) :
    (if h : r.val < 32768 then y0 (ix3 ⟨r.val / 128 % 16, by omega⟩ ⟨r.val / 2048 * 128 + r.val % 128, by omega⟩ ch)
      else y1 (ix3 ⟨(r.val - 32768) / 128 % 16, by omega⟩ ⟨(r.val - 32768) / 2048 * 128 + r.val % 128, by omega⟩ ch))
    = f (refX V0 ⟨r.val / 128, by omega⟩ ⟨r.val % 128, by omega⟩) := by
  simp only [refX, chunkX_self]
  split_ifs with h
  · exact h0 _ _
  · exact h1 _ _

/-- The first result of the reference. -/
theorem refY_at (ch : Fin 1024) (r : Fin 98304) :
    (truncf .bf16 (transpose S1024x98304 [1, 0] (res_main_v164 V0) transposes_S98304x1024_S1024x98304_1_0) bitsLt_bf16_f32) (ix2 ch r)
    = ya (refX V0 ⟨r.val / 128, by omega⟩) (refG V0) (refW V0) (refLg V0) (refLb V0) (refWs V0) (refBs V0) ⟨r.val % 128, by omega⟩ ch := by
  refine Eq.trans ?_ (ya_ref V0 r ch)
  pointwise

/-- The second result of the reference. -/
theorem refT_at (g : Fin 128) (u : Fin 6144) (p : Fin 128) :
    (shapeCast S128x6144x128 (transpose S128x768x8x128 [0, 2, 1, 3] (shapeCast _ (transpose S1024x98304 [1, 0] (concatenate S98304x1024 0 [⟨S32768x1024, (shapeCast _ (transpose S16x16x128x1024 [1, 0, 2, 3] (shapeCast _ (extractStridedSlice S16x2048x1024 ![0, 0, 3072] (res_main_v13 V0) slices_S16x2048x5120_S16x2048x1024_0_0_3072) shapeCasts_S16x2048x1024_S16x16x128x1024) transposes_S16x16x128x1024_S16x16x128x1024_1_0_2_3) shapeCasts_S16x16x128x1024_S32768x1024)⟩, ⟨S65536x1024, (shapeCast _ (transpose S32x16x128x1024 [1, 0, 2, 3] (shapeCast _ (extractStridedSlice S16x4096x1024 ![0, 0, 3072] (res_main_v92 V0) slices_S16x4096x5120_S16x4096x1024_0_0_3072) shapeCasts_S16x4096x1024_S16x32x128x1024) transposes_S16x32x128x1024_S32x16x128x1024_1_0_2_3) shapeCasts_S32x16x128x1024_S65536x1024)⟩] concatenates_S32768x1024_S65536x1024_S98304x1024_d0) transposes_S98304x1024_S1024x98304_1_0) shapeCasts_S1024x98304_S128x8x768x128) transposes_S128x8x768x128_S128x768x8x128_0_2_1_3) shapeCasts_S128x768x8x128_S128x6144x128) (ix3 g u p)
    = proj (refX V0 ⟨u.val / 8, by omega⟩ p) (refG V0) (refW V0) ⟨3072 + (8 * g.val + u.val % 8), by omega⟩ := by
  refine (tile_rows _ g u p).trans ((rows_at _ _ _ _).trans ?_)
  refine (own_ref V0 (fun x => proj x (refG V0) (refW V0) ⟨3072 + (8 * g.val + u.val % 8), by omega⟩) _ _ _ _ ?_ ?_).trans ?_
  · intro n l
    pointwise [proj_prompt]
  · intro n l
    pointwise [proj_sample]
  · have e1 : (128 * (u.val / 8) + p.val) / 128 = u.val / 8 := by omega
    have e2 : (128 * (u.val / 8) + p.val) % 128 = p.val := by omega
    simp only [e1, e2]

/-- The third result of the reference. -/
theorem refZ_at (ch : Fin 1024) (r : Fin 98304) :
    (transpose S1024x98304 [1, 0] (concatenate S98304x1024 0 [⟨S32768x1024, (shapeCast _ (transpose S16x16x128x1024 [1, 0, 2, 3] (shapeCast _ (mulf (res_main_v18 V0) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (res_main_v18 V0)))))) shapeCasts_S16x2048x1024_S16x16x128x1024) transposes_S16x16x128x1024_S16x16x128x1024_1_0_2_3) shapeCasts_S16x16x128x1024_S32768x1024)⟩, ⟨S65536x1024, (shapeCast _ (transpose S32x16x128x1024 [1, 0, 2, 3] (shapeCast _ (mulf (res_main_v97 V0) (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (res_main_v97 V0)))))) shapeCasts_S16x4096x1024_S16x32x128x1024) transposes_S16x32x128x1024_S32x16x128x1024_1_0_2_3) shapeCasts_S32x16x128x1024_S65536x1024)⟩] concatenates_S32768x1024_S65536x1024_S98304x1024_d0) transposes_S98304x1024_S1024x98304_1_0) (ix2 ch r)
    = silu (proj (refX V0 ⟨r.val / 128, by omega⟩ ⟨r.val % 128, by omega⟩) (refG V0) (refW V0) ⟨4096 + ch.val, by omega⟩) := by
  refine Eq.trans (transpose_apply _ _ _ _ (ix2 r ch) fun b => ?_) ((rows_at _ _ r ch).trans ?_)
  · match b with
    | ⟨0, _⟩ => rfl
    | ⟨1, _⟩ => rfl
  refine own_ref V0 (fun x => silu (proj x (refG V0) (refW V0) ⟨4096 + ch.val, by omega⟩)) _ _ _ _ ?_ ?_
  · intro n l
    pointwise [res_main_v18, proj_prompt, silu]
  · intro n l
    pointwise [res_main_v97, proj_sample, silu]

/-- The fourth result of the reference: the positions' own rows, one column to a position. -/
theorem refC_at (ch : Fin 1024) (r : Fin 98304) :
    (transpose S1024x98304 [1, 0] (concatenate S98304x1024 0 [⟨S32768x1024, (shapeCast _ (transpose S16x16x128x1024 [1, 0, 2, 3] (shapeCast _ (V0 (Proc.devRef .tc main_arg0)) shapeCasts_S16x2048x1024_S16x16x128x1024) transposes_S16x16x128x1024_S16x16x128x1024_1_0_2_3) shapeCasts_S16x16x128x1024_S32768x1024)⟩, ⟨S65536x1024, (shapeCast _ (transpose S32x16x128x1024 [1, 0, 2, 3] (shapeCast _ (V0 (Proc.devRef .tc main_arg1)) shapeCasts_S16x4096x1024_S16x32x128x1024) transposes_S16x32x128x1024_S32x16x128x1024_1_0_2_3) shapeCasts_S32x16x128x1024_S65536x1024)⟩] concatenates_S32768x1024_S65536x1024_S98304x1024_d0) transposes_S98304x1024_S1024x98304_1_0) (ix2 ch r)
    = refX V0 ⟨r.val / 128, by omega⟩ ⟨r.val % 128, by omega⟩ ch := by
  refine Eq.trans (transpose_apply _ _ _ _ (ix2 r ch) fun b => ?_) ((rows_at _ _ r ch).trans ?_)
  · match b with
    | ⟨0, _⟩ => rfl
    | ⟨1, _⟩ => rfl
  exact own_ref V0 (fun x => x ch) _ _ _ _ (fun n l => rfl) (fun n l => rfl)

end Cert.First
-- ==== Proof.FirstClaim.lean ====
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.FirstRun
public import proofs.«01_k».proof.Proof.FirstValue
public import proofs.«01_k».proof.Proof.FirstRef
public import Idealize.ShloMosaic.Lib.Claim
public import Idealize.ShloMosaic.Lib.Tactic

/-! The claims about the first layer's first two calls. -/

@[expose] public section

set_option maxRecDepth 16384

noncomputable section

namespace Cert.First

open Idealize.ShloMosaic Idealize.ShloMosaic.TcCoe Idealize.SL.Sem
open Idealize.ShloMosaic.StableHlo (launchContents)

instance : Cert.Kernel5.Facts := Cert.Kernel5.Gen.facts
instance : Cert.Kernel5Ideal.Facts := Cert.Kernel5Ideal.Gen.facts
instance : Cert.Reference5Ideal.Facts := Cert.Reference5Ideal.Gen.facts

/-- The kernel runs, leaves its arguments as they were and every counter at zero, -/
theorem frameK5 : Cert.quiescent_Kernel5 := by
  intro m ρ _
  have h := (θ_run Cert.Kernel5Ideal.defs _ _).mono (fun _ h => h.1) (run_kept (F := Bits) m ρ)
  refine Eq.mp ?_ h
  sl_kernel_rfl

/-- its idealization too, -/
theorem frameKI5 : Cert.quiescent_Kernel5Ideal := fun m ρ _ =>
  (θ_run Cert.Kernel5Ideal.defs _ _).mono (fun _ h => h.1) (run_kept (F := Ideal) m ρ)

/-- and the reference too. -/
theorem frameRI5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

section Value

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The two memories hold the same arguments. -/
abbrev Agree : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
  ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
  ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
  ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
  ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
  ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)

variable (h : Agree m m' c)
include h

theorem eqP : refP (launchContents m' c) = kP m c := funext fun n => funext fun l => funext fun d => congrFun h.1 (ix3 n l d)
theorem eqS : refS (launchContents m' c) = kS m c := funext fun n => funext fun l => funext fun d => congrFun h.2.1 (ix3 n l d)
theorem eqG : refG (launchContents m' c) = kG m c := funext fun d => congrFun h.2.2.1 (ix1 d)
theorem eqW : refW (launchContents m' c) = kW m c := funext fun d => funext fun j => congrFun h.2.2.2.1 (ix2 d j)
theorem eqLg : refLg (launchContents m' c) = kLg m c := funext fun d => congrFun h.2.2.2.2.1 (ix1 d)
theorem eqLb : refLb (launchContents m' c) = kLb m c := funext fun d => congrFun h.2.2.2.2.2.1 (ix1 d)
theorem eqWs : refWs (launchContents m' c) = kWs m c := funext fun k => funext fun p => funext fun q => congrFun h.2.2.2.2.2.2.1 (ix3 k p q)
theorem eqBs : refBs (launchContents m' c) = kBs m c := funext fun k => funext fun p => congrFun h.2.2.2.2.2.2.2 (ix2 k p)
theorem eqX : refX (launchContents m' c) = kX m c := by unfold refX kX; rw [eqP m m' c h, eqS m m' c h]

end Value

/-- The kernel's four results are the reference's, as extended reals. -/
theorem algebraic5 : Cert.algebraic_Kernel5Ideal_Reference5Ideal := by
  intro m g m' g' _ hagree
  refine ⟨fun c => resY m c, fun c => resX m c, fun c => resZ m c, fun c => resT m c, ?_, ?_⟩
  · refine (θ_run Cert.Kernel5Ideal.defs _ _).mono (fun r h c => ?_) (run_kept (F := Ideal) m g)
    obtain ⟨⟨ha, -⟩, hv⟩ := h
    obtain ⟨h0, h1, h2, h3⟩ := hv c
    exact ⟨h0.trans (finalY m g c), h1.trans (finalX m g c), h2.trans (finalZ m g c), h3.trans (finalT m g c), ha c⟩
  · refine (θ_run Cert.Reference5Ideal.defs _ _).mono (fun r h c => ?_) (Cert.Reference5Ideal.Value.run (F := Ideal) m' g')
    obtain ⟨h0, h1, h2, h3, ha⟩ := h c
    have e := hagree c
    refine ⟨h0.trans (funext fun i => ?_), h1.trans (funext fun i => ?_), h2.trans (funext fun i => ?_), h3.trans (funext fun i => ?_), ha⟩
    · obtain ⟨ch, r, rfl⟩ : ∃ (ch : Fin 1024) (r : Fin 98304), i = ix2 ch r := ⟨i 0, i 1, eq_ix2 i⟩
      refine (refY_at _ ch r).trans ?_
      rw [eqX m m' c e, eqG m m' c e, eqW m m' c e, eqLg m m' c e, eqLb m m' c e, eqWs m m' c e, eqBs m m' c e]
      rfl
    · obtain ⟨k, u, p, rfl⟩ : ∃ (k : Fin 128) (u : Fin 6144) (p : Fin 128), i = ix3 k u p := ⟨i 0, i 1, i 2, eq_ix3 i⟩
      refine (refT_at _ k u p).trans ?_
      rw [eqX m m' c e, eqG m m' c e, eqW m m' c e]
      rfl
    · obtain ⟨ch, r, rfl⟩ : ∃ (ch : Fin 1024) (r : Fin 98304), i = ix2 ch r := ⟨i 0, i 1, eq_ix2 i⟩
      refine (refZ_at _ ch r).trans ?_
      rw [eqX m m' c e, eqG m m' c e, eqW m m' c e]
      rfl
    · obtain ⟨ch, r, rfl⟩ : ∃ (ch : Fin 1024) (r : Fin 98304), i = ix2 ch r := ⟨i 0, i 1, eq_ix2 i⟩
      refine (refC_at _ ch r).trans ?_
      rw [eqX m m' c e]
      rfl

end Cert.First

end
-- ==== Proof.lean ====
module

public import proofs.«01_k».proof.Defs
public import proofs.«01_k».proof.Proof.MixClaim
public import proofs.«01_k».proof.Proof.OutClaim
public import proofs.«01_k».proof.Proof.FirstClaim
public import Idealize.ShloMosaic.Adequacy
public import Idealize.ShloMosaic.Init

@[expose] public section

noncomputable section

namespace Cert.Proof

open Idealize.ShloMosaic Idealize.SL.Sem Cert.Kernel

/-- Every claim of this directory. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Mix.frameK, Cert.Mix.frameKI, Cert.Mix.frameRI, Cert.Out.frameK2, Cert.Out.frameKI2, Cert.Out.frameRI2,
  Cert.Out.frameK3, Cert.Out.frameKI3, Cert.Out.frameRI3,
  Cert.Out.frameK4, Cert.Out.frameKI4, Cert.Out.frameRI4,
  Cert.First.frameK5, Cert.First.frameKI5, Cert.First.frameRI5, trivial, Cert.Mix.algebraic, trivial, Cert.Out.algebraic2,
  trivial, Cert.Out.algebraic3, trivial, Cert.Out.algebraic4, trivial, Cert.First.algebraic5⟩

end Cert.Proof

end
